-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Residual (m : (ℓ : Loc Cert.Residual.nD Cert.Residual.τ Cert.Residual.sig) → Buf (Elt Bits) ℓ) : Prop :=
  True

def Pre_ResidualIdeal (m : (ℓ : Loc Cert.ResidualIdeal.nD Cert.ResidualIdeal.τ Cert.ResidualIdeal.sig) → Buf (Elt Ideal) ℓ) : Prop :=
  True

def Pre_ResidualReferenceIdeal (m : (ℓ : Loc Cert.ResidualReferenceIdeal.nD Cert.ResidualReferenceIdeal.τ Cert.ResidualReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Residual [hResidual : Cert.Residual.Facts] : Prop :=
  ∀ (m : (ℓ : Loc Cert.Residual.nD Cert.Residual.τ Cert.Residual.sig) → Buf (Elt Bits) ℓ) (g : Dev Cert.Residual.nD → PrngReg), Pre_Residual m →
    θ_run (Cert.Residual.defs (F := Bits)) (onTc (τ := Cert.Residual.τ) (Cert.Residual.main (F := Bits))) ⟨m, fun _ => 0, g⟩ (fun r => (∀ c : Dev Cert.Residual.nD,
      r.2.mem ((c.tc : Thread Cert.Residual.nD Cert.Residual.τ).loc Cert.Residual.main_arg0) = m ((c.tc : Thread Cert.Residual.nD Cert.Residual.τ).loc Cert.Residual.main_arg0)
      ∧ r.2.mem ((c.tc : Thread Cert.Residual.nD Cert.Residual.τ).loc Cert.Residual.main_arg1) = m ((c.tc : Thread Cert.Residual.nD Cert.Residual.τ).loc Cert.Residual.main_arg1)
      ∧ r.2.mem ((c.tc : Thread Cert.Residual.nD Cert.Residual.τ).loc Cert.Residual.main_arg2) = m ((c.tc : Thread Cert.Residual.nD Cert.Residual.τ).loc Cert.Residual.main_arg2)
      ∧ r.2.mem ((c.tc : Thread Cert.Residual.nD Cert.Residual.τ).loc Cert.Residual.main_arg3) = m ((c.tc : Thread Cert.Residual.nD Cert.Residual.τ).loc Cert.Residual.main_arg3))
      ∧ r.2.sem = fun _ => 0)

def quiescent_ResidualIdeal [hResidualIdeal : Cert.ResidualIdeal.Facts] : Prop :=
  ∀ (m : (ℓ : Loc Cert.ResidualIdeal.nD Cert.ResidualIdeal.τ Cert.ResidualIdeal.sig) → Buf (Elt Ideal) ℓ) (g : Dev Cert.ResidualIdeal.nD → PrngReg), Pre_ResidualIdeal m →
    θ_run (Cert.ResidualIdeal.defs (F := Ideal)) (onTc (τ := Cert.ResidualIdeal.τ) (Cert.ResidualIdeal.main (F := Ideal))) ⟨m, fun _ => 0, g⟩ (fun r => (∀ c : Dev Cert.ResidualIdeal.nD,
      r.2.mem ((c.tc : Thread Cert.ResidualIdeal.nD Cert.ResidualIdeal.τ).loc Cert.ResidualIdeal.main_arg0) = m ((c.tc : Thread Cert.ResidualIdeal.nD Cert.ResidualIdeal.τ).loc Cert.ResidualIdeal.main_arg0)
      ∧ r.2.mem ((c.tc : Thread Cert.ResidualIdeal.nD Cert.ResidualIdeal.τ).loc Cert.ResidualIdeal.main_arg1) = m ((c.tc : Thread Cert.ResidualIdeal.nD Cert.ResidualIdeal.τ).loc Cert.ResidualIdeal.main_arg1)
      ∧ r.2.mem ((c.tc : Thread Cert.ResidualIdeal.nD Cert.ResidualIdeal.τ).loc Cert.ResidualIdeal.main_arg2) = m ((c.tc : Thread Cert.ResidualIdeal.nD Cert.ResidualIdeal.τ).loc Cert.ResidualIdeal.main_arg2)
      ∧ r.2.mem ((c.tc : Thread Cert.ResidualIdeal.nD Cert.ResidualIdeal.τ).loc Cert.ResidualIdeal.main_arg3) = m ((c.tc : Thread Cert.ResidualIdeal.nD Cert.ResidualIdeal.τ).loc Cert.ResidualIdeal.main_arg3))
      ∧ r.2.sem = fun _ => 0)

def quiescent_ResidualReferenceIdeal [hResidualReferenceIdeal : Cert.ResidualReferenceIdeal.Facts] : Prop :=
  ∀ (m : (ℓ : Loc Cert.ResidualReferenceIdeal.nD Cert.ResidualReferenceIdeal.τ Cert.ResidualReferenceIdeal.sig) → Buf (Elt Ideal) ℓ) (g : Dev Cert.ResidualReferenceIdeal.nD → PrngReg), Pre_ResidualReferenceIdeal m →
    θ_run (Cert.ResidualReferenceIdeal.defs (F := Ideal)) (onTc (τ := Cert.ResidualReferenceIdeal.τ) (Cert.ResidualReferenceIdeal.main (F := Ideal))) ⟨m, fun _ => 0, g⟩ (fun r => (∀ c : Dev Cert.ResidualReferenceIdeal.nD,
      r.2.mem ((c.tc : Thread Cert.ResidualReferenceIdeal.nD Cert.ResidualReferenceIdeal.τ).loc Cert.ResidualReferenceIdeal.main_arg0) = m ((c.tc : Thread Cert.ResidualReferenceIdeal.nD Cert.ResidualReferenceIdeal.τ).loc Cert.ResidualReferenceIdeal.main_arg0)
      ∧ r.2.mem ((c.tc : Thread Cert.ResidualReferenceIdeal.nD Cert.ResidualReferenceIdeal.τ).loc Cert.ResidualReferenceIdeal.main_arg1) = m ((c.tc : Thread Cert.ResidualReferenceIdeal.nD Cert.ResidualReferenceIdeal.τ).loc Cert.ResidualReferenceIdeal.main_arg1)
      ∧ r.2.mem ((c.tc : Thread Cert.ResidualReferenceIdeal.nD Cert.ResidualReferenceIdeal.τ).loc Cert.ResidualReferenceIdeal.main_arg2) = m ((c.tc : Thread Cert.ResidualReferenceIdeal.nD Cert.ResidualReferenceIdeal.τ).loc Cert.ResidualReferenceIdeal.main_arg2)
      ∧ r.2.mem ((c.tc : Thread Cert.ResidualReferenceIdeal.nD Cert.ResidualReferenceIdeal.τ).loc Cert.ResidualReferenceIdeal.main_arg3) = m ((c.tc : Thread Cert.ResidualReferenceIdeal.nD Cert.ResidualReferenceIdeal.τ).loc Cert.ResidualReferenceIdeal.main_arg3))
      ∧ r.2.sem = fun _ => 0)

def preserves_Kernel_KernelIdeal : Prop :=
  True

def algebraic_KernelIdeal_ReferenceIdeal_on_ids_in_range [hKernelIdeal : Cert.KernelIdeal.Facts] [hReferenceIdeal : Cert.ReferenceIdeal.Facts] [hOn_ids_in_range : Cert.On_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![3, 128]⟩ : Shape).Idx, (Cert.On_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.KernelIdeal.nD Cert.KernelIdeal.τ).loc Cert.KernelIdeal.main_v5_0) i = v0 c i)
          ∧ (∀ i : (⟨2, ![3, 128]⟩ : Shape).Idx, (Cert.On_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.KernelIdeal.nD Cert.KernelIdeal.τ).loc Cert.KernelIdeal.main_v5_1) i = v1 c i)
          ∧ (∀ i : (⟨3, ![3, 8, 128]⟩ : Shape).Idx, (Cert.On_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 i = 1#1 → r.2.mem ((c.tc : Thread Cert.KernelIdeal.nD Cert.KernelIdeal.τ).loc Cert.KernelIdeal.main_v5_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![3, 128]⟩ : Shape).Idx, (Cert.On_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.ReferenceIdeal.nD Cert.ReferenceIdeal.τ).loc Cert.ReferenceIdeal.main_v15) i = v0 c i)
          ∧ (∀ i : (⟨2, ![3, 128]⟩ : Shape).Idx, (Cert.On_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.ReferenceIdeal.nD Cert.ReferenceIdeal.τ).loc Cert.ReferenceIdeal.main_v8) i = v1 c i)
          ∧ (∀ i : (⟨3, ![3, 8, 128]⟩ : Shape).Idx, (Cert.On_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 i = 1#1 → r.2.mem ((c.tc : Thread Cert.ReferenceIdeal.nD Cert.ReferenceIdeal.τ).loc Cert.ReferenceIdeal.main_v19) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Residual_ResidualIdeal : Prop :=
  True

def algebraic_ResidualIdeal_ResidualReferenceIdeal [hResidualIdeal : Cert.ResidualIdeal.Facts] [hResidualReferenceIdeal : Cert.ResidualReferenceIdeal.Facts] : Prop :=
  ∀ (m : (ℓ : Loc Cert.ResidualIdeal.nD Cert.ResidualIdeal.τ Cert.ResidualIdeal.sig) → Buf (Elt Ideal) ℓ) (g : Dev Cert.ResidualIdeal.nD → PrngReg)
    (m' : (ℓ : Loc Cert.ResidualReferenceIdeal.nD Cert.ResidualReferenceIdeal.τ Cert.ResidualReferenceIdeal.sig) → Buf (Elt Ideal) ℓ) (g' : Dev Cert.ResidualReferenceIdeal.nD → PrngReg), Pre_ResidualIdeal m →
    (∀ c : Dev Cert.ResidualIdeal.nD,
      m' ((c.tc : Thread Cert.ResidualReferenceIdeal.nD Cert.ResidualReferenceIdeal.τ).loc Cert.ResidualReferenceIdeal.main_arg0) = m ((c.tc : Thread Cert.ResidualIdeal.nD Cert.ResidualIdeal.τ).loc Cert.ResidualIdeal.main_arg0)
      ∧ m' ((c.tc : Thread Cert.ResidualReferenceIdeal.nD Cert.ResidualReferenceIdeal.τ).loc Cert.ResidualReferenceIdeal.main_arg1) = m ((c.tc : Thread Cert.ResidualIdeal.nD Cert.ResidualIdeal.τ).loc Cert.ResidualIdeal.main_arg1)
      ∧ m' ((c.tc : Thread Cert.ResidualReferenceIdeal.nD Cert.ResidualReferenceIdeal.τ).loc Cert.ResidualReferenceIdeal.main_arg2) = m ((c.tc : Thread Cert.ResidualIdeal.nD Cert.ResidualIdeal.τ).loc Cert.ResidualIdeal.main_arg2)
      ∧ m' ((c.tc : Thread Cert.ResidualReferenceIdeal.nD Cert.ResidualReferenceIdeal.τ).loc Cert.ResidualReferenceIdeal.main_arg3) = m ((c.tc : Thread Cert.ResidualIdeal.nD Cert.ResidualIdeal.τ).loc Cert.ResidualIdeal.main_arg3)) →
    ∃ (v0 : (c : Dev Cert.ResidualIdeal.nD) → Buf (Elt Ideal) ((c.tc : Thread Cert.ResidualIdeal.nD Cert.ResidualIdeal.τ).loc Cert.ResidualIdeal.main_v0_0)) (v1 : (c : Dev Cert.ResidualIdeal.nD) → Buf (Elt Ideal) ((c.tc : Thread Cert.ResidualIdeal.nD Cert.ResidualIdeal.τ).loc Cert.ResidualIdeal.main_v0_1)) (v2 : (c : Dev Cert.ResidualIdeal.nD) → Buf (Elt Ideal) ((c.tc : Thread Cert.ResidualIdeal.nD Cert.ResidualIdeal.τ).loc Cert.ResidualIdeal.main_v0_2)) (v3 : (c : Dev Cert.ResidualIdeal.nD) → Buf (Elt Ideal) ((c.tc : Thread Cert.ResidualIdeal.nD Cert.ResidualIdeal.τ).loc Cert.ResidualIdeal.main_v0_3)) (v4 : (c : Dev Cert.ResidualIdeal.nD) → Buf (Elt Ideal) ((c.tc : Thread Cert.ResidualIdeal.nD Cert.ResidualIdeal.τ).loc Cert.ResidualIdeal.main_v0_4)),
      θ_run (Cert.ResidualIdeal.defs (F := Ideal)) (onTc (τ := Cert.ResidualIdeal.τ) (Cert.ResidualIdeal.main (F := Ideal))) ⟨m, fun _ => 0, g⟩ (fun r => ∀ c : Dev Cert.ResidualIdeal.nD,
          r.2.mem ((c.tc : Thread Cert.ResidualIdeal.nD Cert.ResidualIdeal.τ).loc Cert.ResidualIdeal.main_v0_0) = v0 c
          ∧ r.2.mem ((c.tc : Thread Cert.ResidualIdeal.nD Cert.ResidualIdeal.τ).loc Cert.ResidualIdeal.main_v0_1) = v1 c
          ∧ r.2.mem ((c.tc : Thread Cert.ResidualIdeal.nD Cert.ResidualIdeal.τ).loc Cert.ResidualIdeal.main_v0_2) = v2 c
          ∧ r.2.mem ((c.tc : Thread Cert.ResidualIdeal.nD Cert.ResidualIdeal.τ).loc Cert.ResidualIdeal.main_v0_3) = v3 c
          ∧ r.2.mem ((c.tc : Thread Cert.ResidualIdeal.nD Cert.ResidualIdeal.τ).loc Cert.ResidualIdeal.main_v0_4) = v4 c
          ∧ r.2.mem ((c.tc : Thread Cert.ResidualIdeal.nD Cert.ResidualIdeal.τ).loc Cert.ResidualIdeal.main_arg0) = m ((c.tc : Thread Cert.ResidualIdeal.nD Cert.ResidualIdeal.τ).loc Cert.ResidualIdeal.main_arg0)
          ∧ r.2.mem ((c.tc : Thread Cert.ResidualIdeal.nD Cert.ResidualIdeal.τ).loc Cert.ResidualIdeal.main_arg1) = m ((c.tc : Thread Cert.ResidualIdeal.nD Cert.ResidualIdeal.τ).loc Cert.ResidualIdeal.main_arg1)
          ∧ r.2.mem ((c.tc : Thread Cert.ResidualIdeal.nD Cert.ResidualIdeal.τ).loc Cert.ResidualIdeal.main_arg2) = m ((c.tc : Thread Cert.ResidualIdeal.nD Cert.ResidualIdeal.τ).loc Cert.ResidualIdeal.main_arg2)
          ∧ r.2.mem ((c.tc : Thread Cert.ResidualIdeal.nD Cert.ResidualIdeal.τ).loc Cert.ResidualIdeal.main_arg3) = m ((c.tc : Thread Cert.ResidualIdeal.nD Cert.ResidualIdeal.τ).loc Cert.ResidualIdeal.main_arg3))
      ∧ θ_run (Cert.ResidualReferenceIdeal.defs (F := Ideal)) (onTc (τ := Cert.ResidualReferenceIdeal.τ) (Cert.ResidualReferenceIdeal.main (F := Ideal))) ⟨m', fun _ => 0, g'⟩ (fun r => ∀ c : Dev Cert.ResidualReferenceIdeal.nD,
          r.2.mem ((c.tc : Thread Cert.ResidualReferenceIdeal.nD Cert.ResidualReferenceIdeal.τ).loc Cert.ResidualReferenceIdeal.main_v0_0) = v0 c
          ∧ r.2.mem ((c.tc : Thread Cert.ResidualReferenceIdeal.nD Cert.ResidualReferenceIdeal.τ).loc Cert.ResidualReferenceIdeal.main_v0_1) = v1 c
          ∧ r.2.mem ((c.tc : Thread Cert.ResidualReferenceIdeal.nD Cert.ResidualReferenceIdeal.τ).loc Cert.ResidualReferenceIdeal.main_v0_2) = v2 c
          ∧ r.2.mem ((c.tc : Thread Cert.ResidualReferenceIdeal.nD Cert.ResidualReferenceIdeal.τ).loc Cert.ResidualReferenceIdeal.main_v0_3) = v3 c
          ∧ r.2.mem ((c.tc : Thread Cert.ResidualReferenceIdeal.nD Cert.ResidualReferenceIdeal.τ).loc Cert.ResidualReferenceIdeal.main_v0_4) = v4 c
          ∧ r.2.mem ((c.tc : Thread Cert.ResidualReferenceIdeal.nD Cert.ResidualReferenceIdeal.τ).loc Cert.ResidualReferenceIdeal.main_arg0) = m' ((c.tc : Thread Cert.ResidualReferenceIdeal.nD Cert.ResidualReferenceIdeal.τ).loc Cert.ResidualReferenceIdeal.main_arg0)
          ∧ r.2.mem ((c.tc : Thread Cert.ResidualReferenceIdeal.nD Cert.ResidualReferenceIdeal.τ).loc Cert.ResidualReferenceIdeal.main_arg1) = m' ((c.tc : Thread Cert.ResidualReferenceIdeal.nD Cert.ResidualReferenceIdeal.τ).loc Cert.ResidualReferenceIdeal.main_arg1)
          ∧ r.2.mem ((c.tc : Thread Cert.ResidualReferenceIdeal.nD Cert.ResidualReferenceIdeal.τ).loc Cert.ResidualReferenceIdeal.main_arg2) = m' ((c.tc : Thread Cert.ResidualReferenceIdeal.nD Cert.ResidualReferenceIdeal.τ).loc Cert.ResidualReferenceIdeal.main_arg2)
          ∧ r.2.mem ((c.tc : Thread Cert.ResidualReferenceIdeal.nD Cert.ResidualReferenceIdeal.τ).loc Cert.ResidualReferenceIdeal.main_arg3) = m' ((c.tc : Thread Cert.ResidualReferenceIdeal.nD Cert.ResidualReferenceIdeal.τ).loc Cert.ResidualReferenceIdeal.main_arg3))

def Claim : Prop :=
  ∃ (hKernel : Cert.Kernel.Facts) (hKernelIdeal : Cert.KernelIdeal.Facts) (hReferenceIdeal : Cert.ReferenceIdeal.Facts) (hResidual : Cert.Residual.Facts) (hResidualIdeal : Cert.ResidualIdeal.Facts) (hResidualReferenceIdeal : Cert.ResidualReferenceIdeal.Facts) (hOn_ids_in_range : Cert.On_ids_in_range.Facts),
    quiescent_Kernel (hKernel := hKernel)
    ∧ quiescent_KernelIdeal (hKernelIdeal := hKernelIdeal)
    ∧ quiescent_ReferenceIdeal (hReferenceIdeal := hReferenceIdeal)
    ∧ quiescent_Residual (hResidual := hResidual)
    ∧ quiescent_ResidualIdeal (hResidualIdeal := hResidualIdeal)
    ∧ quiescent_ResidualReferenceIdeal (hResidualReferenceIdeal := hResidualReferenceIdeal)
    ∧ preserves_Kernel_KernelIdeal
    ∧ algebraic_KernelIdeal_ReferenceIdeal_on_ids_in_range (hKernelIdeal := hKernelIdeal) (hReferenceIdeal := hReferenceIdeal) (hOn_ids_in_range := hOn_ids_in_range)
    ∧ preserves_Residual_ResidualIdeal
    ∧ algebraic_ResidualIdeal_ResidualReferenceIdeal (hResidualIdeal := hResidualIdeal) (hResidualReferenceIdeal := hResidualReferenceIdeal)
-- ==== On_ids_in_range.lean ====
abbrev S3x128x5120 : Shape := ⟨3, ![3, 128, 5120]⟩
abbrev S64000x5120 : Shape := ⟨2, ![64000, 5120]⟩
abbrev S64000x160 : Shape := ⟨2, ![64000, 160]⟩
abbrev S128x1x3x8 : Shape := ⟨4, ![128, 1, 3, 8]⟩
abbrev S128x3x8 : Shape := ⟨3, ![128, 3, 8]⟩
abbrev S3x8x128 : Shape := ⟨3, ![3, 8, 128]⟩
abbrev S_ : Shape := ⟨0, ![]⟩
abbrev S3x128 : Shape := ⟨2, ![3, 128]⟩

class Facts : Prop where
  shapeCasts_S128x1x3x8_S128x3x8 : S128x1x3x8.ShapeCasts S128x3x8
  transposes_S128x3x8_S3x8x128_1_2_0 : S128x3x8.Transposes [1, 2, 0] S3x8x128
  bcast_S_S3x128 : S_.BroadcastsInDim S3x128 (![] : Fin 0 → Fin S3x128.rank)
  bcast_S_S3x8x128 : S_.BroadcastsInDim S3x8x128 (![] : Fin 0 → Fin S3x8x128.rank)

variable [Facts]

def fn {F : FTy → Type} [FloatOps F] (main_arg0 : FVec F S3x128x5120 .bf16) (main_arg1 : FVec F S64000x5120 .fp8e4m3) (main_arg2 : FVec F S64000x160 .f32) (main_arg3 : IVec S128x1x3x8 32) : IVec S3x128 1 × IVec S3x128 1 × IVec S3x8x128 1 :=
  let main_v0 : IVec S128x3x8 32 := shapeCast S128x3x8 main_arg3 shapeCasts_S128x1x3x8_S128x3x8
  let main_v1 : IVec S3x8x128 32 := (transpose S3x8x128 [1, 2, 0] · transposes_S128x3x8_S3x8x128_1_2_0) main_v0
  let main_c : IVec S_ 1 := constantI S_ 1 1#1
  let main_v2 : IVec S3x128 1 := broadcastInDim S3x128 ![] bcast_S_S3x128 main_c
  let main_c_0 : IVec S_ 32 := constantI S_ 32 0#32
  let main_v3 : IVec S3x8x128 32 := broadcastInDim S3x8x128 ![] bcast_S_S3x8x128 main_c_0
  let main_v4 : IVec S3x8x128 1 := cmpi .sge main_v1 main_v3
  let main_c_1 : IVec S_ 32 := constantI S_ 32 64000#32
  let main_v5 : IVec S3x8x128 32 := broadcastInDim S3x8x128 ![] bcast_S_S3x8x128 main_c_1
  let main_v6 : IVec S3x8x128 1 := cmpi .slt main_v1 main_v5
  let main_v7 : IVec S3x8x128 1 := andi main_v4 main_v6
  (main_v2, main_v2, main_v7)
-- ==== Kernel.lean ====
abbrev S3x128x5120 : Shape := ⟨3, ![3, 128, 5120]⟩
abbrev S64000x5120 : Shape := ⟨2, ![64000, 5120]⟩
abbrev S64000x160 : Shape := ⟨2, ![64000, 160]⟩
abbrev S128x1x3x8 : Shape := ⟨4, ![128, 1, 3, 8]⟩
abbrev S3x128x1x8 : Shape := ⟨4, ![3, 128, 1, 8]⟩
abbrev S384x8 : Shape := ⟨2, ![384, 8]⟩
abbrev S_ : Shape := ⟨0, ![]⟩
abbrev S384x128 : Shape := ⟨2, ![384, 128]⟩
abbrev S384x5120 : Shape := ⟨2, ![384, 5120]⟩
abbrev S160x64000 : Shape := ⟨2, ![160, 64000]⟩
abbrev S3x128 : Shape := ⟨2, ![3, 128]⟩
abbrev S3x8x128 : Shape := ⟨3, ![3, 8, 128]⟩
abbrev S512x5120 : Shape := ⟨2, ![512, 5120]⟩
abbrev S160x512 : Shape := ⟨2, ![160, 512]⟩
abbrev S128x512 : Shape := ⟨2, ![128, 512]⟩
abbrev S512x128 : Shape := ⟨2, ![512, 128]⟩
abbrev S32x512 : Shape := ⟨2, ![32, 512]⟩
abbrev S96x512 : Shape := ⟨2, ![96, 512]⟩
abbrev S512x128x1 : Shape := ⟨3, ![512, 128, 1]⟩
abbrev S384x512 : Shape := ⟨2, ![384, 512]⟩
abbrev S384x128x1 : Shape := ⟨3, ![384, 128, 1]⟩
abbrev S384 : Shape := ⟨1, ![384]⟩
abbrev S384x1 : Shape := ⟨2, ![384, 1]⟩
abbrev S128x1 : Shape := ⟨2, ![128, 1]⟩
abbrev S128x128 : Shape := ⟨2, ![128, 128]⟩
abbrev S1x128 : Shape := ⟨2, ![1, 128]⟩
abbrev S8x128 : Shape := ⟨2, ![8, 128]⟩
abbrev S1x8x128 : Shape := ⟨3, ![1, 8, 128]⟩

abbrev nBuf : Space → Nat
  | .hbm => 14
  | .vmem => 13
  | .smem => 0
  | _ => 0

abbrev bufTy : (tb : Table) → Fin (tcTables nBuf tb) → BufTy
  | .hbm, ⟨0, _⟩ => ⟨S3x128x5120, .bf16⟩
  | .hbm, ⟨1, _⟩ => ⟨S64000x5120, .fp8e4m3⟩
  | .hbm, ⟨2, _⟩ => ⟨S64000x160, .f32⟩
  | .hbm, ⟨3, _⟩ => ⟨S128x1x3x8, .i32⟩
  | .hbm, ⟨4, _⟩ => ⟨S3x128x1x8, .i32⟩
  | .hbm, ⟨5, _⟩ => ⟨S384x8, .i32⟩
  | .hbm, ⟨6, _⟩ => ⟨S_, .i32⟩
  | .hbm, ⟨7, _⟩ => ⟨S_, .i32⟩
  | .hbm, ⟨8, _⟩ => ⟨S384x128, .i32⟩
  | .hbm, ⟨9, _⟩ => ⟨S384x5120, .bf16⟩
  | .hbm, ⟨10, _⟩ => ⟨S160x64000, .f32⟩
  | .hbm, ⟨11, _⟩ => ⟨S3x128, .f32⟩
  | .hbm, ⟨12, _⟩ => ⟨S3x128, .f32⟩
  | .hbm, ⟨13, _⟩ => ⟨S3x8x128, .f32⟩
  | .local _ .vmem, ⟨0, _⟩ => ⟨S384x5120, .bf16⟩
  | .local _ .vmem, ⟨1, _⟩ => ⟨S512x5120, .fp8e4m3⟩
  | .local _ .vmem, ⟨2, _⟩ => ⟨S512x5120, .fp8e4m3⟩
  | .local _ .vmem, ⟨3, _⟩ => ⟨S160x512, .f32⟩
  | .local _ .vmem, ⟨4, _⟩ => ⟨S160x512, .f32⟩
  | .local _ .vmem, ⟨5, _⟩ => ⟨S384x128, .i32⟩
  | .local _ .vmem, ⟨6, _⟩ => ⟨S3x128, .f32⟩
  | .local _ .vmem, ⟨7, _⟩ => ⟨S3x128, .f32⟩
  | .local _ .vmem, ⟨8, _⟩ => ⟨S3x8x128, .f32⟩
  | .local _ .vmem, ⟨9, _⟩ => ⟨S512x5120, .bf16⟩
  | .local _ .vmem, ⟨10, _⟩ => ⟨S384x128, .f32⟩
  | .local _ .vmem, ⟨11, _⟩ => ⟨S384x128, .f32⟩
  | .local _ .vmem, ⟨12, _⟩ => ⟨S384x128, .f32⟩
  | _, _ => ⟨S3x128x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![125], ![false]⟩

def k0_cond2 (i : grid0.Coords) : BitVec 1 :=
  let arg0 : BitVec 32 := BitVec.ofNat 32 (i 0).val
  let c124_i32_268 : BitVec 32 := 124#32
  let v847 : BitVec 1 := Scalar.cmpi .eq arg0 c124_i32_268
  let v848 : BitVec 32 := Scalar.extui v847
  let c0_i32_269 : BitVec 32 := 0#32
  let v849 : BitVec 1 := Scalar.cmpi .ne v848 c0_i32_269
  v849

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S384x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x5120 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S160x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S3x128x5120 : Shape := ⟨3, ![3, 128, 5120]⟩
abbrev S64000x5120 : Shape := ⟨2, ![64000, 5120]⟩
abbrev S64000x160 : Shape := ⟨2, ![64000, 160]⟩
abbrev S128x1x3x8 : Shape := ⟨4, ![128, 1, 3, 8]⟩
abbrev S64000x160x32 : Shape := ⟨3, ![64000, 160, 32]⟩
abbrev S64000x160x1 : Shape := ⟨3, ![64000, 160, 1]⟩
abbrev S3x128x64000 : Shape := ⟨3, ![3, 128, 64000]⟩
abbrev S_ : Shape := ⟨0, ![]⟩
abbrev S3x128 : Shape := ⟨2, ![3, 128]⟩
abbrev S3x128x1 : Shape := ⟨3, ![3, 128, 1]⟩
abbrev S128x3x8 : Shape := ⟨3, ![128, 3, 8]⟩
abbrev S3x128x8 : Shape := ⟨3, ![3, 128, 8]⟩
abbrev S3x128x8x1 : Shape := ⟨4, ![3, 128, 8, 1]⟩
abbrev S1 : Shape := ⟨1, ![1]⟩
abbrev S1x1x1x1 : Shape := ⟨4, ![1, 1, 1, 1]⟩
abbrev S3x8x128 : Shape := ⟨3, ![3, 8, 128]⟩

abbrev nBuf : Space → Nat
  | .hbm => 47
  | .vmem => 2
  | .smem => 0
  | _ => 0

abbrev bufTy : (tb : Table) → Fin (tcTables nBuf tb) → BufTy
  | .hbm, ⟨0, _⟩ => ⟨S3x128x5120, .bf16⟩
  | .hbm, ⟨1, _⟩ => ⟨S64000x5120, .fp8e4m3⟩
  | .hbm, ⟨2, _⟩ => ⟨S64000x160, .f32⟩
  | .hbm, ⟨3, _⟩ => ⟨S128x1x3x8, .i32⟩
  | .hbm, ⟨4, _⟩ => ⟨S64000x5120, .bf16⟩
  | .hbm, ⟨5, _⟩ => ⟨S64000x160x32, .bf16⟩
  | .hbm, ⟨6, _⟩ => ⟨S64000x160, .bf16⟩
  | .hbm, ⟨7, _⟩ => ⟨S64000x160x1, .bf16⟩
  | .hbm, ⟨8, _⟩ => ⟨S64000x160x32, .bf16⟩
  | .hbm, ⟨9, _⟩ => ⟨S64000x160x32, .bf16⟩
  | .hbm, ⟨10, _⟩ => ⟨S64000x5120, .bf16⟩
  | .hbm, ⟨11, _⟩ => ⟨S3x128x64000, .f32⟩
  | .hbm, ⟨12, _⟩ => ⟨S_, .f32⟩
  | .hbm, ⟨13, _⟩ => ⟨S3x128, .f32⟩
  | .hbm, ⟨14, _⟩ => ⟨S3x128x1, .f32⟩
  | .hbm, ⟨15, _⟩ => ⟨S3x128x64000, .f32⟩
  | .hbm, ⟨16, _⟩ => ⟨S3x128x64000, .f32⟩
  | .hbm, ⟨17, _⟩ => ⟨S3x128x64000, .f32⟩
  | .hbm, ⟨18, _⟩ => ⟨S_, .f32⟩
  | .hbm, ⟨19, _⟩ => ⟨S3x128, .f32⟩
  | .hbm, ⟨20, _⟩ => ⟨S3x128, .f32⟩
  | .hbm, ⟨21, _⟩ => ⟨S3x128, .f32⟩
  | .hbm, ⟨22, _⟩ => ⟨S128x3x8, .i32⟩
  | .hbm, ⟨23, _⟩ => ⟨S3x128x8, .i32⟩
  | .hbm, ⟨24, _⟩ => ⟨S_, .i32⟩
  | .hbm, ⟨25, _⟩ => ⟨S3x128x8, .i32⟩
  | .hbm, ⟨26, _⟩ => ⟨S3x128x8, .i1⟩
  | .hbm, ⟨27, _⟩ => ⟨S_, .i32⟩
  | .hbm, ⟨28, _⟩ => ⟨S3x128x8, .i32⟩
  | .hbm, ⟨29, _⟩ => ⟨S3x128x8, .i32⟩
  | .hbm, ⟨30, _⟩ => ⟨S3x128x8, .i32⟩
  | .hbm, ⟨31, _⟩ => ⟨S3x128x8x1, .i32⟩
  | .hbm, ⟨32, _⟩ => ⟨S1, .i32⟩
  | .hbm, ⟨33, _⟩ => ⟨S_, .i32⟩
  | .hbm, ⟨34, _⟩ => ⟨S3x128x8x1, .i32⟩
  | .hbm, ⟨35, _⟩ => ⟨S3x128x8x1, .i1⟩
  | .hbm, ⟨36, _⟩ => ⟨S1x1x1x1, .i32⟩
  | .hbm, ⟨37, _⟩ => ⟨S3x128x8x1, .i32⟩
  | .hbm, ⟨38, _⟩ => ⟨S3x128x8x1, .i1⟩
  | .hbm, ⟨39, _⟩ => ⟨S3x128x8x1, .i1⟩
  | .hbm, ⟨40, _⟩ => ⟨S_, .i1⟩
  | .hbm, ⟨41, _⟩ => ⟨S3x128x8, .i1⟩
  | .hbm, ⟨42, _⟩ => ⟨S3x128x8, .f32⟩
  | .hbm, ⟨43, _⟩ => ⟨S_, .f32⟩
  | .hbm, ⟨44, _⟩ => ⟨S3x128x8, .f32⟩
  | .hbm, ⟨45, _⟩ => ⟨S3x128x8, .f32⟩
  | .hbm, ⟨46, _⟩ => ⟨S3x8x128, .f32⟩
  | .local _ .vmem, ⟨0, _⟩ => ⟨S64000x5120, .fp8e4m3⟩
  | .local _ .vmem, ⟨1, _⟩ => ⟨S64000x5120, .bf16⟩
  | _, _ => ⟨S3x128x5120, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_cst : Ref sig .tc := ⟨.hbm, 43, rfl⟩
abbrev main_call0_v14 : Ref sig .tc := ⟨.hbm, 44, rfl⟩
abbrev main_v18 : Ref sig .tc := ⟨.hbm, 45, rfl⟩
abbrev main_v19 : Ref sig .tc := ⟨.hbm, 46, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S64000x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64000x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Residual.lean ====
abbrev S128x5120 : Shape := ⟨2, ![128, 5120]⟩
abbrev S3x5120x5120 : Shape := ⟨3, ![3, 5120, 5120]⟩
abbrev S3x5120 : Shape := ⟨2, ![3, 5120]⟩
abbrev S1x128 : Shape := ⟨2, ![1, 128]⟩
abbrev S3x128x5120 : Shape := ⟨3, ![3, 128, 5120]⟩
abbrev S3x160x128 : Shape := ⟨3, ![3, 160, 128]⟩
abbrev S1x5120x512 : Shape := ⟨3, ![1, 5120, 512]⟩
abbrev S1x128x512 : Shape := ⟨3, ![1, 128, 512]⟩
abbrev S1x16x128 : Shape := ⟨3, ![1, 16, 128]⟩
abbrev S128x128 : Shape := ⟨2, ![128, 128]⟩
abbrev S128 : Shape := ⟨1, ![128]⟩
abbrev S128x1 : Shape := ⟨2, ![128, 1]⟩
abbrev S5120x512 : Shape := ⟨2, ![5120, 512]⟩
abbrev S128x512 : Shape := ⟨2, ![128, 512]⟩
abbrev S3x128 : Shape := ⟨2, ![3, 128]⟩
abbrev S128x128x1 : Shape := ⟨3, ![128, 128, 1]⟩
abbrev S1x128x128 : Shape := ⟨3, ![1, 128, 128]⟩
abbrev S16x128 : Shape := ⟨2, ![16, 128]⟩

abbrev nBuf : Space → Nat
  | .hbm => 9
  | .vmem => 14
  | .smem => 0
  | _ => 0

abbrev bufTy : (tb : Table) → Fin (tcTables nBuf tb) → BufTy
  | .hbm, ⟨0, _⟩ => ⟨S128x5120, .bf16⟩
  | .hbm, ⟨1, _⟩ => ⟨S3x5120x5120, .fp8e4m3⟩
  | .hbm, ⟨2, _⟩ => ⟨S3x5120, .f32⟩
  | .hbm, ⟨3, _⟩ => ⟨S3x5120, .f32⟩
  | .hbm, ⟨4, _⟩ => ⟨S128x5120, .fp8e4m3⟩
  | .hbm, ⟨5, _⟩ => ⟨S1x128, .f32⟩
  | .hbm, ⟨6, _⟩ => ⟨S3x128x5120, .fp8e4m3⟩
  | .hbm, ⟨7, _⟩ => ⟨S3x160x128, .f32⟩
  | .hbm, ⟨8, _⟩ => ⟨S3x128x5120, .bf16⟩
  | .local _ .vmem, ⟨0, _⟩ => ⟨S128x5120, .bf16⟩
  | .local _ .vmem, ⟨1, _⟩ => ⟨S1x5120x512, .fp8e4m3⟩
  | .local _ .vmem, ⟨2, _⟩ => ⟨S1x5120x512, .fp8e4m3⟩
  | .local _ .vmem, ⟨3, _⟩ => ⟨S3x5120, .f32⟩
  | .local _ .vmem, ⟨4, _⟩ => ⟨S3x5120, .f32⟩
  | .local _ .vmem, ⟨5, _⟩ => ⟨S128x5120, .fp8e4m3⟩
  | .local _ .vmem, ⟨6, _⟩ => ⟨S1x128, .f32⟩
  | .local _ .vmem, ⟨7, _⟩ => ⟨S1x128x512, .fp8e4m3⟩
  | .local _ .vmem, ⟨8, _⟩ => ⟨S1x128x512, .fp8e4m3⟩
  | .local _ .vmem, ⟨9, _⟩ => ⟨S1x16x128, .f32⟩
  | .local _ .vmem, ⟨10, _⟩ => ⟨S1x16x128, .f32⟩
  | .local _ .vmem, ⟨11, _⟩ => ⟨S1x128x512, .bf16⟩
  | .local _ .vmem, ⟨12, _⟩ => ⟨S1x128x512, .bf16⟩
  | .local _ .vmem, ⟨13, _⟩ => ⟨S128x128, .f32⟩
  | _, _ => ⟨S128x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![3, 10], ![false, false]⟩

def k0_mult1 (i : grid0.Coords) : BitVec 32 :=
  let arg1 : BitVec 32 := BitVec.ofNat 32 (i 1).val
  let c512_i32 : BitVec 32 := 512#32
  let v19 : BitVec 32 := Scalar.muli arg1 c512_i32
  let c0_i32_9 : BitVec 32 := 0#32
  let v20 : BitVec 32 := Scalar.addi v19 c0_i32_9
  v20
def k0_off1 (i : grid0.Coords) (c0_i32_9 : BitVec 32) : Fin 2 → Nat :=
  let c0_10 : Index := 0#32
  let arg1 : BitVec 32 := BitVec.ofNat 32 (i 1).val
  let c512_i32 : BitVec 32 := 512#32
  let v19 : BitVec 32 := Scalar.muli arg1 c512_i32
  let v20 : BitVec 32 := Scalar.addi v19 c0_i32_9
  let v21 : BitVec 32 := v20
  let v24 : Index := Scalar.indexCast v21
  ![0, v24.toNat]
def k0_off2 (i : grid0.Coords) (c0_i32_9 : BitVec 32) : Fin 2 → Nat :=
  let c0_15 : Index := 0#32
  let arg1 : BitVec 32 := BitVec.ofNat 32 (i 1).val
  let c512_i32 : BitVec 32 := 512#32
  let v19 : BitVec 32 := Scalar.muli arg1 c512_i32
  let v20 : BitVec 32 := Scalar.addi v19 c0_i32_9
  let v21 : BitVec 32 := v20
  let v46 : Index := Scalar.indexCast v21
  ![0, v46.toNat]
def k0_mult2 (i : grid0.Coords) : BitVec 32 :=
  let arg1 : BitVec 32 := BitVec.ofNat 32 (i 1).val
  let c512_i32_56 : BitVec 32 := 512#32
  let v193 : BitVec 32 := Scalar.muli arg1 c512_i32_56
  let c128_i32_57 : BitVec 32 := 128#32
  let v194 : BitVec 32 := Scalar.addi v193 c128_i32_57
  v194
def k0_mult3 (i : grid0.Coords) : BitVec 32 :=
  let arg1 : BitVec 32 := BitVec.ofNat 32 (i 1).val
  let c512_i32_117 : BitVec 32 := 512#32
  let v367 : BitVec 32 := Scalar.muli arg1 c512_i32_117
  let c256_i32 : BitVec 32 := 256#32
  let v368 : BitVec 32 := Scalar.addi v367 c256_i32
  v368
def k0_mult4 (i : grid0.Coords) : BitVec 32 :=
  let arg1 : BitVec 32 := BitVec.ofNat 32 (i 1).val
  let c512_i32_176 : BitVec 32 := 512#32
  let v541 : BitVec 32 := Scalar.muli arg1 c512_i32_176
  let c384_i32 : BitVec 32 := 384#32
  let v542 : BitVec 32 := Scalar.addi v541 c384_i32
  v542
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S128x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x5120x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x5120 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ResidualReferenceIdeal.lean ====
abbrev S128x5120 : Shape := ⟨2, ![128, 5120]⟩
abbrev S3x5120x5120 : Shape := ⟨3, ![3, 5120, 5120]⟩
abbrev S3x5120 : Shape := ⟨2, ![3, 5120]⟩
abbrev S1x128 : Shape := ⟨2, ![1, 128]⟩
abbrev S3x128x5120 : Shape := ⟨3, ![3, 128, 5120]⟩
abbrev S3x160x128 : Shape := ⟨3, ![3, 160, 128]⟩
abbrev S128x1x5120 : Shape := ⟨3, ![128, 1, 5120]⟩
abbrev S128x1 : Shape := ⟨2, ![128, 1]⟩
abbrev S1x1x246 : Shape := ⟨3, ![1, 1, 246]⟩
abbrev S128x1x1 : Shape := ⟨3, ![128, 1, 1]⟩
abbrev S128x1x246 : Shape := ⟨3, ![128, 1, 246]⟩
abbrev S3x5120x128 : Shape := ⟨3, ![3, 5120, 128]⟩
abbrev S1x128x1 : Shape := ⟨3, ![1, 128, 1]⟩
abbrev S3x1x5120 : Shape := ⟨3, ![3, 1, 5120]⟩
abbrev S1x128x5120 : Shape := ⟨3, ![1, 128, 5120]⟩
abbrev S3x128x160x32 : Shape := ⟨4, ![3, 128, 160, 32]⟩
abbrev S3x128x160 : Shape := ⟨3, ![3, 128, 160]⟩
abbrev S1x1x1x246 : Shape := ⟨4, ![1, 1, 1, 246]⟩
abbrev S3x128x160x1 : Shape := ⟨4, ![3, 128, 160, 1]⟩
abbrev S3x128x160x246 : Shape := ⟨4, ![3, 128, 160, 246]⟩

abbrev nBuf : Space → Nat
  | .hbm => 9
  | .vmem => 9
  | .smem => 0
  | _ => 0

abbrev bufTy : (tb : Table) → Fin (tcTables nBuf tb) → BufTy
  | .hbm, ⟨0, _⟩ => ⟨S128x5120, .bf16⟩
  | .hbm, ⟨1, _⟩ => ⟨S3x5120x5120, .fp8e4m3⟩
  | .hbm, ⟨2, _⟩ => ⟨S3x5120, .f32⟩
  | .hbm, ⟨3, _⟩ => ⟨S3x5120, .f32⟩
  | .hbm, ⟨4, _⟩ => ⟨S128x5120, .fp8e4m3⟩
  | .hbm, ⟨5, _⟩ => ⟨S1x128, .f32⟩
  | .hbm, ⟨6, _⟩ => ⟨S3x128x5120, .fp8e4m3⟩
  | .hbm, ⟨7, _⟩ => ⟨S3x160x128, .f32⟩
  | .hbm, ⟨8, _⟩ => ⟨S3x128x5120, .bf16⟩
  | .local _ .vmem, ⟨0, _⟩ => ⟨S128x5120, .bf16⟩
  | .local _ .vmem, ⟨1, _⟩ => ⟨S3x5120x5120, .fp8e4m3⟩
  | .local _ .vmem, ⟨2, _⟩ => ⟨S3x5120, .f32⟩
  | .local _ .vmem, ⟨3, _⟩ => ⟨S3x5120, .f32⟩
  | .local _ .vmem, ⟨4, _⟩ => ⟨S128x5120, .fp8e4m3⟩
  | .local _ .vmem, ⟨5, _⟩ => ⟨S1x128, .f32⟩
  | .local _ .vmem, ⟨6, _⟩ => ⟨S3x128x5120, .fp8e4m3⟩
  | .local _ .vmem, ⟨7, _⟩ => ⟨S3x160x128, .f32⟩
  | .local _ .vmem, ⟨8, _⟩ => ⟨S3x128x5120, .bf16⟩
  | _, _ => ⟨S128x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S128x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x5120x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x5120 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x128x5120 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x160x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x128x5120 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Block.lean ====
/-
  What one grid point's block of the weights holds once it is scaled.

  The kernel multiplies a block of 512 weight rows by its group scales chunk by chunk: 128 columns at a time, the 128
  lanes of a chunk taking their 4 scales from a row of 128 (or, for the last 8 chunks, of the other 32) by a gather along
  the lanes. `scaled` is one such chunk, and `scaled_apply` reads it over the reals: the weight times the scale of the
  group the column lies in.
-/
module

public import proofs.«01_k».proof.Proof.Gen.KernelIdeal.Frame
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.KernelIdeal.Value

open Cert.KernelIdeal Cert.KernelIdeal.Gen

/-- The group of a lane within its chunk, as the kernel computes it: a floored division by 32. -/
theorem group_word (j : Fin 128) :
    Scalar.select ((Scalar.cmpi .ne ((((Scalar.cmpi .sgt (BitVec.ofNat 32 j) 0#32) : BitVec 1).setWidth 32) - ((Scalar.cmpi .slt (BitVec.ofNat 32 j) 0#32) : BitVec 1).setWidth 32)
        (Scalar.subi (Scalar.extui (Scalar.cmpi .sgt 32#32 0#32)) (Scalar.extui (Scalar.cmpi .slt 32#32 0#32))))
      &&& (Scalar.cmpi .ne (IntOp.remsi .vector (BitVec.ofNat 32 j) 32#32) 0#32)) (IntOp.divsi .vector (BitVec.ofNat 32 j) 32#32 - 1#32) (IntOp.divsi .vector (BitVec.ofNat 32 j) 32#32)
      = BitVec.ofNat 32 (j.val / 32) := by
  revert j; decide +kernel

theorem pay17_apply (x : S512x128.Idx) : k0_pay17 x = BitVec.ofNat 32 ((x 1).val / 32) := by
  idx_vars x
  rw [← group_word]
  unfold k0_pay17
  pointwise
  rfl

/-- The group index plus the chunk's first group, wrapped as the gather wraps a negative index. -/
def lanes (g : BitVec 32) : IVec S512x128 32 :=
  shapeCast S512x128 (shapeCast S512x128x1 (select (cmpi .slt (addi k0_pay17 (broadcast S512x128 g)) (broadcast S512x128 0#32))
    (addi (addi k0_pay17 (broadcast S512x128 g)) (broadcast S512x128 128#32)) (addi k0_pay17 (broadcast S512x128 g)))
    shapeCasts_S512x128_S512x128x1) shapeCasts_S512x128x1_S512x128

theorem lanes_word (g : Fin 125) (j : Fin 4) :
    (Scalar.select (Scalar.cmpi .slt (BitVec.ofNat 32 j + BitVec.ofNat 32 g.val) 0#32) (BitVec.ofNat 32 j + BitVec.ofNat 32 g.val + 128#32)
      (BitVec.ofNat 32 j + BitVec.ofNat 32 g.val)).toNat % 128 = (g.val + j.val) % 128 := by
  revert g j; decide +kernel

theorem lanes_apply (g : ℕ) (hg : g ≤ 124) (x : S512x128.Idx) :
    (lanes (BitVec.ofNat 32 g) x).toNat % 128 = (g + (x 1).val / 32) % 128 := by
  have h1 : (x 1).val < 128 := (x 1).isLt
  rw [← lanes_word ⟨g, by omega⟩ ⟨(x 1).val / 32, by omega⟩]
  unfold lanes
  rw [shapeCast_shapeCast]
  show (Scalar.select (Scalar.cmpi .slt (k0_pay17 x + BitVec.ofNat 32 g) 0#32) (k0_pay17 x + BitVec.ofNat 32 g + 128#32)
      (k0_pay17 x + BitVec.ofNat 32 g)).toNat % 128 = _
  rw [pay17_apply]

/-- One chunk of 128 columns of the block, scaled. -/
def scaled {F : FTy → Type} [FloatOps F] (src : FVec F S512x128 .f32) (g : BitVec 32) (w : Vec F S512x128 .fp8e4m3) : FVec F S512x128 .bf16 :=
  shapeCast S512x128 (mulf (extf .bf16 w bitsLt_fp8e4m3_bf16) (truncf .bf16 (dynamicGather 1 src (lanes g)) bitsLt_bf16_f32))
    shapeCasts_S512x128_S512x128

theorem scaled_apply (src : FVec Ideal S512x128 .f32) (g : ℕ) (hg : g ≤ 124) (w : Vec Ideal S512x128 .fp8e4m3) (x : S512x128.Idx)
    (y : S512x128.Idx) (h0 : (y 0).val = (x 0).val) (h1 : (y 1).val = g + (x 1).val / 32) :
    scaled src (BitVec.ofNat 32 g) w x = (w x : EReal) * (src y : EReal) := by
  unfold scaled
  rw [shapeCast_self]
  show (w x : EReal) * (dynamicGather 1 src (lanes (BitVec.ofNat 32 g)) x : EReal) = _
  congr 1
  rw [dynamicGather_apply]
  congr 1
  funext a
  apply Fin.ext
  have hx : (x 1).val < 128 := (x 1).isLt
  have hy : (y 1).val < 128 := (y 1).isLt
  match a with
  | ⟨0, _⟩ => exact h0.symm
  | ⟨1, _⟩ =>
    have := lanes_apply g hg x
    refine Eq.trans this ((Nat.mod_eq_of_lt (by omega)).trans h1.symm)

/-- The first 128 groups' scales, one row of 128 per row of the block: the transposed block of scales. -/
theorem lo_apply (v3 : Vec Ideal S128x512 .f32) (y : S512x128.Idx) : (k0_pay15 v3 y : EReal) = v3 (ix2 (y 1) (y 0)) := by
  idx_vars y
  unfold k0_pay15
  pointwise

/-- The other 32 groups' scales, padded with zeros to a row of 128. -/
theorem hi_apply (v8 : Vec Ideal S32x512 .f32) (y : S512x128.Idx) (h : (y 1).val < 32) :
    (k0_pay16 v8 y : EReal) = v8 (ix2 ⟨(y 1).val, h⟩ (y 0)) := by
  idx_vars y
  unfold k0_pay16
  pointwise
  exact dif_pos h

section Pieces

variable (c : Dev nD) (i : grid0.Coords) (arg1 : Memref sig .tc .vmem S384x5120 .bf16) (harg1 : arg1.IsWhole) (arg2 : Memref sig .tc .vmem S512x5120 .fp8e4m3) (harg2 : arg2.IsWhole) (arg3 : Memref sig .tc .vmem S160x512 .f32) (harg3 : arg3.IsWhole) (arg4 : Memref sig .tc .vmem S384x128 .i32) (harg4 : arg4.IsWhole) (arg5 : Memref sig .tc .vmem S3x128 .f32) (harg5 : arg5.IsWhole) (arg6 : Memref sig .tc .vmem S3x128 .f32) (harg6 : arg6.IsWhole) (arg7 : Memref sig .tc .vmem S3x8x128 .f32) (harg7 : arg7.IsWhole) (arg8 : Memref sig .tc .vmem S512x5120 .bf16) (harg8 : arg8.IsWhole) (arg9 : Memref sig .tc .vmem S384x128 .f32) (harg9 : arg9.IsWhole) (arg10 : Memref sig .tc .vmem S384x128 .f32) (harg10 : arg10.IsWhole) (arg11 : Memref sig .tc .vmem S384x128 .f32) (harg11 : arg11.IsWhole)

theorem hz : (![0, 0] : Fin 2 → Nat) = fun _ => 0 := funext fun a => by fin_cases a <;> rfl

/-- The block of weights, each times its group's scale. -/
def wblk (x1 : Vec Ideal S512x5120 .fp8e4m3) (x2 : Vec Ideal S160x512 .f32) : Vec Ideal S512x5120 .bf16 := fun y =>
  (x1 y : EReal) * (x2 (ix2 ⟨(y 1).val / 32, by have : (y 1).val < 5120 := (y 1).isLt; omega⟩ (y 0)) : EReal)

/-- The two rows of scales a grid point holds, read from its block of scales. -/
def lo (x2 : Vec Ideal S160x512 .f32) : FVec Ideal S512x128 .f32 := k0_pay15 (View.ld x2 (Rect.unit ![0, 0] ![128, 512] inb_S160x512_S128x512_0_0))
def hi (x2 : Vec Ideal S160x512 .f32) : FVec Ideal S512x128 .f32 := k0_pay16 (View.ld x2 (Rect.unit ![128, 0] ![32, 512] inb_S160x512_S32x512_128_0))

theorem piece_lo (x1 : Vec Ideal S512x5120 .fp8e4m3) (x2 : Vec Ideal S160x512 .f32) (c : ℕ) (hc : c < 32)
    (inb : ∀ a, (![0, 128 * c] : Fin 2 → ℕ) a + (![512, 128] : Fin 2 → ℕ) a ≤ S512x5120.size a)
    (x : (Rect.unit (s := S512x5120) ![0, 128 * c] ![512, 128] inb).shape.Idx) :
    scaled (lo x2) (BitVec.ofNat 32 (4 * c)) (View.ld x1 (Rect.unit (s := S512x5120) ![0, 128 * c] ![512, 128] inb)) x
      = wblk x1 x2 ((Rect.unit (s := S512x5120) ![0, 128 * c] ![512, 128] inb).emb x) := by
  have hx0 : (x 0).val < 512 := (x 0).isLt
  have hx1 : (x 1).val < 128 := (x 1).isLt
  have h0 : ((Rect.unit (s := S512x5120) ![0, 128 * c] ![512, 128] inb).emb x 0).val = 0 + 1 * (x 0).val := rfl
  have h1 : ((Rect.unit (s := S512x5120) ![0, 128 * c] ![512, 128] inb).emb x 1).val = 128 * c + 1 * (x 1).val := rfl
  rw [scaled_apply _ (4 * c) (by omega) _ x (ix2 ⟨(x 0).val, hx0⟩ ⟨4 * c + (x 1).val / 32, by omega⟩) rfl rfl]
  unfold lo wblk
  rw [lo_apply]
  show (x1 _ : EReal) * (x2 _ : EReal) = (x1 _ : EReal) * (x2 _ : EReal)
  congr 2
  funext a
  apply Fin.ext
  match a with
  | ⟨0, _⟩ => show 0 + 1 * (4 * c + (x 1).val / 32) = ((Rect.unit (s := S512x5120) ![0, 128 * c] ![512, 128] inb).emb x 1).val / 32; rw [h1]; omega
  | ⟨1, _⟩ => rfl

theorem piece_hi (x1 : Vec Ideal S512x5120 .fp8e4m3) (x2 : Vec Ideal S160x512 .f32) (c : ℕ) (hc : c < 8)
    (inb : ∀ a, (![0, 4096 + 128 * c] : Fin 2 → ℕ) a + (![512, 128] : Fin 2 → ℕ) a ≤ S512x5120.size a)
    (x : (Rect.unit (s := S512x5120) ![0, 4096 + 128 * c] ![512, 128] inb).shape.Idx) :
    scaled (hi x2) (BitVec.ofNat 32 (4 * c)) (View.ld x1 (Rect.unit (s := S512x5120) ![0, 4096 + 128 * c] ![512, 128] inb)) x
      = wblk x1 x2 ((Rect.unit (s := S512x5120) ![0, 4096 + 128 * c] ![512, 128] inb).emb x) := by
  have hx0 : (x 0).val < 512 := (x 0).isLt
  have hx1 : (x 1).val < 128 := (x 1).isLt
  have h0 : ((Rect.unit (s := S512x5120) ![0, 4096 + 128 * c] ![512, 128] inb).emb x 0).val = 0 + 1 * (x 0).val := rfl
  have h1 : ((Rect.unit (s := S512x5120) ![0, 4096 + 128 * c] ![512, 128] inb).emb x 1).val = 4096 + 128 * c + 1 * (x 1).val := rfl
  rw [scaled_apply _ (4 * c) (by omega) _ x (ix2 ⟨(x 0).val, hx0⟩ ⟨4 * c + (x 1).val / 32, by omega⟩) rfl rfl]
  unfold hi wblk
  rw [hi_apply _ _ (by show 4 * c + (x 1).val / 32 < 32; omega)]
  show (x1 _ : EReal) * (x2 _ : EReal) = (x1 _ : EReal) * (x2 _ : EReal)
  congr 2
  funext a
  apply Fin.ext
  match a with
  | ⟨0, _⟩ => show 128 + 1 * (4 * c + (x 1).val / 32) = ((Rect.unit (s := S512x5120) ![0, 4096 + 128 * c] ![512, 128] inb).emb x 1).val / 32; rw [h1]; omega
  | ⟨1, _⟩ => rfl

theorem chunk_0 (s : FVec Ideal S512x128 .f32) (w : Vec Ideal S512x128 .fp8e4m3) : k0_pay19 s k0_pay18 (0#32) w = scaled s 0#32 w := rfl
theorem chunk_1 (s : FVec Ideal S512x128 .f32) (w : Vec Ideal S512x128 .fp8e4m3) : k0_pay20 s k0_pay17 w = scaled s 4#32 w := rfl
theorem chunk_2 (s : FVec Ideal S512x128 .f32) (w : Vec Ideal S512x128 .fp8e4m3) : k0_pay22 (k0_pay21 s k0_pay17) w = scaled s 8#32 w := rfl
theorem chunk_3 (s : FVec Ideal S512x128 .f32) (w : Vec Ideal S512x128 .fp8e4m3) : k0_pay23 s k0_pay17 w = scaled s 12#32 w := rfl
theorem chunk_4 (s : FVec Ideal S512x128 .f32) (w : Vec Ideal S512x128 .fp8e4m3) : k0_pay24 s k0_pay17 w = scaled s 16#32 w := rfl
theorem chunk_5 (s : FVec Ideal S512x128 .f32) (w : Vec Ideal S512x128 .fp8e4m3) : k0_pay25 s k0_pay17 w = scaled s 20#32 w := rfl
theorem chunk_6 (s : FVec Ideal S512x128 .f32) (w : Vec Ideal S512x128 .fp8e4m3) : k0_pay26 s k0_pay17 w = scaled s 24#32 w := rfl
theorem chunk_7 (s : FVec Ideal S512x128 .f32) (w : Vec Ideal S512x128 .fp8e4m3) : k0_pay30 s (k0_pay27 k0_pay17) (k0_pay28 k0_pay17) (k0_pay29 k0_pay17) w = scaled s 28#32 w := rfl
theorem chunk_8 (s : FVec Ideal S512x128 .f32) (w : Vec Ideal S512x128 .fp8e4m3) : k0_pay31 s k0_pay17 w = scaled s 32#32 w := rfl
theorem chunk_9 (s : FVec Ideal S512x128 .f32) (w : Vec Ideal S512x128 .fp8e4m3) : k0_pay33 (k0_pay32 s k0_pay17 w) = scaled s 36#32 w := rfl
theorem chunk_10 (s : FVec Ideal S512x128 .f32) (w : Vec Ideal S512x128 .fp8e4m3) : k0_pay34 s k0_pay17 w = scaled s 40#32 w := rfl
theorem chunk_11 (s : FVec Ideal S512x128 .f32) (w : Vec Ideal S512x128 .fp8e4m3) : k0_pay35 s k0_pay17 w = scaled s 44#32 w := rfl
theorem chunk_12 (s : FVec Ideal S512x128 .f32) (w : Vec Ideal S512x128 .fp8e4m3) : k0_pay37 s (k0_pay36 k0_pay17) (0#32) w = scaled s 48#32 w := rfl
theorem chunk_13 (s : FVec Ideal S512x128 .f32) (w : Vec Ideal S512x128 .fp8e4m3) : k0_pay38 s k0_pay17 w = scaled s 52#32 w := rfl
theorem chunk_14 (s : FVec Ideal S512x128 .f32) (w : Vec Ideal S512x128 .fp8e4m3) : k0_pay40 (k0_pay39 s k0_pay17) w = scaled s 56#32 w := rfl
theorem chunk_15 (s : FVec Ideal S512x128 .f32) (w : Vec Ideal S512x128 .fp8e4m3) : k0_pay41 s k0_pay17 w = scaled s 60#32 w := rfl
theorem chunk_16 (s : FVec Ideal S512x128 .f32) (w : Vec Ideal S512x128 .fp8e4m3) : k0_pay42 s k0_pay17 w = scaled s 64#32 w := rfl
theorem chunk_17 (s : FVec Ideal S512x128 .f32) (w : Vec Ideal S512x128 .fp8e4m3) : k0_pay43 s k0_pay17 w = scaled s 68#32 w := rfl
theorem chunk_18 (s : FVec Ideal S512x128 .f32) (w : Vec Ideal S512x128 .fp8e4m3) : k0_pay44 s k0_pay17 w = scaled s 72#32 w := rfl
theorem chunk_19 (s : FVec Ideal S512x128 .f32) (w : Vec Ideal S512x128 .fp8e4m3) : k0_pay48 s (k0_pay45 k0_pay17) (k0_pay46 k0_pay17) (k0_pay47 k0_pay17) w = scaled s 76#32 w := rfl
theorem chunk_20 (s : FVec Ideal S512x128 .f32) (w : Vec Ideal S512x128 .fp8e4m3) : k0_pay49 s k0_pay17 w = scaled s 80#32 w := rfl
theorem chunk_21 (s : FVec Ideal S512x128 .f32) (w : Vec Ideal S512x128 .fp8e4m3) : k0_pay51 (k0_pay50 s k0_pay17 w) = scaled s 84#32 w := rfl
theorem chunk_22 (s : FVec Ideal S512x128 .f32) (w : Vec Ideal S512x128 .fp8e4m3) : k0_pay52 s k0_pay17 w = scaled s 88#32 w := rfl
theorem chunk_23 (s : FVec Ideal S512x128 .f32) (w : Vec Ideal S512x128 .fp8e4m3) : k0_pay53 s k0_pay17 w = scaled s 92#32 w := rfl
theorem chunk_24 (s : FVec Ideal S512x128 .f32) (w : Vec Ideal S512x128 .fp8e4m3) : k0_pay55 s (k0_pay54 k0_pay17) (0#32) w = scaled s 96#32 w := rfl
theorem chunk_25 (s : FVec Ideal S512x128 .f32) (w : Vec Ideal S512x128 .fp8e4m3) : k0_pay56 s k0_pay17 w = scaled s 100#32 w := rfl
theorem chunk_26 (s : FVec Ideal S512x128 .f32) (w : Vec Ideal S512x128 .fp8e4m3) : k0_pay58 (k0_pay57 s k0_pay17) w = scaled s 104#32 w := rfl
theorem chunk_27 (s : FVec Ideal S512x128 .f32) (w : Vec Ideal S512x128 .fp8e4m3) : k0_pay59 s k0_pay17 w = scaled s 108#32 w := rfl
theorem chunk_28 (s : FVec Ideal S512x128 .f32) (w : Vec Ideal S512x128 .fp8e4m3) : k0_pay60 s k0_pay17 w = scaled s 112#32 w := rfl
theorem chunk_29 (s : FVec Ideal S512x128 .f32) (w : Vec Ideal S512x128 .fp8e4m3) : k0_pay61 s k0_pay17 w = scaled s 116#32 w := rfl
theorem chunk_30 (s : FVec Ideal S512x128 .f32) (w : Vec Ideal S512x128 .fp8e4m3) : k0_pay62 s k0_pay17 w = scaled s 120#32 w := rfl
theorem chunk_31 (s : FVec Ideal S512x128 .f32) (w : Vec Ideal S512x128 .fp8e4m3) : k0_pay66 s (k0_pay63 k0_pay17) (k0_pay64 k0_pay17) (k0_pay65 k0_pay17) w = scaled s 124#32 w := rfl
theorem chunk_32 (s : FVec Ideal S512x128 .f32) (w : Vec Ideal S512x128 .fp8e4m3) : k0_pay67 s k0_pay17 w = scaled s 0#32 w := rfl
theorem chunk_33 (s : FVec Ideal S512x128 .f32) (w : Vec Ideal S512x128 .fp8e4m3) : k0_pay69 (k0_pay68 s k0_pay17 w) = scaled s 4#32 w := rfl
theorem chunk_34 (s : FVec Ideal S512x128 .f32) (w : Vec Ideal S512x128 .fp8e4m3) : k0_pay70 s k0_pay17 w = scaled s 8#32 w := rfl
theorem chunk_35 (s : FVec Ideal S512x128 .f32) (w : Vec Ideal S512x128 .fp8e4m3) : k0_pay71 s k0_pay17 w = scaled s 12#32 w := rfl
theorem chunk_36 (s : FVec Ideal S512x128 .f32) (w : Vec Ideal S512x128 .fp8e4m3) : k0_pay73 s (k0_pay72 k0_pay17) (0#32) w = scaled s 16#32 w := rfl
theorem chunk_37 (s : FVec Ideal S512x128 .f32) (w : Vec Ideal S512x128 .fp8e4m3) : k0_pay74 s k0_pay17 w = scaled s 20#32 w := rfl
theorem chunk_38 (s : FVec Ideal S512x128 .f32) (w : Vec Ideal S512x128 .fp8e4m3) : k0_pay76 (k0_pay75 s k0_pay17) w = scaled s 24#32 w := rfl
theorem chunk_39 (s : FVec Ideal S512x128 .f32) (w : Vec Ideal S512x128 .fp8e4m3) : k0_pay77 s k0_pay17 w = scaled s 28#32 w := rfl

/-- The stores into the scratch that holds the scaled block: 40 chunks of 128 columns, last first. -/
def wpieces (x1 : Vec Ideal S512x5120 .fp8e4m3) (x2 : Vec Ideal S160x512 .f32) : List (View.Piece (Elt Ideal) S512x5120 .bf16) :=
  [⟨Rect.unit ![0, 4992] ![512, 128] inb_S512x5120_S512x128_0_4992, k0_pay77 (hi x2) k0_pay17 (View.ld x1 (Rect.unit ![0, 4992] ![512, 128] inb_S512x5120_S512x128_0_4992))⟩,
   ⟨Rect.unit ![0, 4864] ![512, 128] inb_S512x5120_S512x128_0_4864, k0_pay76 (k0_pay75 (hi x2) k0_pay17) (View.ld x1 (Rect.unit ![0, 4864] ![512, 128] inb_S512x5120_S512x128_0_4864))⟩,
   ⟨Rect.unit ![0, 4736] ![512, 128] inb_S512x5120_S512x128_0_4736, k0_pay74 (hi x2) k0_pay17 (View.ld x1 (Rect.unit ![0, 4736] ![512, 128] inb_S512x5120_S512x128_0_4736))⟩,
   ⟨Rect.unit ![0, 4608] ![512, 128] inb_S512x5120_S512x128_0_4608, k0_pay73 (hi x2) (k0_pay72 k0_pay17) (0#32) (View.ld x1 (Rect.unit ![0, 4608] ![512, 128] inb_S512x5120_S512x128_0_4608))⟩,
   ⟨Rect.unit ![0, 4480] ![512, 128] inb_S512x5120_S512x128_0_4480, k0_pay71 (hi x2) k0_pay17 (View.ld x1 (Rect.unit ![0, 4480] ![512, 128] inb_S512x5120_S512x128_0_4480))⟩,
   ⟨Rect.unit ![0, 4352] ![512, 128] inb_S512x5120_S512x128_0_4352, k0_pay70 (hi x2) k0_pay17 (View.ld x1 (Rect.unit ![0, 4352] ![512, 128] inb_S512x5120_S512x128_0_4352))⟩,
   ⟨Rect.unit ![0, 4224] ![512, 128] inb_S512x5120_S512x128_0_4224, k0_pay69 (k0_pay68 (hi x2) k0_pay17 (View.ld x1 (Rect.unit ![0, 4224] ![512, 128] inb_S512x5120_S512x128_0_4224)))⟩,
   ⟨Rect.unit ![0, 4096] ![512, 128] inb_S512x5120_S512x128_0_4096, k0_pay67 (hi x2) k0_pay17 (View.ld x1 (Rect.unit ![0, 4096] ![512, 128] inb_S512x5120_S512x128_0_4096))⟩,
   ⟨Rect.unit ![0, 3968] ![512, 128] inb_S512x5120_S512x128_0_3968, k0_pay66 (lo x2) (k0_pay63 k0_pay17) (k0_pay64 k0_pay17) (k0_pay65 k0_pay17) (View.ld x1 (Rect.unit ![0, 3968] ![512, 128] inb_S512x5120_S512x128_0_3968))⟩,
   ⟨Rect.unit ![0, 3840] ![512, 128] inb_S512x5120_S512x128_0_3840, k0_pay62 (lo x2) k0_pay17 (View.ld x1 (Rect.unit ![0, 3840] ![512, 128] inb_S512x5120_S512x128_0_3840))⟩,
   ⟨Rect.unit ![0, 3712] ![512, 128] inb_S512x5120_S512x128_0_3712, k0_pay61 (lo x2) k0_pay17 (View.ld x1 (Rect.unit ![0, 3712] ![512, 128] inb_S512x5120_S512x128_0_3712))⟩,
   ⟨Rect.unit ![0, 3584] ![512, 128] inb_S512x5120_S512x128_0_3584, k0_pay60 (lo x2) k0_pay17 (View.ld x1 (Rect.unit ![0, 3584] ![512, 128] inb_S512x5120_S512x128_0_3584))⟩,
   ⟨Rect.unit ![0, 3456] ![512, 128] inb_S512x5120_S512x128_0_3456, k0_pay59 (lo x2) k0_pay17 (View.ld x1 (Rect.unit ![0, 3456] ![512, 128] inb_S512x5120_S512x128_0_3456))⟩,
   ⟨Rect.unit ![0, 3328] ![512, 128] inb_S512x5120_S512x128_0_3328, k0_pay58 (k0_pay57 (lo x2) k0_pay17) (View.ld x1 (Rect.unit ![0, 3328] ![512, 128] inb_S512x5120_S512x128_0_3328))⟩,
   ⟨Rect.unit ![0, 3200] ![512, 128] inb_S512x5120_S512x128_0_3200, k0_pay56 (lo x2) k0_pay17 (View.ld x1 (Rect.unit ![0, 3200] ![512, 128] inb_S512x5120_S512x128_0_3200))⟩,
   ⟨Rect.unit ![0, 3072] ![512, 128] inb_S512x5120_S512x128_0_3072, k0_pay55 (lo x2) (k0_pay54 k0_pay17) (0#32) (View.ld x1 (Rect.unit ![0, 3072] ![512, 128] inb_S512x5120_S512x128_0_3072))⟩,
   ⟨Rect.unit ![0, 2944] ![512, 128] inb_S512x5120_S512x128_0_2944, k0_pay53 (lo x2) k0_pay17 (View.ld x1 (Rect.unit ![0, 2944] ![512, 128] inb_S512x5120_S512x128_0_2944))⟩,
   ⟨Rect.unit ![0, 2816] ![512, 128] inb_S512x5120_S512x128_0_2816, k0_pay52 (lo x2) k0_pay17 (View.ld x1 (Rect.unit ![0, 2816] ![512, 128] inb_S512x5120_S512x128_0_2816))⟩,
   ⟨Rect.unit ![0, 2688] ![512, 128] inb_S512x5120_S512x128_0_2688, k0_pay51 (k0_pay50 (lo x2) k0_pay17 (View.ld x1 (Rect.unit ![0, 2688] ![512, 128] inb_S512x5120_S512x128_0_2688)))⟩,
   ⟨Rect.unit ![0, 2560] ![512, 128] inb_S512x5120_S512x128_0_2560, k0_pay49 (lo x2) k0_pay17 (View.ld x1 (Rect.unit ![0, 2560] ![512, 128] inb_S512x5120_S512x128_0_2560))⟩,
   ⟨Rect.unit ![0, 2432] ![512, 128] inb_S512x5120_S512x128_0_2432, k0_pay48 (lo x2) (k0_pay45 k0_pay17) (k0_pay46 k0_pay17) (k0_pay47 k0_pay17) (View.ld x1 (Rect.unit ![0, 2432] ![512, 128] inb_S512x5120_S512x128_0_2432))⟩,
   ⟨Rect.unit ![0, 2304] ![512, 128] inb_S512x5120_S512x128_0_2304, k0_pay44 (lo x2) k0_pay17 (View.ld x1 (Rect.unit ![0, 2304] ![512, 128] inb_S512x5120_S512x128_0_2304))⟩,
   ⟨Rect.unit ![0, 2176] ![512, 128] inb_S512x5120_S512x128_0_2176, k0_pay43 (lo x2) k0_pay17 (View.ld x1 (Rect.unit ![0, 2176] ![512, 128] inb_S512x5120_S512x128_0_2176))⟩,
   ⟨Rect.unit ![0, 2048] ![512, 128] inb_S512x5120_S512x128_0_2048, k0_pay42 (lo x2) k0_pay17 (View.ld x1 (Rect.unit ![0, 2048] ![512, 128] inb_S512x5120_S512x128_0_2048))⟩,
   ⟨Rect.unit ![0, 1920] ![512, 128] inb_S512x5120_S512x128_0_1920, k0_pay41 (lo x2) k0_pay17 (View.ld x1 (Rect.unit ![0, 1920] ![512, 128] inb_S512x5120_S512x128_0_1920))⟩,
   ⟨Rect.unit ![0, 1792] ![512, 128] inb_S512x5120_S512x128_0_1792, k0_pay40 (k0_pay39 (lo x2) k0_pay17) (View.ld x1 (Rect.unit ![0, 1792] ![512, 128] inb_S512x5120_S512x128_0_1792))⟩,
   ⟨Rect.unit ![0, 1664] ![512, 128] inb_S512x5120_S512x128_0_1664, k0_pay38 (lo x2) k0_pay17 (View.ld x1 (Rect.unit ![0, 1664] ![512, 128] inb_S512x5120_S512x128_0_1664))⟩,
   ⟨Rect.unit ![0, 1536] ![512, 128] inb_S512x5120_S512x128_0_1536, k0_pay37 (lo x2) (k0_pay36 k0_pay17) (0#32) (View.ld x1 (Rect.unit ![0, 1536] ![512, 128] inb_S512x5120_S512x128_0_1536))⟩,
   ⟨Rect.unit ![0, 1408] ![512, 128] inb_S512x5120_S512x128_0_1408, k0_pay35 (lo x2) k0_pay17 (View.ld x1 (Rect.unit ![0, 1408] ![512, 128] inb_S512x5120_S512x128_0_1408))⟩,
   ⟨Rect.unit ![0, 1280] ![512, 128] inb_S512x5120_S512x128_0_1280, k0_pay34 (lo x2) k0_pay17 (View.ld x1 (Rect.unit ![0, 1280] ![512, 128] inb_S512x5120_S512x128_0_1280))⟩,
   ⟨Rect.unit ![0, 1152] ![512, 128] inb_S512x5120_S512x128_0_1152, k0_pay33 (k0_pay32 (lo x2) k0_pay17 (View.ld x1 (Rect.unit ![0, 1152] ![512, 128] inb_S512x5120_S512x128_0_1152)))⟩,
   ⟨Rect.unit ![0, 1024] ![512, 128] inb_S512x5120_S512x128_0_1024, k0_pay31 (lo x2) k0_pay17 (View.ld x1 (Rect.unit ![0, 1024] ![512, 128] inb_S512x5120_S512x128_0_1024))⟩,
   ⟨Rect.unit ![0, 896] ![512, 128] inb_S512x5120_S512x128_0_896, k0_pay30 (lo x2) (k0_pay27 k0_pay17) (k0_pay28 k0_pay17) (k0_pay29 k0_pay17) (View.ld x1 (Rect.unit ![0, 896] ![512, 128] inb_S512x5120_S512x128_0_896))⟩,
   ⟨Rect.unit ![0, 768] ![512, 128] inb_S512x5120_S512x128_0_768, k0_pay26 (lo x2) k0_pay17 (View.ld x1 (Rect.unit ![0, 768] ![512, 128] inb_S512x5120_S512x128_0_768))⟩,
   ⟨Rect.unit ![0, 640] ![512, 128] inb_S512x5120_S512x128_0_640, k0_pay25 (lo x2) k0_pay17 (View.ld x1 (Rect.unit ![0, 640] ![512, 128] inb_S512x5120_S512x128_0_640))⟩,
   ⟨Rect.unit ![0, 512] ![512, 128] inb_S512x5120_S512x128_0_512, k0_pay24 (lo x2) k0_pay17 (View.ld x1 (Rect.unit ![0, 512] ![512, 128] inb_S512x5120_S512x128_0_512))⟩,
   ⟨Rect.unit ![0, 384] ![512, 128] inb_S512x5120_S512x128_0_384, k0_pay23 (lo x2) k0_pay17 (View.ld x1 (Rect.unit ![0, 384] ![512, 128] inb_S512x5120_S512x128_0_384))⟩,
   ⟨Rect.unit ![0, 256] ![512, 128] inb_S512x5120_S512x128_0_256, k0_pay22 (k0_pay21 (lo x2) k0_pay17) (View.ld x1 (Rect.unit ![0, 256] ![512, 128] inb_S512x5120_S512x128_0_256))⟩,
   ⟨Rect.unit ![0, 128] ![512, 128] inb_S512x5120_S512x128_0_128, k0_pay20 (lo x2) k0_pay17 (View.ld x1 (Rect.unit ![0, 128] ![512, 128] inb_S512x5120_S512x128_0_128))⟩,
   ⟨Rect.unit ![0, 0] ![512, 128] inb_S512x5120_S512x128_0_0, k0_pay19 (lo x2) k0_pay18 (0#32) (View.ld x1 (Rect.unit ![0, 0] ![512, 128] inb_S512x5120_S512x128_0_0))⟩]

theorem wpieces_cover (x1 : Vec Ideal S512x5120 .fp8e4m3) (x2 : Vec Ideal S160x512 .f32) (y : S512x5120.Idx) :
    ∃ p ∈ wpieces x1 x2, y ∈ p.1.set :=
  View.cover_of_tiledL (wpieces x1 x2) S512x128.size (by sl_kernel_rfl) y

/-- The scratch ends holding the block of weights, each times its group's scale. -/
theorem canon_wpieces (x1 : Vec Ideal S512x5120 .fp8e4m3) (x2 : Vec Ideal S160x512 .f32) :
    View.canon (wpieces x1 x2) = wblk x1 x2 := by
  funext y
  refine View.canon_apply_of_pieces (wblk x1 x2) _ ?_ y (wpieces_cover x1 x2 y)
  unfold wpieces
  simp only [List.forall_mem_cons]
  exact ⟨fun x => (congrFun (chunk_39 _ _) x).trans (piece_hi x1 x2 7 (by decide) _ x),
    fun x => (congrFun (chunk_38 _ _) x).trans (piece_hi x1 x2 6 (by decide) _ x),
    fun x => (congrFun (chunk_37 _ _) x).trans (piece_hi x1 x2 5 (by decide) _ x),
    fun x => (congrFun (chunk_36 _ _) x).trans (piece_hi x1 x2 4 (by decide) _ x),
    fun x => (congrFun (chunk_35 _ _) x).trans (piece_hi x1 x2 3 (by decide) _ x),
    fun x => (congrFun (chunk_34 _ _) x).trans (piece_hi x1 x2 2 (by decide) _ x),
    fun x => (congrFun (chunk_33 _ _) x).trans (piece_hi x1 x2 1 (by decide) _ x),
    fun x => (congrFun (chunk_32 _ _) x).trans (piece_hi x1 x2 0 (by decide) _ x),
    fun x => (congrFun (chunk_31 _ _) x).trans (piece_lo x1 x2 31 (by decide) _ x),
    fun x => (congrFun (chunk_30 _ _) x).trans (piece_lo x1 x2 30 (by decide) _ x),
    fun x => (congrFun (chunk_29 _ _) x).trans (piece_lo x1 x2 29 (by decide) _ x),
    fun x => (congrFun (chunk_28 _ _) x).trans (piece_lo x1 x2 28 (by decide) _ x),
    fun x => (congrFun (chunk_27 _ _) x).trans (piece_lo x1 x2 27 (by decide) _ x),
    fun x => (congrFun (chunk_26 _ _) x).trans (piece_lo x1 x2 26 (by decide) _ x),
    fun x => (congrFun (chunk_25 _ _) x).trans (piece_lo x1 x2 25 (by decide) _ x),
    fun x => (congrFun (chunk_24 _ _) x).trans (piece_lo x1 x2 24 (by decide) _ x),
    fun x => (congrFun (chunk_23 _ _) x).trans (piece_lo x1 x2 23 (by decide) _ x),
    fun x => (congrFun (chunk_22 _ _) x).trans (piece_lo x1 x2 22 (by decide) _ x),
    fun x => (congrFun (chunk_21 _ _) x).trans (piece_lo x1 x2 21 (by decide) _ x),
    fun x => (congrFun (chunk_20 _ _) x).trans (piece_lo x1 x2 20 (by decide) _ x),
    fun x => (congrFun (chunk_19 _ _) x).trans (piece_lo x1 x2 19 (by decide) _ x),
    fun x => (congrFun (chunk_18 _ _) x).trans (piece_lo x1 x2 18 (by decide) _ x),
    fun x => (congrFun (chunk_17 _ _) x).trans (piece_lo x1 x2 17 (by decide) _ x),
    fun x => (congrFun (chunk_16 _ _) x).trans (piece_lo x1 x2 16 (by decide) _ x),
    fun x => (congrFun (chunk_15 _ _) x).trans (piece_lo x1 x2 15 (by decide) _ x),
    fun x => (congrFun (chunk_14 _ _) x).trans (piece_lo x1 x2 14 (by decide) _ x),
    fun x => (congrFun (chunk_13 _ _) x).trans (piece_lo x1 x2 13 (by decide) _ x),
    fun x => (congrFun (chunk_12 _ _) x).trans (piece_lo x1 x2 12 (by decide) _ x),
    fun x => (congrFun (chunk_11 _ _) x).trans (piece_lo x1 x2 11 (by decide) _ x),
    fun x => (congrFun (chunk_10 _ _) x).trans (piece_lo x1 x2 10 (by decide) _ x),
    fun x => (congrFun (chunk_9 _ _) x).trans (piece_lo x1 x2 9 (by decide) _ x),
    fun x => (congrFun (chunk_8 _ _) x).trans (piece_lo x1 x2 8 (by decide) _ x),
    fun x => (congrFun (chunk_7 _ _) x).trans (piece_lo x1 x2 7 (by decide) _ x),
    fun x => (congrFun (chunk_6 _ _) x).trans (piece_lo x1 x2 6 (by decide) _ x),
    fun x => (congrFun (chunk_5 _ _) x).trans (piece_lo x1 x2 5 (by decide) _ x),
    fun x => (congrFun (chunk_4 _ _) x).trans (piece_lo x1 x2 4 (by decide) _ x),
    fun x => (congrFun (chunk_3 _ _) x).trans (piece_lo x1 x2 3 (by decide) _ x),
    fun x => (congrFun (chunk_2 _ _) x).trans (piece_lo x1 x2 2 (by decide) _ x),
    fun x => (congrFun (chunk_1 _ _) x).trans (piece_lo x1 x2 1 (by decide) _ x),
    fun x => (congrFun (chunk_0 _ _) x).trans (piece_lo x1 x2 0 (by decide) _ x),
    fun p hp => absurd hp List.not_mem_nil⟩

/-- The whole scratch read back. -/
theorem box_w (x1 : Vec Ideal S512x5120 .fp8e4m3) (x2 : Vec Ideal S160x512 .f32) :
    (fun y => View.canon (wpieces x1 x2) ((Rect.unit (s := S512x5120) ![0, 0] ![512, 5120] inb_S512x5120_S512x5120_0_0).idx y)) = wblk x1 x2 := by
  rw [canon_wpieces]
  funext y
  refine congrArg (wblk x1 x2) ?_
  funext a
  exact Fin.ext (by match a with
    | ⟨0, _⟩ => show 0 + 1 * (y 0).val = (y 0).val; omega
    | ⟨1, _⟩ => show 0 + 1 * (y 1).val = (y 1).val; omega)

/-- One point's work on the running maximum, one column per lane. -/
def newM (x0 : Vec Ideal S384x5120 .bf16) (w : Vec Ideal S512x5120 .bf16) (m : Vec Ideal S384x128 .f32) : Vec Ideal S384x128 .f32 :=
  k0_pay85 (k0_pay83 x0 w m)
/-- One point's work on the running sum. -/
def newL (x0 : Vec Ideal S384x5120 .bf16) (w : Vec Ideal S512x5120 .bf16) (m l : Vec Ideal S384x128 .f32) : Vec Ideal S384x128 .f32 :=
  k0_pay86 (k0_pay79 x0 w) (k0_pay80 x0 w) (k0_pay81 x0 w) (k0_pay82 x0 w) (k0_pay83 x0 w m) l (k0_pay84 x0 w m)
/-- One point's work on the picked candidates. -/
def newC (x0 : Vec Ideal S384x5120 .bf16) (w : Vec Ideal S512x5120 .bf16) (p : BitVec 32) (ids : Vec Ideal S384x128 .i32) (d : Vec Ideal S384x128 .f32) : Vec Ideal S384x128 .f32 :=
  k0_pay92 p (k0_pay81 x0 w) (k0_pay82 x0 w) (k0_pay88 p (k0_pay80 x0 w) (k0_pay87 p (k0_pay79 x0 w) d ids) ids)
    (k0_pay90 p ids) (k0_pay91 p ids) ids

theorem sout_A_1 (hc0 : cond0_0 i) (hc1 : ¬ cond0_1 i) (x0 : Vec Ideal S384x5120 .bf16) (x1 : Vec Ideal S512x5120 .fp8e4m3) (x2 : Vec Ideal S160x512 .f32) (x3 : Vec Ideal S384x128 .i32) :
    sout0_A_1 c i arg1 harg1 arg2 harg2 arg3 harg3 arg4 harg4 arg5 harg5 arg6 harg6 arg7 harg7 arg8 harg8 arg9 harg9 arg10 harg10 arg11 harg11 hc0 hc1 x0 x1 x2 x3 = newM x0 (wblk x1 x2) (k0_pay12 (F := Ideal)) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero (S := S384x128) hz]
  simp only [View.readAt_eq_ld, harg1.read_unread, harg2.read_unread, harg3.read_unread, harg4.read_unread, harg9.read_unread, harg10.read_unread, harg11.read_unread, View.ld_unit_zero (S := S384x128) hz, shapeCast_self, View.ld_unit_zero (S := S384x5120) hz, View.readCov_unit_zero (S := S384x128) _ hz, View.readCov_eq_canon']
  have hb := box_w x1 x2
  unfold wpieces lo hi at hb
  rw [hb]
  rfl

theorem sout_A_2 (hc0 : cond0_0 i) (hc1 : ¬ cond0_1 i) (x0 : Vec Ideal S384x5120 .bf16) (x1 : Vec Ideal S512x5120 .fp8e4m3) (x2 : Vec Ideal S160x512 .f32) (x3 : Vec Ideal S384x128 .i32) :
    sout0_A_2 c i arg1 harg1 arg2 harg2 arg3 harg3 arg4 harg4 arg5 harg5 arg6 harg6 arg7 harg7 arg8 harg8 arg9 harg9 arg10 harg10 arg11 harg11 hc0 hc1 x0 x1 x2 x3 = newL x0 (wblk x1 x2) (k0_pay12 (F := Ideal)) (k0_pay13 (F := Ideal)) := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero (S := S384x128) hz]
  simp only [View.readAt_eq_ld, harg1.read_unread, harg2.read_unread, harg3.read_unread, harg4.read_unread, harg9.read_unread, harg10.read_unread, harg11.read_unread, View.ld_unit_zero (S := S384x128) hz, shapeCast_self, View.ld_unit_zero (S := S384x5120) hz, View.readCov_unit_zero (S := S384x128) _ hz, View.readCov_eq_canon']
  have hb := box_w x1 x2
  unfold wpieces lo hi at hb
  rw [hb]
  rfl

theorem sout_A_3 (hc0 : cond0_0 i) (hc1 : ¬ cond0_1 i) (x0 : Vec Ideal S384x5120 .bf16) (x1 : Vec Ideal S512x5120 .fp8e4m3) (x2 : Vec Ideal S160x512 .f32) (x3 : Vec Ideal S384x128 .i32) :
    sout0_A_3 c i arg1 harg1 arg2 harg2 arg3 harg3 arg4 harg4 arg5 harg5 arg6 harg6 arg7 harg7 arg8 harg8 arg9 harg9 arg10 harg10 arg11 harg11 hc0 hc1 x0 x1 x2 x3 = newC x0 (wblk x1 x2) (BitVec.ofNat 32 (i 0).val) x3 (k0_pay14 (F := Ideal)) := by
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero (S := S384x128) hz]
  simp only [View.readAt_eq_ld, harg1.read_unread, harg2.read_unread, harg3.read_unread, harg4.read_unread, harg9.read_unread, harg10.read_unread, harg11.read_unread, View.ld_unit_zero (S := S384x128) hz, shapeCast_self, View.ld_unit_zero (S := S384x5120) hz, View.readCov_unit_zero (S := S384x128) _ hz, View.readCov_eq_canon']
  have hb := box_w x1 x2
  unfold wpieces lo hi at hb
  rw [hb]
  simp only [newC, k0_pay88, k0_pay90, k0_pay91, k0_pay89, shapeCast_self]

theorem sout_B_1 (hc0 : ¬ cond0_0 i) (hc1 : ¬ cond0_1 i) (x0 : Vec Ideal S384x5120 .bf16) (x1 : Vec Ideal S512x5120 .fp8e4m3) (x2 : Vec Ideal S160x512 .f32) (x3 : Vec Ideal S384x128 .i32) (xs1 xs2 xs3 : Vec Ideal S384x128 .f32) :
    sout0_B_1 c i arg1 harg1 arg2 harg2 arg3 harg3 arg4 harg4 arg5 harg5 arg6 harg6 arg7 harg7 arg8 harg8 arg9 harg9 arg10 harg10 arg11 harg11 hc0 hc1 x0 x1 x2 x3 xs1 xs2 xs3 = newM x0 (wblk x1 x2) xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 hc0 hc1 x0 x1 x2 x3 xs1 xs2 xs3)]
  unfold kernelRun0_B
  dsimp only
  sl_unfold_words
  rw [View.canon_cons_unit_zero (S := S384x128) hz]
  simp only [View.readAt_eq_ld, harg1.read_unread, harg2.read_unread, harg3.read_unread, harg4.read_unread, harg9.read_unread, harg10.read_unread, harg11.read_unread, View.ld_unit_zero (S := S384x128) hz, shapeCast_self, View.ld_unit_zero (S := S384x5120) hz, View.readCov_unit_zero (S := S384x128) _ hz, View.readCov_eq_canon']
  have hb := box_w x1 x2
  unfold wpieces lo hi at hb
  rw [hb]
  rfl

theorem sout_B_2 (hc0 : ¬ cond0_0 i) (hc1 : ¬ cond0_1 i) (x0 : Vec Ideal S384x5120 .bf16) (x1 : Vec Ideal S512x5120 .fp8e4m3) (x2 : Vec Ideal S160x512 .f32) (x3 : Vec Ideal S384x128 .i32) (xs1 xs2 xs3 : Vec Ideal S384x128 .f32) :
    sout0_B_2 c i arg1 harg1 arg2 harg2 arg3 harg3 arg4 harg4 arg5 harg5 arg6 harg6 arg7 harg7 arg8 harg8 arg9 harg9 arg10 harg10 arg11 harg11 hc0 hc1 x0 x1 x2 x3 xs1 xs2 xs3 = newL x0 (wblk x1 x2) xs1 xs2 := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 arg11 harg11 hc0 hc1 x0 x1 x2 x3 xs1 xs2 xs3)]
  unfold kernelRun0_B
  dsimp only
  sl_unfold_words
  rw [View.canon_cons_unit_zero (S := S384x128) hz]
  simp only [View.readAt_eq_ld, harg1.read_unread, harg2.read_unread, harg3.read_unread, harg4.read_unread, harg9.read_unread, harg10.read_unread, harg11.read_unread, View.ld_unit_zero (S := S384x128) hz, shapeCast_self, View.ld_unit_zero (S := S384x5120) hz, View.readCov_unit_zero (S := S384x128) _ hz, View.readCov_eq_canon']
  have hb := box_w x1 x2
  unfold wpieces lo hi at hb
  rw [hb]
  rfl

theorem sout_B_3 (hc0 : ¬ cond0_0 i) (hc1 : ¬ cond0_1 i) (x0 : Vec Ideal S384x5120 .bf16) (x1 : Vec Ideal S512x5120 .fp8e4m3) (x2 : Vec Ideal S160x512 .f32) (x3 : Vec Ideal S384x128 .i32) (xs1 xs2 xs3 : Vec Ideal S384x128 .f32) :
    sout0_B_3 c i arg1 harg1 arg2 harg2 arg3 harg3 arg4 harg4 arg5 harg5 arg6 harg6 arg7 harg7 arg8 harg8 arg9 harg9 arg10 harg10 arg11 harg11 hc0 hc1 x0 x1 x2 x3 xs1 xs2 xs3 = newC x0 (wblk x1 x2) (BitVec.ofNat 32 (i 0).val) x3 xs3 := by
  unfold sout0_B_3
  rw [View.read_writes_eq_canon _ _ _ (scover0_B_3 c i arg1 harg1 arg2 harg2 arg3 harg3 arg4 harg4 arg5 harg5 arg6 harg6 arg7 harg7 arg8 harg8 arg9 harg9 arg10 harg10 arg11 harg11 hc0 hc1 x0 x1 x2 x3 xs1 xs2 xs3)]
  unfold kernelRun0_B
  dsimp only
  sl_unfold_words
  rw [View.canon_cons_unit_zero (S := S384x128) hz]
  simp only [View.readAt_eq_ld, harg1.read_unread, harg2.read_unread, harg3.read_unread, harg4.read_unread, harg9.read_unread, harg10.read_unread, harg11.read_unread, View.ld_unit_zero (S := S384x128) hz, shapeCast_self, View.ld_unit_zero (S := S384x5120) hz, View.readCov_unit_zero (S := S384x128) _ hz, View.readCov_eq_canon']
  have hb := box_w x1 x2
  unfold wpieces lo hi at hb
  rw [hb]
  simp only [newC, k0_pay88, k0_pay90, k0_pay91, k0_pay89, shapeCast_self]

theorem sout_C_1 (hc0 : ¬ cond0_0 i) (hc1 : cond0_1 i) (x0 : Vec Ideal S384x5120 .bf16) (x1 : Vec Ideal S512x5120 .fp8e4m3) (x2 : Vec Ideal S160x512 .f32) (x3 : Vec Ideal S384x128 .i32) (xs1 xs2 xs3 : Vec Ideal S384x128 .f32) :
    sout0_C_1 c i arg1 harg1 arg2 harg2 arg3 harg3 arg4 harg4 arg5 harg5 arg6 harg6 arg7 harg7 arg8 harg8 arg9 harg9 arg10 harg10 arg11 harg11 hc0 hc1 x0 x1 x2 x3 xs1 xs2 xs3 = newM x0 (wblk x1 x2) xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 hc0 hc1 x0 x1 x2 x3 xs1 xs2 xs3)]
  unfold kernelRun0_C
  dsimp only
  sl_unfold_words
  rw [View.canon_cons_unit_zero (S := S384x128) hz]
  simp only [View.readAt_eq_ld, harg1.read_unread, harg2.read_unread, harg3.read_unread, harg4.read_unread, harg9.read_unread, harg10.read_unread, harg11.read_unread, View.ld_unit_zero (S := S384x128) hz, shapeCast_self, View.ld_unit_zero (S := S384x5120) hz, View.readCov_unit_zero (S := S384x128) _ hz, View.readCov_eq_canon']
  have hb := box_w x1 x2
  unfold wpieces lo hi at hb
  rw [hb]
  rfl

theorem sout_C_2 (hc0 : ¬ cond0_0 i) (hc1 : cond0_1 i) (x0 : Vec Ideal S384x5120 .bf16) (x1 : Vec Ideal S512x5120 .fp8e4m3) (x2 : Vec Ideal S160x512 .f32) (x3 : Vec Ideal S384x128 .i32) (xs1 xs2 xs3 : Vec Ideal S384x128 .f32) :
    sout0_C_2 c i arg1 harg1 arg2 harg2 arg3 harg3 arg4 harg4 arg5 harg5 arg6 harg6 arg7 harg7 arg8 harg8 arg9 harg9 arg10 harg10 arg11 harg11 hc0 hc1 x0 x1 x2 x3 xs1 xs2 xs3 = newL x0 (wblk x1 x2) xs1 xs2 := by
  unfold sout0_C_2
  rw [View.read_writes_eq_canon _ _ _ (scover0_C_2 c i arg1 harg1 arg2 harg2 arg3 harg3 arg4 harg4 arg5 harg5 arg6 harg6 arg7 harg7 arg8 harg8 arg9 harg9 arg10 harg10 arg11 harg11 hc0 hc1 x0 x1 x2 x3 xs1 xs2 xs3)]
  unfold kernelRun0_C
  dsimp only
  sl_unfold_words
  rw [View.canon_cons_unit_zero (S := S384x128) hz]
  simp only [View.readAt_eq_ld, harg1.read_unread, harg2.read_unread, harg3.read_unread, harg4.read_unread, harg9.read_unread, harg10.read_unread, harg11.read_unread, View.ld_unit_zero (S := S384x128) hz, shapeCast_self, View.ld_unit_zero (S := S384x5120) hz, View.readCov_unit_zero (S := S384x128) _ hz, View.readCov_eq_canon']
  have hb := box_w x1 x2
  unfold wpieces lo hi at hb
  rw [hb]
  rfl

theorem sout_C_3 (hc0 : ¬ cond0_0 i) (hc1 : cond0_1 i) (x0 : Vec Ideal S384x5120 .bf16) (x1 : Vec Ideal S512x5120 .fp8e4m3) (x2 : Vec Ideal S160x512 .f32) (x3 : Vec Ideal S384x128 .i32) (xs1 xs2 xs3 : Vec Ideal S384x128 .f32) :
    sout0_C_3 c i arg1 harg1 arg2 harg2 arg3 harg3 arg4 harg4 arg5 harg5 arg6 harg6 arg7 harg7 arg8 harg8 arg9 harg9 arg10 harg10 arg11 harg11 hc0 hc1 x0 x1 x2 x3 xs1 xs2 xs3 = newC x0 (wblk x1 x2) (BitVec.ofNat 32 (i 0).val) x3 xs3 := by
  unfold sout0_C_3
  rw [View.read_writes_eq_canon _ _ _ (scover0_C_3 c i arg1 harg1 arg2 harg2 arg3 harg3 arg4 harg4 arg5 harg5 arg6 harg6 arg7 harg7 arg8 harg8 arg9 harg9 arg10 harg10 arg11 harg11 hc0 hc1 x0 x1 x2 x3 xs1 xs2 xs3)]
  unfold kernelRun0_C
  dsimp only
  sl_unfold_words
  rw [View.canon_cons_unit_zero (S := S384x128) hz]
  simp only [View.readAt_eq_ld, harg1.read_unread, harg2.read_unread, harg3.read_unread, harg4.read_unread, harg9.read_unread, harg10.read_unread, harg11.read_unread, View.ld_unit_zero (S := S384x128) hz, shapeCast_self, View.ld_unit_zero (S := S384x5120) hz, View.readCov_unit_zero (S := S384x128) _ hz, View.readCov_eq_canon']
  have hb := box_w x1 x2
  unfold wpieces lo hi at hb
  rw [hb]
  simp only [newC, k0_pay88, k0_pay90, k0_pay91, k0_pay89, shapeCast_self]

end Pieces

end Cert.KernelIdeal.Value
-- ==== Proof.Last.lean ====
/-
  What the last point writes to the three results: from the final maximum, sum and candidates of every row and lane, three
  blocks of 128 rows each are turned into one row of the result.
-/
module

public import proofs.«01_k».proof.Proof.Block

@[expose] public section

set_option maxRecDepth 16384

noncomputable section

open Idealize.ShloMosaic Idealize.ShloMosaic.TcCoe Idealize.SL.Sem

namespace Cert.KernelIdeal.Value

open Cert.KernelIdeal Cert.KernelIdeal.Gen

/-- The three rows of the log-sum-exp result, as stored. -/
def lseL (M L : Vec Ideal S384x128 .f32) : List (View.Piece (Elt Ideal) S3x128 .f32) :=
  [⟨Rect.unit ![2, 0] ![1, 128] inb_S3x128_S1x128_2_0, k0_pay3 (k0_pay7 M L M)⟩,
   ⟨Rect.unit ![1, 0] ![1, 128] inb_S3x128_S1x128_1_0, k0_pay11 M L M⟩,
   ⟨Rect.unit ![0, 0] ![1, 128] inb_S3x128_S1x128_0_0, k0_pay8 M L M⟩]
/-- The three rows of the maximum result, as stored. -/
def maxL (M : Vec Ideal S384x128 .f32) : List (View.Piece (Elt Ideal) S3x128 .f32) :=
  [⟨Rect.unit ![2, 0] ![1, 128] inb_S3x128_S1x128_2_0, k0_pay4 (k0_pay6 M)⟩,
   ⟨Rect.unit ![1, 0] ![1, 128] inb_S3x128_S1x128_1_0, k0_pay1 (k0_pay6 M)⟩,
   ⟨Rect.unit ![0, 0] ![1, 128] inb_S3x128_S1x128_0_0, k0_pay9 M⟩]
/-- The three blocks of the candidate result, as stored. -/
def candL (C : Vec Ideal S384x128 .f32) : List (View.Piece (Elt Ideal) S3x8x128 .f32) :=
  [⟨Rect.unit ![2, 0, 0] ![1, 8, 128] inb_S3x8x128_S1x8x128_2_0_0, k0_pay5 (fun j => C ((Rect.unit (s := S384x128) ![256, 0] ![128, 128] inb_S384x128_S128x128_256_0).idx j))⟩,
   ⟨Rect.unit ![1, 0, 0] ![1, 8, 128] inb_S3x8x128_S1x8x128_1_0_0, k0_pay2 (fun j => C ((Rect.unit (s := S384x128) ![128, 0] ![128, 128] inb_S384x128_S128x128_128_0).idx j))⟩,
   ⟨Rect.unit ![0, 0, 0] ![1, 8, 128] inb_S3x8x128_S1x8x128_0_0_0, k0_pay10 (fun j => C ((Rect.unit (s := S384x128) ![0, 0] ![128, 128] inb_S384x128_S128x128_0_0).idx j))⟩]

section Stores

variable (c : Dev nD) (i : grid0.Coords) (arg1 : Memref sig .tc .vmem S384x5120 .bf16) (harg1 : arg1.IsWhole) (arg2 : Memref sig .tc .vmem S512x5120 .fp8e4m3) (harg2 : arg2.IsWhole) (arg3 : Memref sig .tc .vmem S160x512 .f32) (harg3 : arg3.IsWhole) (arg4 : Memref sig .tc .vmem S384x128 .i32) (harg4 : arg4.IsWhole) (arg5 : Memref sig .tc .vmem S3x128 .f32) (harg5 : arg5.IsWhole) (arg6 : Memref sig .tc .vmem S3x128 .f32) (harg6 : arg6.IsWhole) (arg7 : Memref sig .tc .vmem S3x8x128 .f32) (harg7 : arg7.IsWhole) (arg8 : Memref sig .tc .vmem S512x5120 .bf16) (harg8 : arg8.IsWhole) (arg9 : Memref sig .tc .vmem S384x128 .f32) (harg9 : arg9.IsWhole) (arg10 : Memref sig .tc .vmem S384x128 .f32) (harg10 : arg10.IsWhole) (arg11 : Memref sig .tc .vmem S384x128 .f32) (harg11 : arg11.IsWhole)

theorem out_C_4 (hc0 : ¬ cond0_0 i) (hc1 : cond0_1 i) (x0 : Vec Ideal S384x5120 .bf16) (x1 : Vec Ideal S512x5120 .fp8e4m3) (x2 : Vec Ideal S160x512 .f32) (x3 : Vec Ideal S384x128 .i32) (xs1 xs2 xs3 : Vec Ideal S384x128 .f32) :
    out0_C_4 c i arg1 harg1 arg2 harg2 arg3 harg3 arg4 harg4 arg5 harg5 arg6 harg6 arg7 harg7 arg8 harg8 arg9 harg9 arg10 harg10 arg11 harg11 hc0 hc1 x0 x1 x2 x3 xs1 xs2 xs3 = View.canon (lseL (newM x0 (wblk x1 x2) xs1) (newL x0 (wblk x1 x2) xs1 xs2)) := by
  unfold out0_C_4
  rw [View.read_writes_eq_canon _ _ _ (cover0_C_4 c i arg1 harg1 arg2 harg2 arg3 harg3 arg4 harg4 arg5 harg5 arg6 harg6 arg7 harg7 arg8 harg8 arg9 harg9 arg10 harg10 arg11 harg11 hc0 hc1 x0 x1 x2 x3 xs1 xs2 xs3)]
  unfold kernelRun0_C
  dsimp only
  sl_unfold_words
  simp only [View.readAt_eq_ld, harg1.read_unread, harg2.read_unread, harg3.read_unread, harg4.read_unread, harg9.read_unread, harg10.read_unread, harg11.read_unread, View.ld_unit_zero (S := S384x128) hz, shapeCast_self, View.ld_unit_zero (S := S384x5120) hz, View.readCov_unit_zero (S := S384x128) _ hz, View.readCov_eq_canon', View.canon_unit_zero (S := S384x128) hz]
  have hb := box_w x1 x2
  unfold wpieces lo hi at hb
  rw [hb]
  rfl

theorem out_C_5 (hc0 : ¬ cond0_0 i) (hc1 : cond0_1 i) (x0 : Vec Ideal S384x5120 .bf16) (x1 : Vec Ideal S512x5120 .fp8e4m3) (x2 : Vec Ideal S160x512 .f32) (x3 : Vec Ideal S384x128 .i32) (xs1 xs2 xs3 : Vec Ideal S384x128 .f32) :
    out0_C_5 c i arg1 harg1 arg2 harg2 arg3 harg3 arg4 harg4 arg5 harg5 arg6 harg6 arg7 harg7 arg8 harg8 arg9 harg9 arg10 harg10 arg11 harg11 hc0 hc1 x0 x1 x2 x3 xs1 xs2 xs3 = View.canon (maxL (newM x0 (wblk x1 x2) xs1)) := by
  unfold out0_C_5
  rw [View.read_writes_eq_canon _ _ _ (cover0_C_5 c i arg1 harg1 arg2 harg2 arg3 harg3 arg4 harg4 arg5 harg5 arg6 harg6 arg7 harg7 arg8 harg8 arg9 harg9 arg10 harg10 arg11 harg11 hc0 hc1 x0 x1 x2 x3 xs1 xs2 xs3)]
  unfold kernelRun0_C
  dsimp only
  sl_unfold_words
  simp only [View.readAt_eq_ld, harg1.read_unread, harg2.read_unread, harg3.read_unread, harg4.read_unread, harg9.read_unread, harg10.read_unread, harg11.read_unread, View.ld_unit_zero (S := S384x128) hz, shapeCast_self, View.ld_unit_zero (S := S384x5120) hz, View.readCov_unit_zero (S := S384x128) _ hz, View.readCov_eq_canon', View.canon_unit_zero (S := S384x128) hz]
  have hb := box_w x1 x2
  unfold wpieces lo hi at hb
  rw [hb]
  rfl

theorem out_C_6 (hc0 : ¬ cond0_0 i) (hc1 : cond0_1 i) (x0 : Vec Ideal S384x5120 .bf16) (x1 : Vec Ideal S512x5120 .fp8e4m3) (x2 : Vec Ideal S160x512 .f32) (x3 : Vec Ideal S384x128 .i32) (xs1 xs2 xs3 : Vec Ideal S384x128 .f32) :
    out0_C_6 c i arg1 harg1 arg2 harg2 arg3 harg3 arg4 harg4 arg5 harg5 arg6 harg6 arg7 harg7 arg8 harg8 arg9 harg9 arg10 harg10 arg11 harg11 hc0 hc1 x0 x1 x2 x3 xs1 xs2 xs3 = View.canon (candL (newC x0 (wblk x1 x2) (BitVec.ofNat 32 (i 0).val) x3 xs3)) := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 arg11 harg11 hc0 hc1 x0 x1 x2 x3 xs1 xs2 xs3)]
  unfold kernelRun0_C
  dsimp only
  sl_unfold_words
  simp only [View.readAt_eq_ld, harg1.read_unread, harg2.read_unread, harg3.read_unread, harg4.read_unread, harg9.read_unread, harg10.read_unread, harg11.read_unread, View.ld_unit_zero (S := S384x128) hz, shapeCast_self, View.ld_unit_zero (S := S384x5120) hz, View.readCov_unit_zero (S := S384x128) _ hz, View.readCov_eq_canon', View.canon_unit_zero (S := S384x128) hz]
  have hb := box_w x1 x2
  unfold wpieces lo hi at hb
  rw [hb]
  simp only [candL, newC, k0_pay88, k0_pay90, k0_pay91, k0_pay89, shapeCast_self]
  rfl

end Stores

theorem ofBits_neg_inf : Ideal.ofBits FTy.f32 0xFF800000#32 = ⊥ := by
  unfold Ideal.ofBits
  decide

/-- The maximum of a row's lanes. -/
theorem pay6_apply (M : Vec Ideal S384x128 .f32) (y : S384x1.Idx) :
    (k0_pay6 M y : EReal) = Finset.univ.sup fun j : Fin 128 => (M (ix2 (y 0) j) : EReal) := by
  idx_vars y
  unfold k0_pay6
  pointwise
  rw [show Ideal.ofBits FTy.f32 4286578688#32 = ⊥ from ofBits_neg_inf]
  rfl

/-- The log-sum-exp of a row, from its lanes' maxima and sums. -/
theorem pay7_apply (M L : Vec Ideal S384x128 .f32) (y : S384x1.Idx) :
    (k0_pay7 M L M y : EReal) = k0_pay6 M y + Ideal.log (∑ j : Fin 128, (L (ix2 (y 0) j) : EReal) * Ideal.exp ((M (ix2 (y 0) j) : EReal) - k0_pay6 M y)) := by
  idx_vars y
  obtain rfl : y1 = 0 := Subsingleton.elim _ _
  unfold k0_pay7
  pointwise

theorem row3 (Z : FVec Ideal S384x1 .f32) (x : S1x128.Idx) : (k0_pay3 Z x : EReal) = Z (ix2 ⟨256 + (x 1).val, by have : (x 1).val < 128 := (x 1).isLt; omega⟩ 0) := by
  idx_vars x
  unfold k0_pay3
  pointwise

theorem row4 (Z : FVec Ideal S384x1 .f32) (x : S1x128.Idx) : (k0_pay4 Z x : EReal) = Z (ix2 ⟨256 + (x 1).val, by have : (x 1).val < 128 := (x 1).isLt; omega⟩ 0) := by
  idx_vars x
  unfold k0_pay4
  pointwise

theorem row1 (Z : FVec Ideal S384x1 .f32) (x : S1x128.Idx) : (k0_pay1 Z x : EReal) = Z (ix2 ⟨128 + (x 1).val, by have : (x 1).val < 128 := (x 1).isLt; omega⟩ 0) := by
  idx_vars x
  unfold k0_pay1
  pointwise

theorem row11 (M L : Vec Ideal S384x128 .f32) (x : S1x128.Idx) : (k0_pay11 M L M x : EReal) = k0_pay7 M L M (ix2 ⟨128 + (x 1).val, by have : (x 1).val < 128 := (x 1).isLt; omega⟩ 0) := by
  idx_vars x
  unfold k0_pay11
  generalize k0_pay7 M L M = Z
  pointwise

theorem row8 (M L : Vec Ideal S384x128 .f32) (x : S1x128.Idx) : (k0_pay8 M L M x : EReal) = k0_pay7 M L M (ix2 ⟨0 + (x 1).val, by have : (x 1).val < 128 := (x 1).isLt; omega⟩ 0) := by
  idx_vars x
  unfold k0_pay8
  generalize k0_pay7 M L M = Z
  pointwise

theorem row9 (M : Vec Ideal S384x128 .f32) (x : S1x128.Idx) : (k0_pay9 M x : EReal) = k0_pay6 M (ix2 ⟨0 + (x 1).val, by have : (x 1).val < 128 := (x 1).isLt; omega⟩ 0) := by
  idx_vars x
  unfold k0_pay9
  generalize k0_pay6 M = Z
  pointwise

theorem row5 (Z : Vec Ideal S128x128 .f32) (x : S1x8x128.Idx) : (k0_pay5 Z x : EReal) = Z (ix2 (x 2) ⟨(x 1).val, by have : (x 1).val < 8 := (x 1).isLt; omega⟩) := by
  idx_vars x
  unfold k0_pay5
  pointwise

theorem row2 (Z : Vec Ideal S128x128 .f32) (x : S1x8x128.Idx) : (k0_pay2 Z x : EReal) = Z (ix2 (x 2) ⟨(x 1).val, by have : (x 1).val < 8 := (x 1).isLt; omega⟩) := by
  idx_vars x
  unfold k0_pay2
  pointwise

theorem row10 (Z : Vec Ideal S128x128 .f32) (x : S1x8x128.Idx) : (k0_pay10 Z x : EReal) = Z (ix2 (x 2) ⟨(x 1).val, by have : (x 1).val < 8 := (x 1).isLt; omega⟩) := by
  idx_vars x
  unfold k0_pay10
  pointwise

/-- Row number of entry `(k, b)` in the flattened array of 3 blocks of 128 rows. -/
def flat (k : Fin 3) (b : Fin 128) : Fin 384 := ⟨128 * k.val + b.val, by omega⟩

theorem lse_canon (M L : Vec Ideal S384x128 .f32) (y : S3x128.Idx) :
    View.canon (lseL M L) y = k0_pay7 M L M (ix2 (flat (y 0) (y 1)) 0) := by
  refine View.canon_apply_of_pieces (fun y : S3x128.Idx => k0_pay7 M L M (ix2 (flat (y 0) (y 1)) 0)) _ ?_ y (View.cover_of_tiledL (lseL M L) S1x128.size (by sl_kernel_rfl) y)
  unfold lseL
  simp only [List.forall_mem_cons]
  refine ⟨fun x => ?_, fun x => ?_, fun x => ?_, fun p hp => absurd hp List.not_mem_nil⟩
  · have hx0 : (x 0).val < 1 := (x 0).isLt
    refine (row3 _ x).trans (congrArg (fun a => k0_pay7 M L M (ix2 a 0)) (Fin.ext ?_))
    show 256 + (x 1).val = 128 * (2 + 1 * (x 0).val) + (0 + 1 * (x 1).val)
    omega
  · have hx0 : (x 0).val < 1 := (x 0).isLt
    refine (row11 M L x).trans (congrArg (fun a => k0_pay7 M L M (ix2 a 0)) (Fin.ext ?_))
    show 128 + (x 1).val = 128 * (1 + 1 * (x 0).val) + (0 + 1 * (x 1).val)
    omega
  · have hx0 : (x 0).val < 1 := (x 0).isLt
    refine (row8 M L x).trans (congrArg (fun a => k0_pay7 M L M (ix2 a 0)) (Fin.ext ?_))
    show 0 + (x 1).val = 128 * (0 + 1 * (x 0).val) + (0 + 1 * (x 1).val)
    omega

theorem max_canon (M : Vec Ideal S384x128 .f32) (y : S3x128.Idx) :
    View.canon (maxL M) y = k0_pay6 M (ix2 (flat (y 0) (y 1)) 0) := by
  refine View.canon_apply_of_pieces (fun y : S3x128.Idx => k0_pay6 M (ix2 (flat (y 0) (y 1)) 0)) _ ?_ y (View.cover_of_tiledL (maxL M) S1x128.size (by sl_kernel_rfl) y)
  unfold maxL
  simp only [List.forall_mem_cons]
  refine ⟨fun x => ?_, fun x => ?_, fun x => ?_, fun p hp => absurd hp List.not_mem_nil⟩
  · have hx0 : (x 0).val < 1 := (x 0).isLt
    refine (row4 _ x).trans (congrArg (fun a => k0_pay6 M (ix2 a 0)) (Fin.ext ?_))
    show 256 + (x 1).val = 128 * (2 + 1 * (x 0).val) + (0 + 1 * (x 1).val)
    omega
  · have hx0 : (x 0).val < 1 := (x 0).isLt
    refine (row1 _ x).trans (congrArg (fun a => k0_pay6 M (ix2 a 0)) (Fin.ext ?_))
    show 128 + (x 1).val = 128 * (1 + 1 * (x 0).val) + (0 + 1 * (x 1).val)
    omega
  · have hx0 : (x 0).val < 1 := (x 0).isLt
    refine (row9 M x).trans (congrArg (fun a => k0_pay6 M (ix2 a 0)) (Fin.ext ?_))
    show 0 + (x 1).val = 128 * (0 + 1 * (x 0).val) + (0 + 1 * (x 1).val)
    omega

theorem cand_canon (C : Vec Ideal S384x128 .f32) (y : S3x8x128.Idx) :
    View.canon (candL C) y = C (ix2 (flat (y 0) (y 2)) ⟨(y 1).val, by have : (y 1).val < 8 := (y 1).isLt; omega⟩) := by
  refine View.canon_apply_of_pieces (fun y : S3x8x128.Idx => C (ix2 (flat (y 0) (y 2)) ⟨(y 1).val, by have : (y 1).val < 8 := (y 1).isLt; omega⟩)) _ ?_ y (View.cover_of_tiledL (candL C) S1x8x128.size (by sl_kernel_rfl) y)
  unfold candL
  simp only [List.forall_mem_cons]
  refine ⟨fun x => ?_, fun x => ?_, fun x => ?_, fun p hp => absurd hp List.not_mem_nil⟩
  · have hx0 : (x 0).val < 1 := (x 0).isLt
    refine (row5 _ x).trans (congrArg C ?_)
    funext a
    apply Fin.ext
    match a with
    | ⟨0, _⟩ => show 256 + 1 * (x 2).val = 128 * (2 + 1 * (x 0).val) + (0 + 1 * (x 2).val); omega
    | ⟨1, _⟩ => show 0 + 1 * (x 1).val = 0 + 1 * (x 1).val; omega
  · have hx0 : (x 0).val < 1 := (x 0).isLt
    refine (row2 _ x).trans (congrArg C ?_)
    funext a
    apply Fin.ext
    match a with
    | ⟨0, _⟩ => show 128 + 1 * (x 2).val = 128 * (1 + 1 * (x 0).val) + (0 + 1 * (x 2).val); omega
    | ⟨1, _⟩ => show 0 + 1 * (x 1).val = 0 + 1 * (x 1).val; omega
  · have hx0 : (x 0).val < 1 := (x 0).isLt
    refine (row10 _ x).trans (congrArg C ?_)
    funext a
    apply Fin.ext
    match a with
    | ⟨0, _⟩ => show 0 + 1 * (x 2).val = 128 * (0 + 1 * (x 0).val) + (0 + 1 * (x 2).val); omega
    | ⟨1, _⟩ => show 0 + 1 * (x 1).val = 0 + 1 * (x 1).val; omega

end Cert.KernelIdeal.Value
-- ==== Proof.Step.lean ====
/-
  One grid point's work, entry by entry over the reals.
-/
module

public import proofs.«01_k».proof.Proof.Block

@[expose] public section

set_option maxRecDepth 16384

noncomputable section

open Idealize.ShloMosaic Idealize.ShloMosaic.TcCoe Idealize.SL.Sem

namespace Cert.KernelIdeal.Value

open Cert.KernelIdeal Cert.KernelIdeal.Gen

/-- The product of row `r` of the activations with row `v` of a block of scaled weights. -/
def prodAt (x0 : Vec Ideal S384x5120 .bf16) (w : Vec Ideal S512x5120 .bf16) (r : Fin 384) (v : Fin 512) : EReal :=
  ∑ d : Fin 5120, (x0 (ix2 r d) : EReal) * (w (ix2 v d) : EReal)

theorem pay78_apply (x0 : Vec Ideal S384x5120 .bf16) (w : Vec Ideal S512x5120 .bf16) (y : S384x512.Idx) :
    (k0_pay78 x0 w y : EReal) = prodAt x0 w (y 0) (y 1) := by
  idx_vars y
  unfold k0_pay78 prodAt
  pointwise

theorem pay79_apply (x0 : Vec Ideal S384x5120 .bf16) (w : Vec Ideal S512x5120 .bf16) (y : S384x128.Idx) :
    (k0_pay79 x0 w y : EReal) = k0_pay78 x0 w (ix2 (y 0) ⟨(y 1).val, by have : (y 1).val < 128 := (y 1).isLt; omega⟩) := by
  idx_vars y
  unfold k0_pay79
  pointwise

theorem pay80_apply (x0 : Vec Ideal S384x5120 .bf16) (w : Vec Ideal S512x5120 .bf16) (y : S384x128.Idx) :
    (k0_pay80 x0 w y : EReal) = k0_pay78 x0 w (ix2 (y 0) ⟨128 + (y 1).val, by have : (y 1).val < 128 := (y 1).isLt; omega⟩) := by
  idx_vars y
  unfold k0_pay80
  pointwise

theorem pay81_apply (x0 : Vec Ideal S384x5120 .bf16) (w : Vec Ideal S512x5120 .bf16) (y : S384x128.Idx) :
    (k0_pay81 x0 w y : EReal) = k0_pay78 x0 w (ix2 (y 0) ⟨256 + (y 1).val, by have : (y 1).val < 128 := (y 1).isLt; omega⟩) := by
  idx_vars y
  unfold k0_pay81
  pointwise

theorem pay82_apply (x0 : Vec Ideal S384x5120 .bf16) (w : Vec Ideal S512x5120 .bf16) (y : S384x128.Idx) :
    (k0_pay82 x0 w y : EReal) = k0_pay78 x0 w (ix2 (y 0) ⟨384 + (y 1).val, by have : (y 1).val < 128 := (y 1).isLt; omega⟩) := by
  idx_vars y
  unfold k0_pay82
  pointwise

theorem newM_apply (x0 : Vec Ideal S384x5120 .bf16) (w : Vec Ideal S512x5120 .bf16) (m : Vec Ideal S384x128 .f32) (y : S384x128.Idx) :
    (newM x0 w m y : EReal) = max (max (max (max (m y : EReal) (k0_pay79 x0 w y)) (k0_pay80 x0 w y)) (k0_pay81 x0 w y)) (k0_pay82 x0 w y) := by
  idx_vars y
  unfold newM k0_pay85 k0_pay83
  pointwise

theorem newL_apply (x0 : Vec Ideal S384x5120 .bf16) (w : Vec Ideal S512x5120 .bf16) (m l : Vec Ideal S384x128 .f32) (y : S384x128.Idx) :
    (newL x0 w m l y : EReal) = (l y : EReal) * Ideal.exp ((m y : EReal) - newM x0 w m y)
      + Ideal.exp ((k0_pay79 x0 w y : EReal) - newM x0 w m y) + Ideal.exp ((k0_pay80 x0 w y : EReal) - newM x0 w m y)
      + Ideal.exp ((k0_pay81 x0 w y : EReal) - newM x0 w m y) + Ideal.exp ((k0_pay82 x0 w y : EReal) - newM x0 w m y) := by
  idx_vars y
  unfold newL newM k0_pay86 k0_pay84 k0_pay85
  pointwise

/-- One of the four tests of a point: does a candidate's id lie in the 128 columns from `b`; if so take that column. -/
def pick (c : FVec Ideal S384x128 .f32) (b : BitVec 32) (ids : Vec Ideal S384x128 .i32) (d : FVec Ideal S384x128 .f32) : FVec Ideal S384x128 .f32 :=
  select (andi (cmpi .sge (subi ids (broadcast S384x128 b)) (broadcast S384x128 0#32)) (cmpi .slt (subi ids (broadcast S384x128 b)) (broadcast S384x128 128#32)))
    (dynamicGather 1 c (shapeCast S384x128 (shapeCast S384x128x1 (select (cmpi .slt (andi (subi ids (broadcast S384x128 b)) (broadcast S384x128 127#32)) (broadcast S384x128 0#32)) (addi (andi (subi ids (broadcast S384x128 b)) (broadcast S384x128 127#32)) (broadcast S384x128 128#32)) (andi (subi ids (broadcast S384x128 b)) (broadcast S384x128 127#32))) shapeCasts_S384x128_S384x128x1) shapeCasts_S384x128x1_S384x128))
    d

theorem newC_eq (x0 : Vec Ideal S384x5120 .bf16) (w : Vec Ideal S512x5120 .bf16) (p : BitVec 32) (ids : Vec Ideal S384x128 .i32) (d : Vec Ideal S384x128 .f32) :
    newC x0 w p ids d = pick (k0_pay82 x0 w) (Scalar.addi (Scalar.muli p 512#32) 384#32) ids
      (pick (k0_pay81 x0 w) (Scalar.addi (Scalar.muli p 512#32) 256#32) ids
        (pick (k0_pay80 x0 w) (Scalar.addi (Scalar.muli p 512#32) 128#32) ids
          (pick (k0_pay79 x0 w) (Scalar.addi (Scalar.muli p 512#32) 0#32) ids d))) := by
  simp only [newC, pick, k0_pay92, k0_pay88, k0_pay87, k0_pay90, k0_pay91, k0_pay89, shapeCast_self]

/-- The word the four tests look at: an id less the first column of the block. -/
theorem sub_toNat (id : BitVec 32) (B : ℕ) (hB : B < 64000) (hn : id.toNat < 64000) :
    (IntOp.subi id (BitVec.ofNat 32 B)).toNat = if B ≤ id.toNat then id.toNat - B else 4294967296 + id.toNat - B := by
  show (id - BitVec.ofNat 32 B).toNat = _
  rw [BitVec.toNat_sub, BitVec.toNat_ofNat]
  split <;> omega

theorem toInt_big (x : BitVec 32) : x.toInt = if 2 * x.toNat < 4294967296 then (x.toNat : Int) else (x.toNat : Int) - 4294967296 := by
  rw [BitVec.toInt_eq_toNat_cond]
  rfl

theorem cmpi_sge (x : BitVec 32) : IntOp.cmpi .sge x 0#32 = if 2 * x.toNat < 4294967296 then 1#1 else 0#1 := by
  show BitVec.ofBool (decide ((0#32).toInt ≤ x.toInt)) = _
  rw [toInt_big x, show (0#32 : BitVec 32).toInt = 0 from rfl]
  have := x.isLt
  split
  · rw [decide_eq_true (by omega)]; rfl
  · rw [decide_eq_false (by omega)]; rfl

theorem cmpi_slt (x : BitVec 32) : IntOp.cmpi .slt x 128#32 = if 128 ≤ x.toNat ∧ 2 * x.toNat < 4294967296 then 0#1 else 1#1 := by
  show BitVec.ofBool (decide (x.toInt < (128#32).toInt)) = _
  rw [toInt_big x, show (128#32 : BitVec 32).toInt = 128 from rfl]
  have := x.isLt
  split <;> split
  all_goals first
    | (rw [decide_eq_true (by omega)]; rfl)
    | (rw [decide_eq_false (by omega)]; rfl)
    | omega

theorem cmpi_slt0 (x : BitVec 32) (h : x.toNat < 128) : IntOp.cmpi .slt x 0#32 = 0#1 := by
  show BitVec.ofBool (decide (x.toInt < (0#32).toInt)) = _
  rw [toInt_big x, show (0#32 : BitVec 32).toInt = 0 from rfl, decide_eq_false (by split <;> omega)]; rfl

theorem and127 (x : BitVec 32) : (IntOp.andi x 127#32).toNat = x.toNat % 128 := by
  show (x &&& 127#32).toNat = _
  rw [BitVec.toNat_and, show (127#32 : BitVec 32).toNat = 2 ^ 7 - 1 from rfl, Nat.and_two_pow_sub_one_eq_mod]

theorem pick_cond (id : BitVec 32) (B : ℕ) (hB : B < 64000) (hn : id.toNat < 64000) :
    IntOp.andi (IntOp.cmpi .sge (IntOp.subi id (BitVec.ofNat 32 B)) 0#32) (IntOp.cmpi .slt (IntOp.subi id (BitVec.ofNat 32 B)) 128#32)
      = if B ≤ id.toNat ∧ id.toNat < B + 128 then 1#1 else 0#1 := by
  rw [cmpi_sge, cmpi_slt, sub_toNat id B hB hn]
  by_cases h : B ≤ id.toNat ∧ id.toNat < B + 128
  · rw [if_pos h, if_pos h.1, if_pos (by omega), if_neg (by omega)]
    rfl
  · rw [if_neg h]
    by_cases hb : B ≤ id.toNat
    · rw [if_pos hb, if_pos (by omega), if_pos (by omega)]
      rfl
    · rw [if_neg hb, if_neg (by omega)]
      split <;> rfl

theorem pick_lane (id : BitVec 32) (B : ℕ) (hB : B < 64000) (hn : id.toNat < 64000) (h : B ≤ id.toNat ∧ id.toNat < B + 128) :
    (Scalar.select (IntOp.cmpi .slt (IntOp.andi (IntOp.subi id (BitVec.ofNat 32 B)) 127#32) 0#32)
      (IntOp.addi (IntOp.andi (IntOp.subi id (BitVec.ofNat 32 B)) 127#32) 128#32)
      (IntOp.andi (IntOp.subi id (BitVec.ofNat 32 B)) 127#32)).toNat % 128 = id.toNat - B := by
  rw [cmpi_slt0 _ (by rw [and127]; omega)]
  show (IntOp.andi (IntOp.subi id (BitVec.ofNat 32 B)) 127#32).toNat % 128 = id.toNat - B
  rw [and127, sub_toNat id B hB hn, if_pos h.1]
  omega

/-- One test: an id in the 128 columns from `B` takes its column; any other in range keeps what was picked before. -/
theorem pick_apply (c : FVec Ideal S384x128 .f32) (B : ℕ) (hB : B < 64000) (ids : Vec Ideal S384x128 .i32) (d : FVec Ideal S384x128 .f32)
    (y : S384x128.Idx) (hn : (ids y : BitVec 32).toNat < 64000) :
    (pick c (BitVec.ofNat 32 B) ids d y : EReal) = if h : B ≤ (ids y : BitVec 32).toNat ∧ (ids y : BitVec 32).toNat < B + 128
      then c (ix2 (y 0) ⟨(ids y : BitVec 32).toNat - B, by omega⟩) else d y := by
  idx_vars y
  unfold pick
  pointwise
  rw [pick_cond (ids (ix2 y0 y1)) B hB hn]
  by_cases h : B ≤ (ids (ix2 y0 y1) : BitVec 32).toNat ∧ (ids (ix2 y0 y1) : BitVec 32).toNat < B + 128
  · rw [dif_pos h, if_pos h]
    show c (ix2 y0 _) = c (ix2 y0 _)
    exact congrArg (fun l => c (ix2 y0 l)) (Fin.ext (pick_lane (ids (ix2 y0 y1)) B hB hn h))
  · rw [dif_neg h, if_neg h]
    rfl

/-- What a point picks: an id in its 512 columns takes its column, any other in range keeps what was picked before. -/
theorem newC_apply (x0 : Vec Ideal S384x5120 .bf16) (w : Vec Ideal S512x5120 .bf16) (t : ℕ) (ht : t < 125) (ids : Vec Ideal S384x128 .i32) (d : Vec Ideal S384x128 .f32)
    (y : S384x128.Idx) (hn : (ids y : BitVec 32).toNat < 64000) :
    (newC x0 w (BitVec.ofNat 32 t) ids d y : EReal) = if h : t * 512 ≤ (ids y : BitVec 32).toNat ∧ (ids y : BitVec 32).toNat < t * 512 + 512
      then prodAt x0 w (y 0) ⟨(ids y : BitVec 32).toNat - t * 512, by omega⟩ else d y := by
  have e : ∀ k, k < 512 → Scalar.addi (Scalar.muli (BitVec.ofNat 32 t) 512#32) (BitVec.ofNat 32 k) = BitVec.ofNat 32 (t * 512 + k) := by
    intro k hk
    apply BitVec.eq_of_toNat_eq
    show (BitVec.ofNat 32 t * 512#32 + BitVec.ofNat 32 k).toNat = _
    rw [BitVec.toNat_add, BitVec.toNat_mul, BitVec.toNat_ofNat, BitVec.toNat_ofNat, BitVec.toNat_ofNat, BitVec.toNat_ofNat]
    omega
  rw [newC_eq, e 384 (by omega), e 256 (by omega), e 128 (by omega), e 0 (by omega),
    pick_apply _ _ (by omega) _ _ _ hn, pick_apply _ _ (by omega) _ _ _ hn, pick_apply _ _ (by omega) _ _ _ hn, pick_apply _ _ (by omega) _ _ _ hn]
  by_cases h3 : t * 512 + 384 ≤ (ids y : BitVec 32).toNat ∧ (ids y : BitVec 32).toNat < t * 512 + 384 + 128
  · rw [dif_pos h3, dif_pos (by omega), pay82_apply, pay78_apply]
    exact congrArg (prodAt x0 w (y 0)) (Fin.ext (show 384 + ((ids y : BitVec 32).toNat - (t * 512 + 384)) = (ids y : BitVec 32).toNat - t * 512 by omega))
  rw [dif_neg h3]
  by_cases h2 : t * 512 + 256 ≤ (ids y : BitVec 32).toNat ∧ (ids y : BitVec 32).toNat < t * 512 + 256 + 128
  · rw [dif_pos h2, dif_pos (by omega), pay81_apply, pay78_apply]
    exact congrArg (prodAt x0 w (y 0)) (Fin.ext (show 256 + ((ids y : BitVec 32).toNat - (t * 512 + 256)) = (ids y : BitVec 32).toNat - t * 512 by omega))
  rw [dif_neg h2]
  by_cases h1 : t * 512 + 128 ≤ (ids y : BitVec 32).toNat ∧ (ids y : BitVec 32).toNat < t * 512 + 128 + 128
  · rw [dif_pos h1, dif_pos (by omega), pay80_apply, pay78_apply]
    exact congrArg (prodAt x0 w (y 0)) (Fin.ext (show 128 + ((ids y : BitVec 32).toNat - (t * 512 + 128)) = (ids y : BitVec 32).toNat - t * 512 by omega))
  rw [dif_neg h1]
  by_cases h0 : t * 512 + 0 ≤ (ids y : BitVec 32).toNat ∧ (ids y : BitVec 32).toNat < t * 512 + 0 + 128
  · rw [dif_pos h0, dif_pos (by omega), pay79_apply, pay78_apply]
    exact congrArg (prodAt x0 w (y 0)) (Fin.ext (show (ids y : BitVec 32).toNat - (t * 512 + 0) = (ids y : BitVec 32).toNat - t * 512 by omega))
  rw [dif_neg h0, dif_neg (by omega)]

end Cert.KernelIdeal.Value
-- ==== Proof.Soft.lean ====
/-
  The running log-sum-exp over the extended reals.

  A row is read a few entries at a time. The maximum so far `m` and the sum so far `l` of `exp (g k - m)` are kept; when
  the maximum grows to `m'` the sum is multiplied by `exp (m - m')`. Over the extended reals this is exact, with no
  condition on the entries: each term of the sum has `g k ≤ m ≤ m'`, and then `exp (g k - m) * exp (m - m') = exp (g k - m')`.
-/
module

public import Idealize.ShloMosaic.PureOps.Ideal
public import Mathlib.Algebra.BigOperators.Fin
public import Mathlib.Analysis.SpecialFunctions.Exp
public import Mathlib.Data.EReal.Operations
public import Mathlib.Algebra.Order.BigOperators.Group.Finset

@[expose] public section

noncomputable section

open Idealize.ShloMosaic

namespace Cert.Soft

theorem exp_nonneg (x : EReal) : 0 ≤ Ideal.exp x := by
  induction x with
  | bot => exact le_refl _
  | top => exact le_top
  | coe r => exact EReal.coe_nonneg.mpr (Real.exp_pos r).le

/-- Moving one term to a larger maximum. -/
theorem rescale (x m m' : EReal) (h : x ≤ m) (h' : m ≤ m') :
    Ideal.exp (x - m) * Ideal.exp (m - m') = Ideal.exp (x - m') := by
  induction x with
  | bot =>
    have e : ∀ z : EReal, (⊥ : EReal) - z = ⊥ := fun z => EReal.bot_add (-z)
    rw [e, e]
    exact zero_mul _
  | top =>
    obtain rfl : m = ⊤ := top_le_iff.mp h
    obtain rfl : m' = ⊤ := top_le_iff.mp h'
    exact zero_mul _
  | coe x =>
    induction m with
    | bot => exact absurd h (by simp)
    | top =>
      obtain rfl : m' = ⊤ := top_le_iff.mp h'
      exact zero_mul _
    | coe m =>
      induction m' with
      | bot => exact absurd h' (by simp)
      | top => exact mul_zero _
      | coe m' =>
        show ((Real.exp (x - m) : ℝ) : EReal) * ((Real.exp (m - m') : ℝ) : EReal) = ((Real.exp (x - m') : ℝ) : EReal)
        rw [← EReal.coe_mul, ← Real.exp_add, sub_add_sub_cancel]

/-- A sum of terms that are not negative, multiplied through. -/
theorem sum_mul {ι : Type} (s : Finset ι) (f : ι → EReal) (hf : ∀ i, 0 ≤ f i) (c : EReal) : (∑ i ∈ s, f i) * c = ∑ i ∈ s, f i * c := by
  classical
  induction s using Finset.induction_on with
  | empty => simp
  | insert a s ha ih =>
    rw [Finset.sum_insert ha, Finset.sum_insert ha, EReal.right_distrib_of_nonneg (hf a) (Finset.sum_nonneg fun i _ => hf i), ih]

/-- A sum of exponentials moved to a larger maximum. -/
theorem sum_rescale {ι : Type} (s : Finset ι) (g : ι → EReal) (m m' : EReal) (hm : ∀ i ∈ s, g i ≤ m) (h : m ≤ m') :
    (∑ i ∈ s, Ideal.exp (g i - m)) * Ideal.exp (m - m') = ∑ i ∈ s, Ideal.exp (g i - m') := by
  rw [sum_mul _ _ fun i => exp_nonneg _]
  exact Finset.sum_congr rfl fun i hi => rescale _ _ _ (hm i hi) h

/-- The maximum of the first `n` entries. -/
def maxTo (g : ℕ → EReal) (n : ℕ) : EReal := (Finset.range n).sup g
/-- The sum of exponentials of the first `n` entries, less their maximum. -/
def sumTo (g : ℕ → EReal) (n : ℕ) : EReal := ∑ k ∈ Finset.range n, Ideal.exp (g k - maxTo g n)

theorem maxTo_zero (g : ℕ → EReal) : maxTo g 0 = ⊥ := rfl
theorem sumTo_zero (g : ℕ → EReal) : sumTo g 0 = 0 := rfl
theorem maxTo_succ (g : ℕ → EReal) (n : ℕ) : maxTo g (n + 1) = max (maxTo g n) (g n) := by
  unfold maxTo
  rw [Finset.range_add_one, Finset.sup_insert]
  exact max_comm _ _

/-- One step of four entries. -/
theorem maxTo_four (g : ℕ → EReal) (n : ℕ) :
    maxTo g (n + 4) = max (max (max (max (maxTo g n) (g n)) (g (n + 1))) (g (n + 2))) (g (n + 3)) := by
  rw [maxTo_succ g (n + 3), maxTo_succ g (n + 2), maxTo_succ g (n + 1), maxTo_succ g n]

theorem sumTo_four (g : ℕ → EReal) (n : ℕ) :
    sumTo g (n + 4) = sumTo g n * Ideal.exp (maxTo g n - maxTo g (n + 4)) + Ideal.exp (g n - maxTo g (n + 4))
      + Ideal.exp (g (n + 1) - maxTo g (n + 4)) + Ideal.exp (g (n + 2) - maxTo g (n + 4)) + Ideal.exp (g (n + 3) - maxTo g (n + 4)) := by
  have hle : maxTo g n ≤ maxTo g (n + 4) := Finset.sup_mono (Finset.range_mono (by omega))
  unfold sumTo
  rw [sum_rescale _ _ _ _ (fun i hi => show g i ≤ maxTo g n from Finset.le_sup hi) hle]
  generalize maxTo g (n + 4) = M
  rw [Finset.sum_range_succ, Finset.sum_range_succ, Finset.sum_range_succ, Finset.sum_range_succ]

/-- The 128 lanes put together: lane `j` holds the entries `k * 128 + j`. -/
theorem sum_lanes (f : ℕ → EReal) : ∑ j : Fin 128, ∑ k ∈ Finset.range 500, f (k * 128 + j.val) = ∑ v : Fin 64000, f v.val := by
  have h1 : ∀ j : Fin 128, ∑ k ∈ Finset.range 500, f (k * 128 + j.val) = ∑ k : Fin 500, f (k.val * 128 + j.val) :=
    fun j => Finset.sum_range fun k => f (k * 128 + j.val)
  rw [Finset.sum_congr rfl fun j _ => h1 j, Finset.sum_comm, ← Fintype.sum_prod_type' (fun (k : Fin 500) (j : Fin 128) => f (k.val * 128 + j.val))]
  refine Fintype.sum_equiv (finProdFinEquiv (m := 500) (n := 128)) _ _ fun x => ?_
  show f (x.1.val * 128 + x.2.val) = f (x.2.val + 128 * x.1.val)
  rw [Nat.add_comm, Nat.mul_comm]

theorem sup_lanes (f : ℕ → EReal) : (Finset.univ.sup fun j : Fin 128 => maxTo (fun k => f (k * 128 + j.val)) 500) = Finset.univ.sup fun v : Fin 64000 => f v.val := by
  apply le_antisymm
  · refine Finset.sup_le fun j _ => Finset.sup_le fun k hk => ?_
    have hk := Finset.mem_range.mp hk
    exact Finset.le_sup (f := fun v : Fin 64000 => f v.val) (Finset.mem_univ (⟨k * 128 + j.val, by omega⟩ : Fin 64000))
  · refine Finset.sup_le fun v _ => ?_
    refine le_trans ?_ (Finset.le_sup (f := fun j : Fin 128 => maxTo (fun k => f (k * 128 + j.val)) 500) (Finset.mem_univ (⟨v.val % 128, by omega⟩ : Fin 128)))
    refine le_trans (le_of_eq ?_) (Finset.le_sup (f := fun k => f (k * 128 + v.val % 128)) (Finset.mem_range.mpr (show v.val / 128 < 500 by omega)))
    exact congrArg f (by omega)

/-- The sums of the lanes, each moved to the row's maximum, are the row's sum. -/
theorem total_lanes (f : ℕ → EReal) (T : EReal) (hT : T = Finset.univ.sup fun v : Fin 64000 => f v.val) :
    ∑ j : Fin 128, sumTo (fun k => f (k * 128 + j.val)) 500 * Ideal.exp (maxTo (fun k => f (k * 128 + j.val)) 500 - T)
      = ∑ v : Fin 64000, Ideal.exp (f v.val - T) := by
  rw [← sum_lanes fun v => Ideal.exp (f v - T)]
  refine Finset.sum_congr rfl fun j _ => ?_
  refine sum_rescale _ _ _ _ (fun i hi => Finset.le_sup (f := fun k => f (k * 128 + j.val)) hi) ?_
  rw [hT, ← sup_lanes]
  exact Finset.le_sup (f := fun j : Fin 128 => maxTo (fun k => f (k * 128 + j.val)) 500) (Finset.mem_univ j)

end Cert.Soft
-- ==== Proof.Blocks.lean ====
/-
  The blocks a grid point reads, in terms of the arguments: point `t` reads the weight rows `512 t … 512 t + 511`, their
  scales (transposed on the host), all the activations (three blocks of 128 rows, one under the other) and all the
  candidates' ids (turned row by row on the host, and padded to a row of 128).
-/
module

public import proofs.«01_k».proof.Proof.Gen.KernelIdeal.Frame
public import Idealize.ShloMosaic.Lib.Pipeline.Value
public import Idealize.ShloMosaic.Lib.Pipeline.ValueKit
public import Idealize.ShloMosaic.Lib.Pointwise
public import Idealize.ShloMosaic.Lib.Claim
public import Idealize.ShloMosaic.Lib.Tactic

@[expose] public section

set_option maxRecDepth 16384

noncomputable section

open Idealize.ShloMosaic Idealize.ShloMosaic.TcCoe Idealize.SL.Sem

namespace Cert.KernelIdeal.Value

open Cert.KernelIdeal Cert.KernelIdeal.Gen

theorem idx_in : ∀ t : Fin cfg0.N, win0_0.index t = ![0, 0] ∧ win0_1.index t = ![t.val, 0] ∧ win0_2.index t = ![0, t.val] ∧ win0_3.index t = ![0, 0] := by
  decide +kernel

variable (m : (ℓ : Loc nD τ sig) → Buf (Elt Ideal) ℓ) (c : Dev nD)

theorem V_v3 : V m c main_v3 = shapeCast S384x5120 (m ((c : Thread nD τ).loc main_arg0)) shapeCasts_S3x128x5120_S384x5120 := by
  entry_read
  rfl

theorem V_v4 : V m c main_v4 = transpose S160x64000 [1, 0] (m ((c : Thread nD τ).loc main_arg2)) transposes_S64000x160_S160x64000_1_0 := by
  entry_read
  rfl

theorem V_v2 : V m c main_v2 = pad S384x128 ![0, 0] ![0, 120] ![0, 0]
    (shapeCast S384x8 (transpose S3x128x1x8 [2, 0, 1, 3] (m ((c : Thread nD τ).loc main_arg3)) transposes_S128x1x3x8_S3x128x1x8_2_0_1_3) shapeCasts_S3x128x1x8_S384x8)
    (constantI S_ 32 4294967295#32) pads_S384x8_S384x128_000_01200 h_S_ := by
  entry_read
  rfl

theorem blk_w (t : Fin cfg0.N) (v : Fin 512) (d : Fin 5120) (x : Fin 64000) (hx : x.val = t.val * 512 + v.val) :
    iblk m c 1 t (ix2 v d) = m ((c : Thread nD τ).loc main_arg1) (ix2 x d) := by
  rw [← V_main_arg1 m c]
  blk_ext [iblk, idx_in t]

theorem blk_s (t : Fin cfg0.N) (g : Fin 160) (v : Fin 512) (x : Fin 64000) (hx : x.val = t.val * 512 + v.val) :
    iblk m c 2 t (ix2 g v) = m ((c : Thread nD τ).loc main_arg2) (ix2 x g) := by
  have e : iblk m c 2 t (ix2 g v) = V m c main_v4 (ix2 g x) := by
    blk_ext [iblk, idx_in t]
  rw [e, V_v4]
  pointwise

/-- Three by 128 rows laid out as 384: row `128 * k + b` is row `b` of part `k`. -/
theorem merge_rows {α : Type} {p q n R : ℕ} (x : (⟨3, ![p, q, n]⟩ : Shape).Idx → α)
    (h : (⟨3, ![p, q, n]⟩ : Shape).ShapeCasts ⟨2, ![R, n]⟩) (k : Fin p) (b : Fin q) (d : Fin n) (r : Fin R)
    (hr : r.val = k.val * q + b.val) : shapeCast ⟨2, ![R, n]⟩ x h (ix2 r d) = x (ix3 k b d) :=
  shapeCast_apply x h _ _ (by
    rw [Shape.rowMajor_val_three, Shape.rowMajor_val_two]
    show (k.val * q + b.val) * n + d.val = r.val * n + d.val
    rw [hr])

theorem blk_h (t : Fin cfg0.N) (k : Fin 3) (b : Fin 128) (r : Fin 384) (hr : r.val = 128 * k.val + b.val) (d : Fin 5120) :
    iblk m c 0 t (ix2 r d) = m ((c : Thread nD τ).loc main_arg0) (ix3 k b d) := by
  have e : iblk m c 0 t (ix2 r d) = V m c main_v3 (ix2 r d) := by
    blk_ext [iblk, idx_in t]
  rw [e, V_v3]
  exact merge_rows _ _ k b d r (by omega)

theorem blk_i (t : Fin cfg0.N) (k : Fin 3) (b : Fin 128) (r : Fin 384) (hr : r.val = 128 * k.val + b.val) (j : Fin 128) (l : Fin 8) (hl : l.val = j.val) :
    iblk m c 3 t (ix2 r j) = m ((c : Thread nD τ).loc main_arg3) (ix4 b 0 k l) := by
  have e : iblk m c 3 t (ix2 r j) = V m c main_v2 (ix2 r j) := by
    blk_ext [iblk, idx_in t]
  rw [e, V_v2]
  pointwise
  rw [dif_pos (by omega)]
  congr 1
  funext a
  apply Fin.ext
  match a with
  | ⟨0, _⟩ => show r.val % 128 = b.val; omega
  | ⟨1, _⟩ => rfl
  | ⟨2, _⟩ => show r.val / 128 = k.val; omega
  | ⟨3, _⟩ => exact hl.symm

end Cert.KernelIdeal.Value
-- ==== Proof.Fold.lean ====
/-
  The loop over the grid. After `n` points the three scratch arrays hold, at row `r` and lane `j`, the maximum of the
  logits of the columns met so far that lie in lane `j`, the sum of exponentials of the same logits less that maximum, and
  the logit of the candidate `j` of the row if its column has been met. At the last point the lanes are put together.
-/
module

public import proofs.«01_k».proof.Proof.Last
public import proofs.«01_k».proof.Proof.Step
public import proofs.«01_k».proof.Proof.Soft
public import proofs.«01_k».proof.Proof.Blocks
public import proofs.«01_k».proof.Proof.Gen.KernelIdeal.Value

@[expose] public section

set_option maxRecDepth 16384

noncomputable section

open Idealize.ShloMosaic Idealize.ShloMosaic.TcCoe Idealize.SL.Sem

namespace Cert.KernelIdeal.Value

open Cert.KernelIdeal Cert.KernelIdeal.Gen Cert.Soft

/-- A logit: the activations of the row times the weights of the column, each weight times the scale of its group of 32. -/
def logit (x : Vec Ideal S3x128x5120 .bf16) (w : Vec Ideal S64000x5120 .fp8e4m3) (s : Vec Ideal S64000x160 .f32) (k : Fin 3) (b : Fin 128) (v : Fin 64000) : EReal :=
  ∑ d : Fin 5120, (x (ix3 k b d) : EReal) * ((w (ix2 v d) : EReal) * (s (ix2 v ⟨d.val / 32, by omega⟩) : EReal))

variable (m : (ℓ : Loc nD τ sig) → Buf (Elt Ideal) ℓ) (c : Dev nD)

/-- The logit of row `r` of the 384 and column `v`, over all numbers `v`. -/
def X (r : Fin 384) (v : ℕ) : EReal :=
  if h : v < 64000 then logit (m ((c : Thread nD τ).loc main_arg0)) (m ((c : Thread nD τ).loc main_arg1)) (m ((c : Thread nD τ).loc main_arg2))
    ⟨r.val / 128, by omega⟩ ⟨r.val % 128, by omega⟩ ⟨v, h⟩ else 0

/-- Every point reads all the candidates' ids. -/
def ids0 : Vec Ideal S384x128 .i32 := V m c main_v2

theorem blk_ids (t : Fin cfg0.N) : iblk m c 3 t = ids0 m c := by
  funext y
  idx_vars y
  unfold ids0
  blk_ext [iblk, idx_in t]

theorem prod_X (t : Fin cfg0.N) (r : Fin 384) (v : Fin 512) :
    prodAt (iblk m c 0 t) (wblk (iblk m c 1 t) (iblk m c 2 t)) r v = X m c r (t.val * 512 + v.val) := by
  have ht : t.val < 125 := lt_of_lt_of_eq t.isLt N_0
  have hv : t.val * 512 + v.val < 64000 := by omega
  unfold prodAt X logit
  rw [dif_pos hv]
  refine Finset.sum_congr rfl fun d _ => ?_
  unfold wblk
  rw [blk_h m c t ⟨r.val / 128, by omega⟩ ⟨r.val % 128, by omega⟩ r (by show r.val = 128 * (r.val / 128) + r.val % 128; omega) d,
    blk_w m c t v d ⟨_, hv⟩ rfl]
  exact congrArg (HMul.hMul _) (congrArg (HMul.hMul _) (blk_s m c t ⟨d.val / 32, by omega⟩ v ⟨_, hv⟩ rfl))

/-- What the scratch arrays hold after `n` points. -/
def Inv (n : ℕ) (p1 p2 p3 : Vec Ideal S384x128 .f32) : Prop := ∀ (r : Fin 384) (j : Fin 128),
  (p1 (ix2 r j) : EReal) = maxTo (fun k => X m c r (k * 128 + j.val)) (4 * n)
  ∧ (p2 (ix2 r j) : EReal) = sumTo (fun k => X m c r (k * 128 + j.val)) (4 * n)
  ∧ ((ids0 m c (ix2 r j) : BitVec 32).toNat < 64000 →
      (p3 (ix2 r j) : EReal) = if (ids0 m c (ix2 r j) : BitVec 32).toNat < n * 512 then X m c r (ids0 m c (ix2 r j) : BitVec 32).toNat else 0)

theorem inv_zero : Inv m c 0 (k0_pay12 (F := Ideal)) (k0_pay13 (F := Ideal)) (k0_pay14 (F := Ideal)) := by
  intro r j
  refine ⟨?_, ?_, fun _ => ?_⟩
  · unfold k0_pay12
    pointwise
    exact ofBits_neg_inf
  · unfold k0_pay13
    pointwise
    rfl
  · rw [if_neg (by omega)]
    unfold k0_pay14
    pointwise

theorem inv_step (t : Fin cfg0.N) (p1 p2 p3 : Vec Ideal S384x128 .f32) (h : Inv m c t.val p1 p2 p3) :
    Inv m c (t.val + 1) (newM (iblk m c 0 t) (wblk (iblk m c 1 t) (iblk m c 2 t)) p1)
      (newL (iblk m c 0 t) (wblk (iblk m c 1 t) (iblk m c 2 t)) p1 p2)
      (newC (iblk m c 0 t) (wblk (iblk m c 1 t) (iblk m c 2 t)) (BitVec.ofNat 32 t.val) (iblk m c 3 t) p3) := by
  have ht : t.val < 125 := lt_of_lt_of_eq t.isLt N_0
  intro r j
  obtain ⟨h1, h2, h3⟩ := h r j
  have c0 : (k0_pay79 (iblk m c 0 t) (wblk (iblk m c 1 t) (iblk m c 2 t)) (ix2 r j) : EReal) = X m c r ((4 * t.val) * 128 + j.val) := by
    rw [pay79_apply, pay78_apply]
    exact (prod_X m c t r _).trans (congrArg (X m c r) (by show t.val * 512 + j.val = _; omega))
  have c1 : (k0_pay80 (iblk m c 0 t) (wblk (iblk m c 1 t) (iblk m c 2 t)) (ix2 r j) : EReal) = X m c r ((4 * t.val + 1) * 128 + j.val) := by
    rw [pay80_apply, pay78_apply]
    exact (prod_X m c t r _).trans (congrArg (X m c r) (by show t.val * 512 + (128 + j.val) = _; omega))
  have c2 : (k0_pay81 (iblk m c 0 t) (wblk (iblk m c 1 t) (iblk m c 2 t)) (ix2 r j) : EReal) = X m c r ((4 * t.val + 2) * 128 + j.val) := by
    rw [pay81_apply, pay78_apply]
    exact (prod_X m c t r _).trans (congrArg (X m c r) (by show t.val * 512 + (256 + j.val) = _; omega))
  have c3 : (k0_pay82 (iblk m c 0 t) (wblk (iblk m c 1 t) (iblk m c 2 t)) (ix2 r j) : EReal) = X m c r ((4 * t.val + 3) * 128 + j.val) := by
    rw [pay82_apply, pay78_apply]
    exact (prod_X m c t r _).trans (congrArg (X m c r) (by show t.val * 512 + (384 + j.val) = _; omega))
  have e1 : (newM (iblk m c 0 t) (wblk (iblk m c 1 t) (iblk m c 2 t)) p1 (ix2 r j) : EReal) = maxTo (fun k => X m c r (k * 128 + j.val)) (4 * (t.val + 1)) := by
    rw [newM_apply, h1, c0, c1, c2, c3, show 4 * (t.val + 1) = 4 * t.val + 4 by omega, maxTo_four]
  refine ⟨e1, ?_, fun hn => ?_⟩
  · rw [newL_apply, e1, h1, h2, c0, c1, c2, c3, show 4 * (t.val + 1) = 4 * t.val + 4 by omega, sumTo_four]
  · rw [blk_ids, newC_apply _ _ _ ht _ _ _ hn, h3 hn]
    by_cases hb : t.val * 512 ≤ (ids0 m c (ix2 r j) : BitVec 32).toNat ∧ (ids0 m c (ix2 r j) : BitVec 32).toNat < t.val * 512 + 512
    · rw [dif_pos hb, if_pos (by omega)]
      refine (prod_X m c t r _).trans (congrArg (X m c r) ?_)
      show t.val * 512 + ((ids0 m c (ix2 r j) : BitVec 32).toNat - t.val * 512) = _
      omega
    · rw [dif_neg hb]
      by_cases hl : (ids0 m c (ix2 r j) : BitVec 32).toNat < t.val * 512
      · rw [if_pos hl, if_pos (by omega)]
      · rw [if_neg hl, if_neg (by omega)]

theorem coord_val : ∀ t : Fin cfg0.N, (grid0.coords t 0).val = t.val := by
  decide +kernel

/-- The scratch arrays after each point but the last. -/
theorem inv_outs (n : ℕ) (hn : n < cfg0.N) (hl : n < 124) : Inv m c (n + 1) (outsAt0 m c n hn).2.2.2.1 (outsAt0 m c n hn).2.2.2.2.1 (outsAt0 m c n hn).2.2.2.2.2 := by
  induction n with
  | zero =>
    rw [outsAt0_zero, stAt0_A m c ⟨0, hn⟩ junk0 (by show 0 % 125 = 0; rfl) (by show ¬ 0 % 125 = 124; decide)]
    dsimp only
    rw [sout_A_1, sout_A_2, sout_A_3, coord_val]
    exact inv_step m c ⟨0, hn⟩ _ _ _ (inv_zero m c)
  | succ n ih =>
    rw [outsAt0_succ, stAt0_B m c ⟨n + 1, hn⟩ _ (by show ¬ (n + 1) % 125 = 0; omega) (by show ¬ (n + 1) % 125 = 124; omega)]
    dsimp only
    rw [sout_B_1, sout_B_2, sout_B_3, coord_val]
    exact inv_step m c ⟨n + 1, hn⟩ _ _ _ (ih _ (by omega))

/-- The scratch arrays after the last point, which are the ones the results are read from. -/
theorem outs_last (hn : 124 < cfg0.N) : ∃ p1 p2 p3 : Vec Ideal S384x128 .f32, Inv m c 125 p1 p2 p3
    ∧ (outsAt0 m c 124 hn).1 = View.canon (lseL p1 p2) ∧ (outsAt0 m c 124 hn).2.1 = View.canon (maxL p1)
    ∧ (outsAt0 m c 124 hn).2.2.1 = View.canon (candL p3) := by
  rw [outsAt0_succ, stAt0_C m c ⟨123 + 1, hn⟩ _ (by show ¬ (123 + 1) % 125 = 0; decide) (by show (123 + 1) % 125 = 124; rfl)]
  dsimp only
  rw [out_C_4, out_C_5, out_C_6, coord_val]
  exact ⟨_, _, _, inv_step m c ⟨123 + 1, hn⟩ _ _ _ (inv_outs m c 123 (by omega) (by decide)), rfl, rfl, rfl⟩

/-- The largest logit of a row. -/
def top (r : Fin 384) : EReal := Finset.univ.sup fun v : Fin 64000 => X m c r v.val

theorem hN : 124 < cfg0.N := lt_of_lt_of_eq (by decide) N_0.symm

theorem top_of {p1 p2 p3 : Vec Ideal S384x128 .f32} (h : Inv m c 125 p1 p2 p3) (r : Fin 384) :
    (k0_pay6 p1 (ix2 r 0) : EReal) = top m c r := by
  rw [pay6_apply]
  refine Eq.trans ?_ (sup_lanes (X m c r))
  exact Finset.sup_congr rfl fun j _ => (h r j).1

/-- The second result: the largest logit of each row. -/
theorem G5_apply (y : S3x128.Idx) : (G5 m c y : EReal) = top m c (flat (y 0) (y 1)) := by
  obtain ⟨p1, p2, p3, h, e4, e5, e6⟩ := outs_last m c hN
  rw [G5_last, ← outsAt0_sweep m c 124 hN, e5, max_canon]
  exact top_of m c h _

/-- The first result: the log-sum-exp of each row. -/
theorem G4_apply (y : S3x128.Idx) : (G4 m c y : EReal) = top m c (flat (y 0) (y 1))
    + Ideal.log (∑ v : Fin 64000, Ideal.exp (X m c (flat (y 0) (y 1)) v.val - top m c (flat (y 0) (y 1)))) := by
  obtain ⟨p1, p2, p3, h, e4, e5, e6⟩ := outs_last m c hN
  rw [G4_last, ← outsAt0_sweep m c 124 hN, e4, lse_canon, pay7_apply, top_of m c h]
  generalize flat (y 0) (y 1) = r
  rw [← total_lanes (X m c r) (top m c r) rfl]
  refine congrArg (fun z => top m c r + Ideal.log z) (Finset.sum_congr rfl fun j _ => ?_)
  exact congrArg₂ (fun a b : EReal => a * Ideal.exp (b - top m c r)) (h r j).2.1 (h r j).1

/-- The third result: the logit of each candidate whose id is a column. -/
theorem G6_apply (y : S3x8x128.Idx) (l : Fin 128) (hl : l.val = (y 1).val) (hid : (ids0 m c (ix2 (flat (y 0) (y 2)) l) : BitVec 32).toNat < 64000) :
    (G6 m c y : EReal) = X m c (flat (y 0) (y 2)) (ids0 m c (ix2 (flat (y 0) (y 2)) l) : BitVec 32).toNat := by
  obtain ⟨p1, p2, p3, h, e4, e5, e6⟩ := outs_last m c hN
  obtain rfl : l = ⟨(y 1).val, lt_trans (y 1).isLt (by decide)⟩ := Fin.ext hl
  rw [G6_last, ← outsAt0_sweep m c 124 hN, e6, cand_canon]
  refine ((h _ _).2.2 hid).trans (if_pos (by omega))

end Cert.KernelIdeal.Value
-- ==== Proof.RefRun.lean ====
/-
  The run of the reference, read: the widened weights the first part leaves, then each of the three results as a function
  of the arguments, in the order the operations compute them.
-/
module

public import proofs.«01_k».proof.Proof.Gen.ReferenceIdeal.Frame
public import Idealize.ShloMosaic.Lib.Pipeline.Value
public import Idealize.ShloMosaic.Lib.Pipeline.ValueKit
public import Idealize.ShloMosaic.Lib.Pointwise
public import Idealize.ShloMosaic.Lib.Claim
public import Idealize.ShloMosaic.Lib.Tactic

@[expose] public section

set_option maxRecDepth 16384

noncomputable section

open Idealize.ShloMosaic Idealize.ShloMosaic.TcCoe Idealize.SL.Sem

namespace Cert.ReferenceIdeal.Value

open Cert.ReferenceIdeal Cert.ReferenceIdeal.Gen
open Idealize.ShloMosaic.Pipeline (Dat Cfg Window)

variable (m : (ℓ : Loc nD τ sig) → Buf (Elt Ideal) ℓ) (ρ : Dev nD → PrngReg) (c : Dev nD)

/-- The weights as the reference multiplies them: each by the scale of its group of 32. -/
def weights (w : Vec Ideal S64000x5120 .bf16) (s : Vec Ideal S64000x160 .f32) : Vec Ideal S64000x5120 .bf16 :=
  shapeCast S64000x5120 (mulf (F := Ideal) (φ := .bf16) (shapeCast S64000x160x32 w shapeCasts_S64000x5120_S64000x160x32)
    (broadcastInDim S64000x160x32 ![0, 1, 2] bcast_S64000x160x1_S64000x160x32_0_1_2
      (broadcastInDim S64000x160x1 ![0, 1] bcast_S64000x160_S64000x160x1_0_1 (truncf (F := Ideal) (φ := .f32) .bf16 s bitsLt_bf16_f32))))
    shapeCasts_S64000x160x32_S64000x5120

/-- All the logits. -/
def logits (x : Vec Ideal S3x128x5120 .bf16) (w : Vec Ideal S64000x5120 .bf16) (s : Vec Ideal S64000x160 .f32) : Vec Ideal S3x128x64000 .f32 :=
  Host.dotGeneral (F := Ideal) (φ₁ := .bf16) (φ₂ := .bf16) dot_S3x128x5120_S64000x5120_S3x128x64000_2_1_01_0_n_n none x (weights w s)

/-- The largest logit of each row. -/
def maxOf (z : Vec Ideal S3x128x64000 .f32) : Vec Ideal S3x128 .f32 :=
  Host.reduce (FloatOps.maximumf (F := Ideal) (φ := .f32)) z (constant (F := Ideal) S_ .f32 0xFF800000#32) reducesTo_S3x128x64000_S3x128_d2 h_S_

/-- The log-sum-exp of each row. -/
def lseOf (z : Vec Ideal S3x128x64000 .f32) : Vec Ideal S3x128 .f32 :=
  addf (F := Ideal) (φ := .f32) (maxOf z) (Host.log (F := Ideal) (φ := .f32) (Host.reduceAdd (F := Ideal) (φ := .f32)
    (Host.exp (F := Ideal) (φ := .f32) (subf (F := Ideal) (φ := .f32) z
      (broadcastInDim S3x128x64000 ![0, 1, 2] bcast_S3x128x1_S3x128x64000_0_1_2 (broadcastInDim S3x128x1 ![0, 1] bcast_S3x128_S3x128x1_0_1 (maxOf z)))))
    (constant (F := Ideal) S_ .f32 0x00000000#32) reducesTo_S3x128x64000_S3x128_d2 h_S_))

/-- The candidates' ids, part by part and row by row. -/
def idsOf (i : Vec Ideal S128x1x3x8 .i32) : Vec Ideal S3x128x8 .i32 :=
  transpose S3x128x8 [1, 0, 2] (shapeCast S128x3x8 i shapeCasts_S128x1x3x8_S128x3x8) transposes_S128x3x8_S3x128x8_1_0_2

/-- The ids as positions: a negative one counts from the end. -/
def posOf (i : Vec Ideal S3x128x8 .i32) : Vec Ideal S3x128x8x1 .i32 :=
  shapeCast S3x128x8x1 (select (cmpi .slt i (broadcastInDim S3x128x8 ![] bcast_S_S3x128x8 (constantI S_ 32 0#32)))
    (addi i (broadcastInDim S3x128x8 ![] bcast_S_S3x128x8 (constantI S_ 32 64000#32))) i) shapeCasts_S3x128x8_S3x128x8x1

/-- Is the position a column. -/
def inOf (i : Vec Ideal S3x128x8x1 .i32) : Vec Ideal S3x128x8x1 .i1 :=
  andi (cmpi .sge i (broadcastInDim S3x128x8x1 ![] bcast_S_S3x128x8x1 (constantI S_ 32 0#32)))
    (cmpi .sle i (broadcastInDim S3x128x8x1 ![0, 1, 2, 3] bcast_S1x1x1x1_S3x128x8x1_0_1_2_3
      (broadcastInDim S1x1x1x1 ![3] bcast_S1_S1x1x1x1_3 (constantI S1 32 63999#32))))

/-- The candidates' logits. -/
def pickOf (z : Vec Ideal S3x128x64000 .f32) (i : Vec Ideal S3x128x8 .i32) : Vec Ideal S3x128x8 .f32 :=
  select (Host.reduce IntOp.andi (inOf (posOf i)) (constantI S_ 1 1#1) reducesTo_S3x128x8x1_S3x128x8_d3 h_S_)
    (Host.gather gather_S3x128x64000_S3x128x8x1_S3x128x8_n_2_01_01_2_3_111 z (posOf i))
    (broadcastInDim S3x128x8 ![] bcast_S_S3x128x8 (constant (F := Ideal) S_ .f32 0x7FC00000#32))

variable (σ : Valuation τ sig (Elt Ideal))

theorem line_v7 : StableHlo.after (hostOps1 (F := Ideal)) σ (Proc.devRef .tc main_v7)
    = logits (σ (Proc.devRef .tc main_arg0)) (σ (Proc.devRef .tc main_v0)) (σ (Proc.devRef .tc main_arg2)) := by
  entry_read
  rfl

theorem line_v8 : StableHlo.after (hostOps1 (F := Ideal)) σ (Proc.devRef .tc main_v8)
    = maxOf (logits (σ (Proc.devRef .tc main_arg0)) (σ (Proc.devRef .tc main_v0)) (σ (Proc.devRef .tc main_arg2))) := by
  entry_read
  rfl

theorem line_v15 : StableHlo.after (hostOps1 (F := Ideal)) σ (Proc.devRef .tc main_v15)
    = lseOf (logits (σ (Proc.devRef .tc main_arg0)) (σ (Proc.devRef .tc main_v0)) (σ (Proc.devRef .tc main_arg2))) := by
  entry_read
  rfl

theorem line_v17 : StableHlo.after (hostOps1 (F := Ideal)) σ (Proc.devRef .tc main_v17)
    = idsOf (σ (Proc.devRef .tc main_arg3)) := by
  entry_read
  rfl

theorem line_v18 : StableHlo.after (hostOps1_1 (F := Ideal)) σ (Proc.devRef .tc main_v18)
    = pickOf (σ (Proc.devRef .tc main_v7)) (σ (Proc.devRef .tc main_v17)) := by
  entry_read
  rfl

theorem line_v19 : StableHlo.after (hostOps1_2 (F := Ideal)) σ (Proc.devRef .tc main_v19)
    = transpose S3x8x128 [0, 2, 1] (σ (Proc.devRef .tc main_v18)) transposes_S3x128x8_S3x8x128_0_2_1 := by
  entry_read
  rfl

/-- A buffer the second and third parts of the line leave alone. -/
theorem keep_v8 : StableHlo.after (hostOps1_2 (F := Ideal)) (StableHlo.after (hostOps1_1 (F := Ideal)) σ) (Proc.devRef .tc main_v8) = σ (Proc.devRef .tc main_v8) := by
  entry_read
  rfl

theorem keep_v15 : StableHlo.after (hostOps1_2 (F := Ideal)) (StableHlo.after (hostOps1_1 (F := Ideal)) σ) (Proc.devRef .tc main_v15) = σ (Proc.devRef .tc main_v15) := by
  entry_read
  rfl

/-- The contents the line after the first part starts from. -/
abbrev start0 : Valuation τ sig (Elt Ideal) := Pipeline.withArrays (cfgs 0).spec c (V0 m c) fun w => (dats m 0 c).arrAt w (cfgs 0).N

theorem start_arg0 : start0 m c (Proc.devRef .tc main_arg0) = m ((c : Thread nD τ).loc main_arg0) :=
  Pipeline.withArrays_of_ne _ c (V0 m c) _ main_arg0 (by exact (by decide : ∀ w, Pipeline.arrRef spec0 w ≠ main_arg0))

theorem start_arg2 : start0 m c (Proc.devRef .tc main_arg2) = m ((c : Thread nD τ).loc main_arg2) :=
  Pipeline.withArrays_of_ne _ c (V0 m c) _ main_arg2 (by exact (by decide : ∀ w, Pipeline.arrRef spec0 w ≠ main_arg2))

theorem start_arg3 : start0 m c (Proc.devRef .tc main_arg3) = m ((c : Thread nD τ).loc main_arg3) :=
  Pipeline.withArrays_of_ne _ c (V0 m c) _ main_arg3 (by exact (by decide : ∀ w, Pipeline.arrRef spec0 w ≠ main_arg3))

/-- The one grid point of the first part. -/
def t₀ : Fin cfg0.N := ⟨0, by decide⟩

theorem hz : (![0, 0] : Fin 2 → Nat) = fun _ => 0 := funext fun a => by fin_cases a <;> rfl

theorem out_eq (x0 : Vec Ideal S64000x5120 .fp8e4m3) : out0_1 (F := Ideal) x0 = (x0 : S64000x5120.Idx → EReal) := by
  unfold out0_1
  rw [View.canon_unit_zero (S := S64000x5120) hz, View.ld_unit_zero (S := S64000x5120) hz]
  rfl

theorem final_out : ((cfg0.win (1 : Fin 2)).blk t₀).view.read (Elt Ideal) ((dats (F := Ideal) m 0 c).arrAt (1 : Fin 2) cfg0.N)
      = (dats (F := Ideal) m 0 c).flushed (1 : Fin 2) t₀ := by
  rw [show cfg0.N = (t₀ : Fin cfg0.N).val + 1 from rfl, (dats (F := Ideal) m 0 c).arrAt_succ (1 : Fin 2) t₀]
  rw [show (cfg0.win (1 : Fin 2)).flush t₀ = true from by decide, if_pos rfl]
  exact View.read_write_univ _ _

/-- The first part leaves the weights as they are, widened. -/
theorem final_value : (dats (F := Ideal) m 0 c).arrAt (1 : Fin 2) cfg0.N = (m ((c : Thread nD τ).loc main_arg1) : S64000x5120.Idx → EReal) := by
  have ho := final_out m c
  have hz1 : (fun a => (win0_1.index t₀) a * main_v0.ty.shape.size a) = fun _ => 0 := funext fun a => by fin_cases a <;> decide
  have hr1 := fun f => Memref.read_access_unit_zero (Elt Ideal) main_v0 hz1 (fun a => by fin_cases a <;> decide) f
  have hz0 : (fun a => (win0_0.index t₀) a * main_arg1.ty.shape.size a) = fun _ => 0 := funext fun a => by fin_cases a <;> decide
  have hr0 := fun f => Memref.read_access_unit_zero (Elt Ideal) main_arg1 hz0 (fun a => by fin_cases a <;> decide) f
  rw [hr1] at ho
  rw [ho]
  show (cfg0.win (1 : Fin 2)).cut _ ((dats (F := Ideal) m 0 c).after 1 t₀) = _
  rw [after0_1, out_eq]
  unfold iblk
  rw [hr0]
  rfl

theorem start_v0 : start0 m c (Proc.devRef .tc main_v0) = (m ((c : Thread nD τ).loc main_arg1) : S64000x5120.Idx → EReal) :=
  (Pipeline.withArrays_arr (cfgs 0).spec launch0.win.arr_inj c (V0 m c) _ 1).trans (final_value m c)

/-- All the logits, from the arguments. -/
abbrev Z : Vec Ideal S3x128x64000 .f32 :=
  logits (m ((c : Thread nD τ).loc main_arg0)) (m ((c : Thread nD τ).loc main_arg1) : S64000x5120.Idx → EReal) (m ((c : Thread nD τ).loc main_arg2))

/-- What the run leaves in the three results. -/
theorem tail_split (b : Ref sig .tc) : Pipeline.afterTail₀ cfgs (dats m) 0 (V0 m) [hostOps1, hostOps1_1, hostOps1_2] c b
    = StableHlo.after (hostOps1_2 (F := Ideal)) (StableHlo.after (hostOps1_1 (F := Ideal)) (StableHlo.after (hostOps1 (F := Ideal)) (start0 m c))) (Proc.devRef .tc b) := by
  unfold Pipeline.afterTail₀
  rw [List.flatten_cons, List.flatten_cons, List.flatten_cons, List.flatten_nil, List.append_nil, StableHlo.after_append, StableHlo.after_append]

theorem run : θ_run defs (onTc (τ := τ) (main (F := Ideal))) ⟨m, fun _ => 0, ρ⟩ fun r => ∀ c : Dev nD,
      r.2.mem ((c : Thread nD τ).loc main_v15) = lseOf (Z m c)
      ∧ r.2.mem ((c : Thread nD τ).loc main_v8) = maxOf (Z m c)
      ∧ r.2.mem ((c : Thread nD τ).loc main_v19) = transpose S3x8x128 [0, 2, 1] (pickOf (Z m c) (idsOf (m ((c : Thread nD τ).loc main_arg3)))) transposes_S3x128x8_S3x8x128_0_2_1
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (θ_run_and (run_main m ρ) (unchanged m ρ))
  obtain ⟨h1, h2⟩ := h
  refine ⟨?_, ?_, ?_, h2 c⟩
  · rw [(h1 c).2 main_v15 (Pipeline.mem_restRefs_of main_v15 (by decide) (by decide)), tail_split, keep_v15, line_v15, start_arg0, start_arg2, start_v0]
  · rw [(h1 c).2 main_v8 (Pipeline.mem_restRefs_of main_v8 (by decide) (by decide)), tail_split, keep_v8, line_v8, start_arg0, start_arg2, start_v0]
  · rw [(h1 c).2 main_v19 (Pipeline.mem_restRefs_of main_v19 (by decide) (by decide)), tail_split, line_v19, line_v18, line_v7, line_v17, start_arg0, start_arg2, start_arg3, start_v0]

end Cert.ReferenceIdeal.Value
-- ==== Proof.RefVal.lean ====
/-
  The reference's results entry by entry: a logit is a sum of products over the 5120 columns, the second result is the
  largest logit of a row, the first the log-sum-exp of the row, and the third the logit at a candidate's id.
-/
module

public import proofs.«01_k».proof.Proof.RefRun

@[expose] public section

set_option maxRecDepth 16384

noncomputable section

open Idealize.ShloMosaic Idealize.ShloMosaic.TcCoe Idealize.SL.Sem

namespace Cert.ReferenceIdeal.Value

open Cert.ReferenceIdeal Cert.ReferenceIdeal.Gen

/-- Row `v` of `n` groups of `g`, the groups laid one after the other. -/
theorem merge_groups {α : Type} {p q g n : ℕ} (x : (⟨3, ![p, q, g]⟩ : Shape).Idx → α)
    (h : (⟨3, ![p, q, g]⟩ : Shape).ShapeCasts ⟨2, ![p, n]⟩) (v : Fin p) (d : Fin n) (k : Fin q) (l : Fin g)
    (hn : n = q * g) (hd : d.val = k.val * g + l.val) : shapeCast ⟨2, ![p, n]⟩ x h (ix2 v d) = x (ix3 v k l) :=
  shapeCast_apply x h _ _ (by
    rw [Shape.rowMajor_val_three, Shape.rowMajor_val_two]
    show (v.val * q + k.val) * g + l.val = v.val * n + d.val
    rw [hd, hn, Nat.add_mul, Nat.mul_assoc, Nat.add_assoc])

theorem split_groups {α : Type} {p q g n : ℕ} (x : (⟨2, ![p, n]⟩ : Shape).Idx → α)
    (h : (⟨2, ![p, n]⟩ : Shape).ShapeCasts ⟨3, ![p, q, g]⟩) (v : Fin p) (d : Fin n) (k : Fin q) (l : Fin g)
    (hn : n = q * g) (hd : d.val = k.val * g + l.val) : shapeCast ⟨3, ![p, q, g]⟩ x h (ix3 v k l) = x (ix2 v d) :=
  shapeCast_apply x h _ _ (by
    rw [Shape.rowMajor_val_three, Shape.rowMajor_val_two]
    show v.val * n + d.val = (v.val * q + k.val) * g + l.val
    rw [hd, hn, Nat.add_mul, Nat.mul_assoc, Nat.add_assoc])

theorem scale_apply (s : Vec Ideal S64000x160 .f32) (v : Fin 64000) (k : Fin 160) (l : Fin 32) :
    (broadcastInDim S64000x160x32 ![0, 1, 2] bcast_S64000x160x1_S64000x160x32_0_1_2
      (broadcastInDim S64000x160x1 ![0, 1] bcast_S64000x160_S64000x160x1_0_1 (truncf (F := Ideal) (φ := .f32) .bf16 s bitsLt_bf16_f32)) (ix3 v k l) : EReal)
      = s (ix2 v k) := by
  pointwise

theorem weights_apply (w : Vec Ideal S64000x5120 .bf16) (s : Vec Ideal S64000x160 .f32) (v : Fin 64000) (d : Fin 5120) :
    (weights w s (ix2 v d) : EReal) = (w (ix2 v d) : EReal) * (s (ix2 v ⟨d.val / 32, by omega⟩) : EReal) := by
  unfold weights
  rw [merge_groups _ _ v d ⟨d.val / 32, by omega⟩ ⟨d.val % 32, by omega⟩ rfl (by show d.val = d.val / 32 * 32 + d.val % 32; omega)]
  refine congrArg₂ (fun a b : EReal => a * b) ?_ (scale_apply s v _ _)
  exact split_groups _ _ v d _ _ rfl (by show d.val = d.val / 32 * 32 + d.val % 32; omega)

theorem logits_apply (x : Vec Ideal S3x128x5120 .bf16) (w : Vec Ideal S64000x5120 .bf16) (s : Vec Ideal S64000x160 .f32) (k : Fin 3) (b : Fin 128) (v : Fin 64000) :
    (logits x w s (ix3 k b v) : EReal) = ∑ d : Fin 5120, (x (ix3 k b d) : EReal) * ((w (ix2 v d) : EReal) * (s (ix2 v ⟨d.val / 32, by omega⟩) : EReal)) := by
  refine Eq.trans (b := ∑ d : Fin 5120, (x (ix3 k b d) : EReal) * (weights w s (ix2 v d) : EReal)) ?_
    (Finset.sum_congr rfl fun d _ => congrArg (HMul.hMul _) (weights_apply w s v d))
  unfold logits
  generalize weights w s = W
  pointwise

theorem ofBits_neg_inf : Ideal.ofBits FTy.f32 0xFF800000#32 = ⊥ := by
  unfold Ideal.ofBits
  decide

theorem fold_sup {ι : Type} (s : Finset ι) (f : ι → EReal) : s.fold max ⊥ f = s.sup f := rfl

theorem maxOf_apply (z : Vec Ideal S3x128x64000 .f32) (k : Fin 3) (b : Fin 128) :
    (maxOf z (ix2 k b) : EReal) = Finset.univ.sup fun v : Fin 64000 => (z (ix3 k b v) : EReal) := by
  refine Eq.trans (b := Finset.univ.fold max (Ideal.ofBits FTy.f32 0xFF800000#32) fun v : Fin 64000 => (z (ix3 k b v) : EReal)) ?_
    ((congrArg (fun e => Finset.univ.fold max e fun v : Fin 64000 => (z (ix3 k b v) : EReal)) ofBits_neg_inf).trans (fold_sup _ _))
  unfold maxOf
  pointwise

/-- The sum along a row. -/
def sumOf (e : Vec Ideal S3x128x64000 .f32) : Vec Ideal S3x128 .f32 :=
  Host.reduceAdd (F := Ideal) (φ := .f32) e (constant (F := Ideal) S_ .f32 0x00000000#32) reducesTo_S3x128x64000_S3x128_d2 h_S_

/-- The exponentials of the logits less their row's largest. -/
def expOf (z : Vec Ideal S3x128x64000 .f32) (M : Vec Ideal S3x128 .f32) : Vec Ideal S3x128x64000 .f32 :=
  Host.exp (F := Ideal) (φ := .f32) (subf (F := Ideal) (φ := .f32) z
      (broadcastInDim S3x128x64000 ![0, 1, 2] bcast_S3x128x1_S3x128x64000_0_1_2 (broadcastInDim S3x128x1 ![0, 1] bcast_S3x128_S3x128x1_0_1 M)))

theorem sumOf_apply (e : Vec Ideal S3x128x64000 .f32) (k : Fin 3) (b : Fin 128) :
    (sumOf e (ix2 k b) : EReal) = ∑ v : Fin 64000, (e (ix3 k b v) : EReal) := by
  unfold sumOf
  pointwise

theorem expOf_apply (z : Vec Ideal S3x128x64000 .f32) (M : Vec Ideal S3x128 .f32) (k : Fin 3) (b : Fin 128) (v : Fin 64000) :
    (expOf z M (ix3 k b v) : EReal) = Ideal.exp ((z (ix3 k b v) : EReal) - (M (ix2 k b) : EReal)) := by
  unfold expOf
  pointwise

theorem add_log (M q : Vec Ideal S3x128 .f32) (y : S3x128.Idx) :
    (addf (F := Ideal) (φ := .f32) M (Host.log (F := Ideal) (φ := .f32) q) y : EReal) = (M y : EReal) + Ideal.log (q y) := rfl

theorem lseOf_apply (z : Vec Ideal S3x128x64000 .f32) (k : Fin 3) (b : Fin 128) :
    (lseOf z (ix2 k b) : EReal) = (maxOf z (ix2 k b) : EReal) + Ideal.log (∑ v : Fin 64000, Ideal.exp ((z (ix3 k b v) : EReal) - (maxOf z (ix2 k b) : EReal))) := by
  rw [show lseOf z = addf (F := Ideal) (φ := .f32) (maxOf z) (Host.log (F := Ideal) (φ := .f32) (sumOf (expOf z (maxOf z)))) from rfl, add_log, sumOf_apply]
  exact congrArg (fun e => (maxOf z (ix2 k b) : EReal) + Ideal.log e) (Finset.sum_congr rfl fun v _ => expOf_apply z (maxOf z) k b v)

theorem toInt_small (x : BitVec 32) (h : x.toNat < 64000) : x.toInt = (x.toNat : Int) := by
  rw [BitVec.toInt_eq_toNat_cond, if_pos (by omega)]

theorem slt_zero (x : BitVec 32) (h : x.toNat < 64000) : IntOp.cmpi .slt x 0#32 = 0#1 := by
  show BitVec.ofBool (decide (x.toInt < (0#32).toInt)) = _
  rw [toInt_small x h, show (0#32 : BitVec 32).toInt = 0 from rfl, decide_eq_false (by omega)]; rfl

theorem sge_zero (x : BitVec 32) (h : x.toNat < 64000) : IntOp.cmpi .sge x 0#32 = 1#1 := by
  show BitVec.ofBool (decide ((0#32).toInt ≤ x.toInt)) = _
  rw [toInt_small x h, show (0#32 : BitVec 32).toInt = 0 from rfl, decide_eq_true (by omega)]; rfl

theorem sle_last (x : BitVec 32) (h : x.toNat < 64000) : IntOp.cmpi .sle x 63999#32 = 1#1 := by
  show BitVec.ofBool (decide (x.toInt ≤ (63999#32).toInt)) = _
  rw [toInt_small x h, show (63999#32 : BitVec 32).toInt = 63999 from rfl, decide_eq_true (by omega)]; rfl

theorem posOf_apply (i : Vec Ideal S3x128x8 .i32) (k : Fin 3) (b : Fin 128) (j : Fin 8) (l : Fin 1) (hi : (i (ix3 k b j) : BitVec 32).toNat < 64000) :
    (posOf i (ix4 k b j l) : BitVec 32) = i (ix3 k b j) := by
  refine Eq.trans (b := Scalar.select (IntOp.cmpi CmpIPredicate.slt (i (ix3 k b j)) 0#32) (IntOp.addi (i (ix3 k b j)) 64000#32) (i (ix3 k b j))) ?_ ?_
  · unfold posOf
    pointwise
  · rw [slt_zero _ hi]
    rfl

theorem inOf_apply (p : Vec Ideal S3x128x8x1 .i32) (y : S3x128x8x1.Idx) (hi : (p y : BitVec 32).toNat < 64000) :
    (inOf p y : BitVec 1) = 1#1 := by
  refine Eq.trans (b := IntOp.andi (IntOp.cmpi CmpIPredicate.sge (p y) 0#32) (IntOp.cmpi CmpIPredicate.sle (p y) 63999#32)) ?_ ?_
  · rfl
  · rw [sge_zero _ hi, sle_last _ hi]
    rfl

theorem idsOf_apply (i : Vec Ideal S128x1x3x8 .i32) (k : Fin 3) (b : Fin 128) (j : Fin 8) :
    (idsOf i (ix3 k b j) : BitVec 32) = i (ix4 b 0 k j) := by
  unfold idsOf
  pointwise

theorem all_apply (q : Vec Ideal S3x128x8x1 .i1) (k : Fin 3) (b : Fin 128) (j : Fin 8) (hq : (q (ix4 k b j 0) : BitVec 1) = 1#1) :
    (Host.reduce IntOp.andi q (constantI S_ 1 1#1) reducesTo_S3x128x8x1_S3x128x8_d3 h_S_ (ix3 k b j) : BitVec 1) = 1#1 := by
  refine Eq.trans (b := Finset.fold IntOp.andi (1#1) (fun x : Fin 1 => (q (ix4 k b j x) : BitVec 1)) Finset.univ) ?_ ?_
  · pointwise
  · rw [show (Finset.univ : Finset (Fin 1)) = {0} from rfl, Finset.fold_singleton, hq]
    rfl

theorem gather_apply (z : Vec Ideal S3x128x64000 .f32) (p : Vec Ideal S3x128x8x1 .i32) (k : Fin 3) (b : Fin 128) (j : Fin 8) :
    (Host.gather gather_S3x128x64000_S3x128x8x1_S3x128x8_n_2_01_01_2_3_111 z p (ix3 k b j) : EReal)
      = z (ix3 k b ⟨min (p (ix4 k b j 0) : BitVec 32).toInt.toNat (64000 - 1), by omega⟩) := by
  unfold Host.gather
  refine congrArg z ?_
  funext a
  refine Fin.ext ?_
  set D := gather_S3x128x64000_S3x128x8x1_S3x128x8_n_2_01_01_2_3_111 with hD
  show D.start (ix3 k b j) p a + D.batchCoord (ix3 k b j) a + D.offCoord (ix3 k b j) a = _
  have m0 : 0 ∈ D.operandBatchingDims := by decide
  have m1 : 1 ∈ D.operandBatchingDims := by decide
  have m2 : 2 ∈ D.startIndexMap := by decide
  have m2' : 2 ∈ D.collapsedSliceDims := by decide
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ m0,
      GatherDims.offCoord_eq_zero _ _ _ (fun h => ((GatherDims.mem_sKept _ _).mp h).2 m0)]
    simp only [Nat.zero_add, Nat.add_zero]
    unfold GatherDims.batchCoord
    rw [dif_pos m0]
    rfl
  · rw [GatherDims.start_batching _ _ _ _ m1,
      GatherDims.offCoord_eq_zero _ _ _ (fun h => ((GatherDims.mem_sKept _ _).mp h).2 m1)]
    simp only [Nat.zero_add, Nat.add_zero]
    unfold GatherDims.batchCoord
    rw [dif_pos m1]
    rfl
  · rw [GatherDims.batchCoord_eq_zero _ _ _ (fun h => absurd h (show ¬ (2 : Fin 3) ∈ ([0, 1] : List (Fin 3)) by decide)),
      GatherDims.offCoord_eq_zero _ _ _ (fun h => ((GatherDims.mem_sKept _ _).mp h).1 m2')]
    simp only [Nat.add_zero]
    unfold GatherDims.start
    rw [dif_pos m2]
    have hsi : D.siIdx (ix3 k b j) ⟨List.idxOf (2 : Fin 3) D.startIndexMap,
        List.idxOf_lt_length_iff.2 m2⟩ = ix4 k b j 0 := by
      funext e; refine Fin.ext ?_
      match e with
      | ⟨0, _⟩ => rfl
      | ⟨1, _⟩ => rfl
      | ⟨2, _⟩ => rfl
      | ⟨3, _⟩ => rfl
    rw [hsi]
    rfl

theorem pickOf_apply (z : Vec Ideal S3x128x64000 .f32) (i : Vec Ideal S3x128x8 .i32) (k : Fin 3) (b : Fin 128) (j : Fin 8)
    (hi : (i (ix3 k b j) : BitVec 32).toNat < 64000) : (pickOf z i (ix3 k b j) : EReal) = z (ix3 k b ⟨(i (ix3 k b j) : BitVec 32).toNat, hi⟩) := by
  have hp := posOf_apply i k b j 0 hi
  have ha := all_apply (inOf (posOf i)) k b j (inOf_apply (posOf i) (ix4 k b j 0) (by rw [hp]; exact hi))
  have hs : (pickOf z i (ix3 k b j) : EReal) = Scalar.select (Host.reduce IntOp.andi (inOf (posOf i)) (constantI S_ 1 1#1) reducesTo_S3x128x8x1_S3x128x8_d3 h_S_ (ix3 k b j) : BitVec 1)
      (Host.gather gather_S3x128x64000_S3x128x8x1_S3x128x8_n_2_01_01_2_3_111 z (posOf i) (ix3 k b j)) (broadcastInDim S3x128x8 ![] bcast_S_S3x128x8 (constant (F := Ideal) S_ .f32 0x7FC00000#32) (ix3 k b j)) := rfl
  rw [hs, ha]
  refine Eq.trans (gather_apply z (posOf i) k b j) ?_
  refine congrArg (fun q => (z (ix3 k b q) : EReal)) (Fin.ext ?_)
  show min (posOf i (ix4 k b j 0) : BitVec 32).toInt.toNat (64000 - 1) = (i (ix3 k b j) : BitVec 32).toNat
  rw [hp, toInt_small _ hi]
  omega

end Cert.ReferenceIdeal.Value
-- ==== Proof.Equal.lean ====
/-
  The reference's three results are the kernel's, entry by entry: the first two everywhere, the third wherever the
  candidate's id is that of a column.
-/
module

public import proofs.«01_k».proof.Proof.Fold
public import proofs.«01_k».proof.Proof.RefVal
public import proofs.«01_k».proof.On_ids_in_range

@[expose] public section

set_option maxRecDepth 16384

noncomputable section

open Idealize.ShloMosaic Idealize.ShloMosaic.TcCoe Idealize.SL.Sem

namespace Cert.Equal

open Cert.KernelIdeal (nD τ sig main_arg0 main_arg1 main_arg2 main_arg3 S3x128 S3x8x128 S3x128x5120 S64000x5120 S64000x160 S128x1x3x8)
open Cert.KernelIdeal.Value
open Cert.ReferenceIdeal.Value (logits maxOf lseOf pickOf idsOf)

/-- The side conditions of the predicate on the ids. -/
instance ids_facts : Cert.On_ids_in_range.Facts where
  shapeCasts_S128x1x3x8_S128x3x8 := by decide
  transposes_S128x3x8_S3x8x128_1_2_0 := by decide
  bcast_S_S3x128 := by decide
  bcast_S_S3x8x128 := by decide

variable (m : (ℓ : Loc nD τ sig) → Buf (Elt Ideal) ℓ) (c : Dev nD)

/-- The reference's logits, at the kernel's arguments. -/
abbrev Y : Vec Ideal Cert.ReferenceIdeal.S3x128x64000 .f32 :=
  logits (m ((c : Thread nD τ).loc main_arg0)) (m ((c : Thread nD τ).loc main_arg1) : S64000x5120.Idx → EReal) (m ((c : Thread nD τ).loc main_arg2))

theorem X_flat (k : Fin 3) (b : Fin 128) (v : Fin 64000) : X m c (flat k b) v.val = (Y m c (ix3 k b v) : EReal) := by
  unfold Y X
  rw [dif_pos v.isLt, Cert.ReferenceIdeal.Value.logits_apply]
  have hk : (⟨(flat k b).val / 128, by omega⟩ : Fin 3) = k := Fin.ext (by show (128 * k.val + b.val) / 128 = k.val; omega)
  have hb : (⟨(flat k b).val % 128, by omega⟩ : Fin 128) = b := Fin.ext (by show (128 * k.val + b.val) % 128 = b.val; omega)
  rw [hk, hb]
  rfl

theorem exists_pair (y : S3x128.Idx) : ∃ (k : Fin 3) (b : Fin 128), y = ix2 k b := ⟨y 0, y 1, by idx_vars y⟩

theorem exists_triple (y : S3x8x128.Idx) : ∃ (k : Fin 3) (j : Fin 8) (b : Fin 128), y = ix3 k j b := ⟨y 0, y 1, y 2, by idx_vars y⟩

theorem max_eq (y : S3x128.Idx) : (maxOf (Y m c) y : EReal) = G5 m c y := by
  obtain ⟨k, b, rfl⟩ := exists_pair y
  rw [G5_apply, Cert.ReferenceIdeal.Value.maxOf_apply]
  unfold top
  exact Finset.sup_congr rfl fun v _ => (X_flat m c k b v).symm

theorem lse_eq (y : S3x128.Idx) : (lseOf (Y m c) y : EReal) = G4 m c y := by
  obtain ⟨k, b, rfl⟩ := exists_pair y
  have hm : (maxOf (Y m c) (ix2 k b) : EReal) = top m c (flat k b) := (max_eq m c _).trans (G5_apply m c _)
  rw [G4_apply, Cert.ReferenceIdeal.Value.lseOf_apply, hm]
  refine congrArg (fun e : EReal => top m c (flat k b) + Ideal.log e) (Finset.sum_congr rfl fun v _ => ?_)
  rw [← X_flat m c k b v]
  rfl

/-- A candidate's id, as the kernel and the reference both read it. -/
abbrev cid (k : Fin 3) (j : Fin 8) (b : Fin 128) : BitVec 32 := m ((c : Thread nD τ).loc main_arg3) (ix4 b 0 k j)

theorem ids0_apply (k : Fin 3) (j : Fin 8) (b : Fin 128) (l : Fin 128) (hl : l.val = j.val) : (ids0 m c (ix2 (flat k b) l) : BitVec 32) = cid m c k j b := by
  rw [← blk_ids m c ⟨0, by decide⟩]
  exact blk_i m c _ k b (flat k b) rfl l j hl.symm

theorem cand_eq (k : Fin 3) (j : Fin 8) (b : Fin 128) (h : (cid m c k j b).toNat < 64000) :
    (pickOf (Y m c) (idsOf (m ((c : Thread nD τ).loc main_arg3))) (ix3 k b j) : EReal) = G6 m c (ix3 k j b) := by
  have e := Cert.ReferenceIdeal.Value.idsOf_apply (m ((c : Thread nD τ).loc main_arg3)) k b j
  rw [Cert.ReferenceIdeal.Value.pickOf_apply (Y m c) _ k b j (by rw [e]; exact h)]
  have i0 := ids0_apply m c k j b ⟨j.val, by omega⟩ rfl
  rw [G6_apply m c (ix3 k j b) ⟨j.val, by omega⟩ rfl (by show (ids0 m c (ix2 (flat k b) _)).toNat < 64000; rw [i0]; exact h)]
  show _ = X m c (flat k b) (ids0 m c (ix2 (flat k b) ⟨j.val, by omega⟩)).toNat
  rw [i0]
  refine Eq.trans ?_ (X_flat m c k b ⟨(cid m c k j b).toNat, h⟩).symm
  exact congrArg (fun v => (Y m c (ix3 k b v) : EReal)) (Fin.ext (congrArg BitVec.toNat e))

/-- Both tests at one, the word is an id. -/
theorem small_of_tests (x : BitVec 32) (h : IntOp.andi (IntOp.cmpi .sge x 0#32) (IntOp.cmpi .slt x 64000#32) = 1#1) : x.toNat < 64000 := by
  by_contra hn
  have hb : IntOp.cmpi .sge x 0#32 = 0#1 ∨ IntOp.cmpi .slt x 64000#32 = 0#1 := by
    by_cases hx : 2 * x.toNat < 4294967296
    · right
      show BitVec.ofBool (decide (x.toInt < (64000#32).toInt)) = _
      rw [BitVec.toInt_eq_toNat_cond, if_pos hx, show (64000#32 : BitVec 32).toInt = 64000 from rfl, decide_eq_false (by omega)]; rfl
    · left
      show BitVec.ofBool (decide ((0#32).toInt ≤ x.toInt)) = _
      have := x.isLt
      rw [show (0#32 : BitVec 32).toInt = 0 from rfl, BitVec.toInt_eq_toNat_cond, if_neg hx, decide_eq_false (by omega)]; rfl
  revert h
  rcases hb with h0 | h0 <;> rw [h0]
  · generalize IntOp.cmpi .slt x 64000#32 = q
    revert q
    decide
  · generalize IntOp.cmpi .sge x 0#32 = q
    revert q
    decide

theorem mask_apply (i0 : Vec Ideal S3x128x5120 .bf16) (i1 : Vec Ideal S64000x5120 .fp8e4m3) (i2 : Vec Ideal S64000x160 .f32) (i3 : Vec Ideal S128x1x3x8 .i32)
    (k : Fin 3) (j : Fin 8) (b : Fin 128) :
    ((Cert.On_ids_in_range.fn (F := Ideal) i0 i1 i2 i3).2.2 (ix3 k j b) : BitVec 1)
      = IntOp.andi (IntOp.cmpi .sge (i3 (ix4 b 0 k j)) 0#32) (IntOp.cmpi .slt (i3 (ix4 b 0 k j)) 64000#32) := by
  unfold Cert.On_ids_in_range.fn
  pointwise

/-- Where the predicate holds, the third results agree. -/
theorem cand_on (y : S3x8x128.Idx)
    (h : ((Cert.On_ids_in_range.fn (F := Ideal) (m ((c : Thread nD τ).loc main_arg0)) (m ((c : Thread nD τ).loc main_arg1))
      (m ((c : Thread nD τ).loc main_arg2)) (m ((c : Thread nD τ).loc main_arg3))).2.2 y : BitVec 1) = 1#1) :
    (transpose Cert.ReferenceIdeal.S3x8x128 [0, 2, 1] (pickOf (Y m c) (idsOf (m ((c : Thread nD τ).loc main_arg3)))) Cert.ReferenceIdeal.Gen.transposes_S3x128x8_S3x8x128_0_2_1 y : EReal)
      = G6 m c y := by
  obtain ⟨k, j, b, rfl⟩ := exists_triple y
  rw [mask_apply] at h
  refine Eq.trans ?_ (cand_eq m c k j b (small_of_tests _ h))
  generalize pickOf (Y m c) (idsOf (m ((c : Thread nD τ).loc main_arg3))) = P
  pointwise

end Cert.Equal
-- ==== Proof.ResidualFrame.Runs.lean ====
/-
  What the two runs of the residual block's body share: the launch's facts, the conditions of the grid points in closed
  form, where the codes and scales of x are idle, and the names of the staging buffers.
-/
module

public import proofs.«01_k».proof.Proof.Gen.Residual.Launch
public import proofs.«01_k».proof.Proof.Gen.Residual.Skeleton
public import proofs.«01_k».proof.Proof.Gen.Residual.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Residual.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Residual`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c)))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 30 = 0 :=
  (fun t => by
    have ht : t.val < 30 := Nat.lt_of_lt_of_eq t.isLt N_0
    have e0 : (grid0.coords t 0).val = t.val / 10 % 3 := Pipeline.Grid.coords_val t 0 (by decide) rfl
    have e1 : (grid0.coords t 1).val = t.val / 1 % 10 := Pipeline.Grid.coords_val t 1 (by decide) rfl
    simp only [cond0_0, k0_cond1, e0, e1]
    word_cmp
   : ∀ t : Fin grid0.N, cond0_0 (grid0.coords t) ↔ t.val % 30 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 6 is never idle (an output stored at every point, under no condition). -/
theorem liveAt0_6 : ∀ t : Fin cfg0.N, cfg0.idle 6 (grid0.coords t) = false := fun _ => rfl
/-- Window 7 is never idle (an output stored at every point, under no condition). -/
theorem liveAt0_7 : ∀ t : Fin cfg0.N, cfg0.idle 7 (grid0.coords t) = false := fun _ => rfl
/-- Window 8 is never idle (an output stored at every point, under no condition). -/
theorem liveAt0_8 : ∀ t : Fin cfg0.N, cfg0.idle 8 (grid0.coords t) = false := fun _ => rfl
/-- Whether output 4's buffer is FRESH at each position `1 ‥ N` — holds nothing the body stored since the region's entry or the
    last write-back (written back at the point before, or idle there and fresh before it) —, as a bitmask the classifier
    computed, bit `n` for position `n + 1`; position 0 is fresh. `freshTab0_4_step` checks it against the configuration's own
    step point by point and Lib/Pipeline/TableIdle.lean `Cfg.fresh_tab` makes it `Cfg.fresh` (`fresh0_4_eq`). -/
def freshTab0_4 : ℕ → Bool
  | 0 => true
  | n + 1 => (0x20000000 : ℕ).testBit n
theorem freshTab0_4_step : ∀ t : Fin cfg0.N,
    freshTab0_4 (t.val + 1) = ((cfg0.win 4).flush t || (cfg0.idle 4 (cfg0.grid.coords t) && freshTab0_4 t.val)) := by decide +kernel
theorem fresh0_4_eq (t : Fin cfg0.N) : cfg0.fresh 4 t.val = freshTab0_4 t.val :=
  Pipeline.Cfg.fresh_tab cfg0 4 freshTab0_4 rfl freshTab0_4_step t.val (Nat.le_of_lt t.isLt)
/-- At the points of case A the printed configuration (`Cfg.idle`) calls output 4 live: the case stores into it. -/
theorem liveAt0_4_A : ∀ t : Fin cfg0.N, cond0_0 (grid0.coords t) → cfg0.idle 4 (grid0.coords t) = false := by decide +kernel
/-- At the points of case B the printed configuration (`Cfg.idle`) calls output 4 live: the case stores into it. -/
theorem idleAt0_4_B : ∀ t : Fin cfg0.N, ¬cond0_0 (grid0.coords t) → cfg0.idle 4 (grid0.coords t) = true := by decide +kernel
/-- At the points of case B, which keeps output 4's prior contents (reads it before covering, or covers it in part), the
    window's buffer is not FRESH: something was stored into it since the region's entry or its last write-back, idle points
    between or not (Lib/Pipeline/TableIdle.lean `Cfg.fresh`, by the table `freshTab0_4`). -/
theorem notFresh0_4_B : ∀ t : Fin cfg0.N, ¬cond0_0 (grid0.coords t) → cfg0.fresh 4 t.val = false := by
  intro t; rw [fresh0_4_eq t]; revert t; decide +kernel
/-- Whether output 5's buffer is FRESH at each position `1 ‥ N` — holds nothing the body stored since the region's entry or the
    last write-back (written back at the point before, or idle there and fresh before it) —, as a bitmask the classifier
    computed, bit `n` for position `n + 1`; position 0 is fresh. `freshTab0_5_step` checks it against the configuration's own
    step point by point and Lib/Pipeline/TableIdle.lean `Cfg.fresh_tab` makes it `Cfg.fresh` (`fresh0_5_eq`). -/
def freshTab0_5 : ℕ → Bool
  | 0 => true
  | n + 1 => (0x20000000 : ℕ).testBit n
theorem freshTab0_5_step : ∀ t : Fin cfg0.N,
    freshTab0_5 (t.val + 1) = ((cfg0.win 5).flush t || (cfg0.idle 5 (cfg0.grid.coords t) && freshTab0_5 t.val)) := by decide +kernel
theorem fresh0_5_eq (t : Fin cfg0.N) : cfg0.fresh 5 t.val = freshTab0_5 t.val :=
  Pipeline.Cfg.fresh_tab cfg0 5 freshTab0_5 rfl freshTab0_5_step t.val (Nat.le_of_lt t.isLt)
/-- At the points of case A the printed configuration (`Cfg.idle`) calls output 5 live: the case stores into it. -/
theorem liveAt0_5_A : ∀ t : Fin cfg0.N, cond0_0 (grid0.coords t) → cfg0.idle 5 (grid0.coords t) = false := by decide +kernel
/-- At the points of case B the printed configuration (`Cfg.idle`) calls output 5 live: the case stores into it. -/
theorem idleAt0_5_B : ∀ t : Fin cfg0.N, ¬cond0_0 (grid0.coords t) → cfg0.idle 5 (grid0.coords t) = true := by decide +kernel
/-- At the points of case B, which keeps output 5's prior contents (reads it before covering, or covers it in part), the
    window's buffer is not FRESH: something was stored into it since the region's entry or its last write-back, idle points
    between or not (Lib/Pipeline/TableIdle.lean `Cfg.fresh`, by the table `freshTab0_5`). -/
theorem notFresh0_5_B : ∀ t : Fin cfg0.N, ¬cond0_0 (grid0.coords t) → cfg0.fresh 5 t.val = false := by
  intro t; rw [fresh0_5_eq t]; revert t; decide +kernel

/-! ## The kernel body on any staging memrefs: a subtype the run finds -/

/-- One staging buffer of output window 4, through which its contents are stated (`View.read_writes_of_cover`: the
    choice does not matter). -/
abbrev VO0_4 : View sig .tc .vmem S128x5120 .fp8e4m3 := (Memref.whole cc0_stg4_0 : Memref sig .tc .vmem S128x5120 .fp8e4m3).view
/-- One staging buffer of output window 5, through which its contents are stated (`View.read_writes_of_cover`: the
    choice does not matter). -/
abbrev VO0_5 : View sig .tc .vmem S1x128 .f32 := (Memref.whole cc0_stg5_0 : Memref sig .tc .vmem S1x128 .f32).view
/-- One staging buffer of output window 6, through which its contents are stated (`View.read_writes_of_cover`: the
    choice does not matter). -/
abbrev VO0_6 : View sig .tc .vmem S1x128x512 .fp8e4m3 := (Memref.whole cc0_stg6_0 : Memref sig .tc .vmem S1x128x512 .fp8e4m3).view
/-- One staging buffer of output window 7, through which its contents are stated (`View.read_writes_of_cover`: the
    choice does not matter). -/
abbrev VO0_7 : View sig .tc .vmem S1x16x128 .f32 := (Memref.whole cc0_stg7_0 : Memref sig .tc .vmem S1x16x128 .f32).view
/-- One staging buffer of output window 8, through which its contents are stated (`View.read_writes_of_cover`: the
    choice does not matter). -/
abbrev VO0_8 : View sig .tc .vmem S1x128x512 .bf16 := (Memref.whole cc0_stg8_0 : Memref sig .tc .vmem S1x128x512 .bf16).view
/-- Each window's current staging memref at point `t`, spelled as the pipeline passes it (`bodyAt0`), and its wholeness. -/
abbrev ms0_0 (t : Fin cfg0.N) : Memref sig .tc .vmem S128x5120 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x5120x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x5120 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x5120 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x5120 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128x512 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x16x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128x512 .bf16 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S128x128 .f32 := Memref.whole cc0_scratch0
/-- The scratch `arg11` the kernel carries between points, as a view: what it holds is stated through it. -/
abbrev VS0_0 : View sig .tc .vmem S128x128 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

end Cert.Residual.Gen

end
-- ==== Proof.ResidualFrame.RunA.lean ====
/-
  The body's run at the first grid point, where the codes and scales of x are stored: the pieces each output ends with.
-/
module

public import proofs.«01_k».proof.Proof.ResidualFrame.Runs

@[expose] public section

-- membership in a rectangle of production extents (`View.cover_of_tiled`): the elaborator's structural look
-- recurses once per coordinate of the long axes
set_option maxRecDepth 16384

noncomputable section

namespace Cert.Residual.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1084000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole) (hc0 : cond0_0 i)
    (x0 : Vec F S128x5120 .bf16) (x1 : Vec F S1x5120x512 .fp8e4m3) (x2 : Vec F S3x5120 .f32) (x3 : Vec F S3x5120 .f32) :
    Σ' (L4 : List (View.Piece (Elt F) S128x5120 .fp8e4m3)), Σ' (L5 : List (View.Piece (Elt F) S1x128 .f32)), Σ' (L6 : List (View.Piece (Elt F) S1x128x512 .fp8e4m3)), Σ' (L7 : List (View.Piece (Elt F) S1x16x128 .f32)), Σ' (L8 : List (View.Piece (Elt F) S1x128x512 .bf16)), { LS0 : List (View.Piece (Elt F) S128x128 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0_residual i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0_residual_eq_skeleton]; unfold cc0_residual_skel
    simp only [k0_part14_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    iexists _; iexact HS0

end Cert.Residual.Gen

end
-- ==== Proof.ResidualFrame.RunB.lean ====
/-
  The body's run at every later grid point, where the codes and scales of x are read and left as they are.
-/
module

public import proofs.«01_k».proof.Proof.ResidualFrame.RunA

@[expose] public section

-- membership in a rectangle of production extents (`View.cover_of_tiled`): the elaborator's structural look
-- recurses once per coordinate of the long axes
set_option maxRecDepth 16384

noncomputable section

namespace Cert.Residual.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 29: 29 of 30), WITH the
    proof that on whole staging memrefs — the inputs' at their contents, the outputs it reads before covering (4, 5) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole) (hc0 : ¬cond0_0 i)
    (x0 : Vec F S128x5120 .bf16) (x1 : Vec F S1x5120x512 .fp8e4m3) (x2 : Vec F S3x5120 .f32) (x3 : Vec F S3x5120 .f32) (xo4 : Vec F S128x5120 .fp8e4m3) (xo5 : Vec F S1x128 .f32) (xs0 : Vec F S128x128 .f32) :
    Σ' (L4 : List (View.Piece (Elt F) S128x5120 .fp8e4m3)), Σ' (L5 : List (View.Piece (Elt F) S1x128 .f32)), Σ' (L6 : List (View.Piece (Elt F) S1x128x512 .fp8e4m3)), Σ' (L7 : List (View.Piece (Elt F) S1x16x128 .f32)), Σ' (L8 : List (View.Piece (Elt F) S1x128x512 .bf16)), { LS0 : List (View.Piece (Elt F) S128x128 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ owns (c : Thread nD τ) arg7 fullShare xo5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ owns (c : Thread nD τ) arg7 fullShare xo5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ owns (c : Thread nD τ) arg11 fullShare xs0) -∗ K ⟨⟩))
          ⊢ wp frame (wpE (defs₀ (F := F)) Variants.none c none) E (cc0_residual i arg2 harg2 arg3 harg3 arg4 harg4 arg5 harg5 arg6 harg6 arg7 harg7 arg8 harg8 arg9 harg9 arg10 harg10 arg11 harg11) K } := by
  refine ⟨[], [], ?_, ?_, ?_, [], fun E K => ?run⟩
  case run =>
    simp only [cc0_residual_eq_skeleton]; unfold cc0_residual_skel
    simp only [k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    iexists _; isplitr; · ipureintro; exact harg11.read_unread _
    iexact HS0

end Cert.Residual.Gen

end
-- ==== Proof.ResidualFrame.Frame.lean ====
/-
  The residual block runs to an end and leaves its arguments as they are. The codes and scales of x are stored at the
  first grid point only, read at every point, and written back after the last: their staging buffers carry the first
  point's contents through all later points (`keep4`, `keep5`), which is what the write-back then writes.
-/
module

public import proofs.«01_k».proof.Proof.ResidualFrame.RunB
public import Idealize.ShloMosaic.Lib.Claim

@[expose] public section

-- membership in a rectangle of production extents (`View.cover_of_tiled`): the elaborator's structural look
-- recurses once per coordinate of the long axes
set_option maxRecDepth 16384

noncomputable section

namespace Cert.Residual.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- Case A's pieces for output 4 tile its block (40 stores of `S128x128`, checked by the kernel's evaluation: Lib/Ring.lean `Piece.tiledL`, linear in the pieces, through a loop's `@[irreducible]` trip theorem too), so they cover it. -/
theorem cover0_A_4 (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole) (hc0 : cond0_0 i)
    (x0 : Vec F S128x5120 .bf16) (x1 : Vec F S1x5120x512 .fp8e4m3) (x2 : Vec F S3x5120 .f32) (x3 : Vec F S3x5120 .f32) (y : S128x5120.Idx) :
    ∃ pc ∈ (kernelRun0_A c i arg2 harg2 arg3 harg3 arg4 harg4 arg5 harg5 arg6 harg6 arg7 harg7 arg8 harg8 arg9 harg9 arg10 harg10 arg11 harg11 hc0 x0 x1 x2 x3).1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3).1 S128x128.size (by sl_kernel_rfl) y

/-- What case A leaves in output 4's staging buffer: its pieces read back over junk. -/
def out0_A_4 (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole) (hc0 : cond0_0 i)
    (x0 : Vec F S128x5120 .bf16) (x1 : Vec F S1x5120x512 .fp8e4m3) (x2 : Vec F S3x5120 .f32) (x3 : Vec F S3x5120 .f32) : Vec F S128x5120 .fp8e4m3 :=
  VO0_4.read (Elt F) (VO0_4.writes (Elt F) VO0_4.junk (kernelRun0_A c i arg2 harg2 arg3 harg3 arg4 harg4 arg5 harg5 arg6 harg6 arg7 harg7 arg8 harg8 arg9 harg9 arg10 harg10 arg11 harg11 hc0 x0 x1 x2 x3).1)

/-- Case A's pieces for output 5 tile its block (1 store of `S1x128`, checked by the kernel's evaluation: Lib/Ring.lean `Piece.tiledL`, linear in the pieces, through a loop's `@[irreducible]` trip theorem too), so they cover it. -/
theorem cover0_A_5 (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole) (hc0 : cond0_0 i)
    (x0 : Vec F S128x5120 .bf16) (x1 : Vec F S1x5120x512 .fp8e4m3) (x2 : Vec F S3x5120 .f32) (x3 : Vec F S3x5120 .f32) (y : S1x128.Idx) :
    ∃ pc ∈ (kernelRun0_A c i arg2 harg2 arg3 harg3 arg4 harg4 arg5 harg5 arg6 harg6 arg7 harg7 arg8 harg8 arg9 harg9 arg10 harg10 arg11 harg11 hc0 x0 x1 x2 x3).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3).2.1 S1x128.size (by sl_kernel_rfl) y

/-- What case A leaves in output 5's staging buffer: its pieces read back over junk. -/
def out0_A_5 (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole) (hc0 : cond0_0 i)
    (x0 : Vec F S128x5120 .bf16) (x1 : Vec F S1x5120x512 .fp8e4m3) (x2 : Vec F S3x5120 .f32) (x3 : Vec F S3x5120 .f32) : Vec F S1x128 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 hc0 x0 x1 x2 x3).2.1)

/-- Case A's pieces for output 6 tile its block (4 stores of `S1x128x128`, checked by the kernel's evaluation: Lib/Ring.lean `Piece.tiledL`, linear in the pieces, through a loop's `@[irreducible]` trip theorem too), so they cover it. -/
theorem cover0_A_6 (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole) (hc0 : cond0_0 i)
    (x0 : Vec F S128x5120 .bf16) (x1 : Vec F S1x5120x512 .fp8e4m3) (x2 : Vec F S3x5120 .f32) (x3 : Vec F S3x5120 .f32) (y : S1x128x512.Idx) :
    ∃ pc ∈ (kernelRun0_A c i arg2 harg2 arg3 harg3 arg4 harg4 arg5 harg5 arg6 harg6 arg7 harg7 arg8 harg8 arg9 harg9 arg10 harg10 arg11 harg11 hc0 x0 x1 x2 x3).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3).2.2.1 S1x128x128.size (by sl_kernel_rfl) y

/-- What case A leaves in output 6's staging buffer: its pieces read back over junk. -/
def out0_A_6 (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole) (hc0 : cond0_0 i)
    (x0 : Vec F S128x5120 .bf16) (x1 : Vec F S1x5120x512 .fp8e4m3) (x2 : Vec F S3x5120 .f32) (x3 : Vec F S3x5120 .f32) : Vec F S1x128x512 .fp8e4m3 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 hc0 x0 x1 x2 x3).2.2.1)

/-- Case A's pieces for output 7 tile its block (1 store of `S1x16x128`, checked by the kernel's evaluation: Lib/Ring.lean `Piece.tiledL`, linear in the pieces, through a loop's `@[irreducible]` trip theorem too), so they cover it. -/
theorem cover0_A_7 (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole) (hc0 : cond0_0 i)
    (x0 : Vec F S128x5120 .bf16) (x1 : Vec F S1x5120x512 .fp8e4m3) (x2 : Vec F S3x5120 .f32) (x3 : Vec F S3x5120 .f32) (y : S1x16x128.Idx) :
    ∃ pc ∈ (kernelRun0_A c i arg2 harg2 arg3 harg3 arg4 harg4 arg5 harg5 arg6 harg6 arg7 harg7 arg8 harg8 arg9 harg9 arg10 harg10 arg11 harg11 hc0 x0 x1 x2 x3).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3).2.2.2.1 S1x16x128.size (by sl_kernel_rfl) y

/-- What case A leaves in output 7's staging buffer: its pieces read back over junk. -/
def out0_A_7 (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole) (hc0 : cond0_0 i)
    (x0 : Vec F S128x5120 .bf16) (x1 : Vec F S1x5120x512 .fp8e4m3) (x2 : Vec F S3x5120 .f32) (x3 : Vec F S3x5120 .f32) : Vec F S1x16x128 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 hc0 x0 x1 x2 x3).2.2.2.1)

/-- Case A's pieces for output 8 tile its block (4 stores of `S1x128x128`, checked by the kernel's evaluation: Lib/Ring.lean `Piece.tiledL`, linear in the pieces, through a loop's `@[irreducible]` trip theorem too), so they cover it. -/
theorem cover0_A_8 (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole) (hc0 : cond0_0 i)
    (x0 : Vec F S128x5120 .bf16) (x1 : Vec F S1x5120x512 .fp8e4m3) (x2 : Vec F S3x5120 .f32) (x3 : Vec F S3x5120 .f32) (y : S1x128x512.Idx) :
    ∃ pc ∈ (kernelRun0_A c i arg2 harg2 arg3 harg3 arg4 harg4 arg5 harg5 arg6 harg6 arg7 harg7 arg8 harg8 arg9 harg9 arg10 harg10 arg11 harg11 hc0 x0 x1 x2 x3).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3).2.2.2.2.1 S1x128x128.size (by sl_kernel_rfl) y

/-- What case A leaves in output 8's staging buffer: its pieces read back over junk. -/
def out0_A_8 (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole) (hc0 : cond0_0 i)
    (x0 : Vec F S128x5120 .bf16) (x1 : Vec F S1x5120x512 .fp8e4m3) (x2 : Vec F S3x5120 .f32) (x3 : Vec F S3x5120 .f32) : Vec F S1x128x512 .bf16 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 hc0 x0 x1 x2 x3).2.2.2.2.1)

/-- Case A's pieces for scratch `arg11`, which the kernel carries between points, cover it: 1 piece of `S128x128` tiling it (Lib/Ring.lean `Piece.tiledL`). -/
theorem scover0_A_0 (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole) (hc0 : cond0_0 i)
    (x0 : Vec F S128x5120 .bf16) (x1 : Vec F S1x5120x512 .fp8e4m3) (x2 : Vec F S3x5120 .f32) (x3 : Vec F S3x5120 .f32) (y : S128x128.Idx) :
    ∃ pc ∈ (kernelRun0_A c i arg2 harg2 arg3 harg3 arg4 harg4 arg5 harg5 arg6 harg6 arg7 harg7 arg8 harg8 arg9 harg9 arg10 harg10 arg11 harg11 hc0 x0 x1 x2 x3).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3).2.2.2.2.2.1 S128x128.size (by sl_kernel_rfl) y

/-- What case A leaves in scratch `arg11`: its pieces read back over junk. -/
def sout0_A_0 (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole) (hc0 : cond0_0 i)
    (x0 : Vec F S128x5120 .bf16) (x1 : Vec F S1x5120x512 .fp8e4m3) (x2 : Vec F S3x5120 .f32) (x3 : Vec F S3x5120 .f32) : Vec F S128x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 x0 x1 x2 x3).2.2.2.2.2.1)

/-- Case B stores nothing into output 4, a live window: its staging buffer holds what the point before left. -/
def out0_B_4 (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole) (hc0 : ¬cond0_0 i)
    (x0 : Vec F S128x5120 .bf16) (x1 : Vec F S1x5120x512 .fp8e4m3) (x2 : Vec F S3x5120 .f32) (x3 : Vec F S3x5120 .f32) (xo4 : Vec F S128x5120 .fp8e4m3) (xo5 : Vec F S1x128 .f32) (xs0 : Vec F S128x128 .f32) : Vec F S128x5120 .fp8e4m3 := xo4

/-- Case B stores nothing into output 5, a live window: its staging buffer holds what the point before left. -/
def out0_B_5 (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole) (hc0 : ¬cond0_0 i)
    (x0 : Vec F S128x5120 .bf16) (x1 : Vec F S1x5120x512 .fp8e4m3) (x2 : Vec F S3x5120 .f32) (x3 : Vec F S3x5120 .f32) (xo4 : Vec F S128x5120 .fp8e4m3) (xo5 : Vec F S1x128 .f32) (xs0 : Vec F S128x128 .f32) : Vec F S1x128 .f32 := xo5

/-- Case B's pieces for output 6 tile its block (4 stores of `S1x128x128`, checked by the kernel's evaluation: Lib/Ring.lean `Piece.tiledL`, linear in the pieces, through a loop's `@[irreducible]` trip theorem too), so they cover it. -/
theorem cover0_B_6 (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole) (hc0 : ¬cond0_0 i)
    (x0 : Vec F S128x5120 .bf16) (x1 : Vec F S1x5120x512 .fp8e4m3) (x2 : Vec F S3x5120 .f32) (x3 : Vec F S3x5120 .f32) (xo4 : Vec F S128x5120 .fp8e4m3) (xo5 : Vec F S1x128 .f32) (xs0 : Vec F S128x128 .f32) (y : S1x128x512.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 xo4 xo5 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 xo4 xo5 xs0).2.2.1 S1x128x128.size (by sl_kernel_rfl) y

/-- What case B leaves in output 6's staging buffer: its pieces read back over junk. -/
def out0_B_6 (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole) (hc0 : ¬cond0_0 i)
    (x0 : Vec F S128x5120 .bf16) (x1 : Vec F S1x5120x512 .fp8e4m3) (x2 : Vec F S3x5120 .f32) (x3 : Vec F S3x5120 .f32) (xo4 : Vec F S128x5120 .fp8e4m3) (xo5 : Vec F S1x128 .f32) (xs0 : Vec F S128x128 .f32) : Vec F S1x128x512 .fp8e4m3 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 hc0 x0 x1 x2 x3 xo4 xo5 xs0).2.2.1)

/-- Case B's pieces for output 7 tile its block (1 store of `S1x16x128`, checked by the kernel's evaluation: Lib/Ring.lean `Piece.tiledL`, linear in the pieces, through a loop's `@[irreducible]` trip theorem too), so they cover it. -/
theorem cover0_B_7 (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole) (hc0 : ¬cond0_0 i)
    (x0 : Vec F S128x5120 .bf16) (x1 : Vec F S1x5120x512 .fp8e4m3) (x2 : Vec F S3x5120 .f32) (x3 : Vec F S3x5120 .f32) (xo4 : Vec F S128x5120 .fp8e4m3) (xo5 : Vec F S1x128 .f32) (xs0 : Vec F S128x128 .f32) (y : S1x16x128.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 xo4 xo5 xs0).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 xo4 xo5 xs0).2.2.2.1 S1x16x128.size (by sl_kernel_rfl) y

/-- What case B leaves in output 7's staging buffer: its pieces read back over junk. -/
def out0_B_7 (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole) (hc0 : ¬cond0_0 i)
    (x0 : Vec F S128x5120 .bf16) (x1 : Vec F S1x5120x512 .fp8e4m3) (x2 : Vec F S3x5120 .f32) (x3 : Vec F S3x5120 .f32) (xo4 : Vec F S128x5120 .fp8e4m3) (xo5 : Vec F S1x128 .f32) (xs0 : Vec F S128x128 .f32) : Vec F S1x16x128 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 hc0 x0 x1 x2 x3 xo4 xo5 xs0).2.2.2.1)

/-- Case B's pieces for output 8 tile its block (4 stores of `S1x128x128`, checked by the kernel's evaluation: Lib/Ring.lean `Piece.tiledL`, linear in the pieces, through a loop's `@[irreducible]` trip theorem too), so they cover it. -/
theorem cover0_B_8 (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole) (hc0 : ¬cond0_0 i)
    (x0 : Vec F S128x5120 .bf16) (x1 : Vec F S1x5120x512 .fp8e4m3) (x2 : Vec F S3x5120 .f32) (x3 : Vec F S3x5120 .f32) (xo4 : Vec F S128x5120 .fp8e4m3) (xo5 : Vec F S1x128 .f32) (xs0 : Vec F S128x128 .f32) (y : S1x128x512.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 xo4 xo5 xs0).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 xo4 xo5 xs0).2.2.2.2.1 S1x128x128.size (by sl_kernel_rfl) y

/-- What case B leaves in output 8's staging buffer: its pieces read back over junk. -/
def out0_B_8 (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole) (hc0 : ¬cond0_0 i)
    (x0 : Vec F S128x5120 .bf16) (x1 : Vec F S1x5120x512 .fp8e4m3) (x2 : Vec F S3x5120 .f32) (x3 : Vec F S3x5120 .f32) (xo4 : Vec F S128x5120 .fp8e4m3) (xo5 : Vec F S1x128 .f32) (xs0 : Vec F S128x128 .f32) : Vec F S1x128x512 .bf16 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 hc0 x0 x1 x2 x3 xo4 xo5 xs0).2.2.2.2.1)

/-- Case B stores nothing into scratch `arg11`: it holds what the point before left. -/
def sout0_B_0 (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole) (hc0 : ¬cond0_0 i)
    (x0 : Vec F S128x5120 .bf16) (x1 : Vec F S1x5120x512 .fp8e4m3) (x2 : Vec F S3x5120 .f32) (x3 : Vec F S3x5120 .f32) (xo4 : Vec F S128x5120 .fp8e4m3) (xo5 : Vec F S1x128 .f32) (xs0 : Vec F S128x128 .f32) : Vec F S128x128 .f32 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S128x5120 .fp8e4m3 × Vec F S1x128 .f32 × Vec F S1x128x512 .fp8e4m3 × Vec F S1x16x128 .f32 × Vec F S1x128x512 .bf16 × Vec F S128x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 30 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.2.2.2)

/-- `outsAt0` at a point of case A: that case's contents. -/
theorem outsAt0_A (c : Dev nD) (t : Fin cfg0.N) (h0 : t.val % 30 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 30 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2.1
    | ⟨7, _⟩ => (outsAt0 m c t.val t.isLt).2.2.2.1
    | ⟨8, _⟩ => (outsAt0 m c t.val t.isLt).2.2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem after0_6 (c : Dev nD) (t : Fin cfg0.N) : (dats m 0 c).after 6 t = (outsAt0 m c t.val t.isLt).2.2.1 := by dsimp only [dats]
theorem after0_7 (c : Dev nD) (t : Fin cfg0.N) : (dats m 0 c).after 7 t = (outsAt0 m c t.val t.isLt).2.2.2.1 := by dsimp only [dats]
theorem after0_8 (c : Dev nD) (t : Fin cfg0.N) : (dats m 0 c).after 8 t = (outsAt0 m c t.val t.isLt).2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Output 4's contents CARRY through the points that leave it idle: at such a point, its buffer not fresh, the proof data's
    `after` is the point before's (the case there stores nothing into the window and its term says so; a case that stores
    into it is not idle there by `liveAt0_4_κ`) — the hypothesis of Lib/Pipeline/TableIdle.lean `Dat.before_out_traj`. -/
theorem hcarry0_4 (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t _ hi _
  have hN : t.val < 30 := lt_of_lt_of_eq t.isLt (show cfg0.N = 30 from N_0)
  rw [after0_4, after0_4]
  by_cases h0 : t.val % 30 = 0
  · rw [liveAt0_4_A t ((hcond0_0 t).mpr h0)] at hi
    exact absurd hi Bool.false_ne_true
  · rw [outsAt0_B m c t h0]
    dsimp only
    unfold out0_B_4
    rfl

/-- Output 5's contents CARRY through the points that leave it idle: at such a point, its buffer not fresh, the proof data's
    `after` is the point before's (the case there stores nothing into the window and its term says so; a case that stores
    into it is not idle there by `liveAt0_5_κ`) — the hypothesis of Lib/Pipeline/TableIdle.lean `Dat.before_out_traj`. -/
theorem hcarry0_5 (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t _ hi _
  have hN : t.val < 30 := lt_of_lt_of_eq t.isLt (show cfg0.N = 30 from N_0)
  rw [after0_5, after0_5]
  by_cases h0 : t.val % 30 = 0
  · rw [liveAt0_5_A t ((hcond0_0 t).mpr h0)] at hi
    exact absurd hi Bool.false_ne_true
  · rw [outsAt0_B m c t h0]
    dsimp only
    unfold out0_B_5
    rfl
/-- At a point of case B output 4's current staging buffer holds what the point before left: the buffer is not fresh
    there (`notFresh0_4_B`: stored into since the region's entry or the last write-back, carried through the points that
    leave it idle by `hcarry0_4`; Lib/Pipeline/TableIdle.lean `Dat.before_out_traj`). -/
theorem before0_4_B (c : Dev nD) (t : Fin cfg0.N) (h0 : ¬t.val % 30 = 0) (d) :
    (dats m 0 c).before 4 t d = (outsAt0 m c (t.val - 1) (Nat.lt_of_le_of_lt (Nat.sub_le _ _) t.isLt)).1 := by
  rw [Dat.before_out_traj _ 4 rfl (fun _ _ => rfl) (hcarry0_4 m c) t.val t rfl d,
    if_neg (by rw [notFresh0_4_B t (fun h => h0 ((hcond0_0 t).mp h))]; exact Bool.false_ne_true)]
  dsimp only [dats]
/-- At a point of case B output 5's current staging buffer holds what the point before left: the buffer is not fresh
    there (`notFresh0_5_B`: stored into since the region's entry or the last write-back, carried through the points that
    leave it idle by `hcarry0_5`; Lib/Pipeline/TableIdle.lean `Dat.before_out_traj`). -/
theorem before0_5_B (c : Dev nD) (t : Fin cfg0.N) (h0 : ¬t.val % 30 = 0) (d) :
    (dats m 0 c).before 5 t d = (outsAt0 m c (t.val - 1) (Nat.lt_of_le_of_lt (Nat.sub_le _ _) t.isLt)).2.1 := by
  rw [Dat.before_out_traj _ 5 rfl (fun _ _ => rfl) (hcarry0_5 m c) t.val t rfl d,
    if_neg (by rw [notFresh0_5_B t (fun h => h0 ((hcond0_0 t).mp h))]; exact Bool.false_ne_true)]
  dsimp only [dats]

/-- A later point returns window 4's buffer as it found it, which is what the pipeline asks of it: at a point that does not
    write the block back the buffer at what was found, at the last point the buffer at what the proof data names. -/
theorem keep4 (c : Dev nD) (t : Fin cfg0.N) (h0 : ¬t.val % 30 = 0) :
    (owns (c : Thread nD τ) (ms0_4 t) fullShare (outsAt0 m c (t.val - 1) (Nat.lt_of_le_of_lt (Nat.sub_le _ _) t.isLt)).1 : sProp (MT nD τ sig Unit (Elt F) ℕ (UR sig nD τ) ℕ))
      ⊢ (dats m 0 c).leavesExact 4 t := by
  have ha : (dats m 0 c).after 4 t = (outsAt0 m c (t.val - 1) (Nat.lt_of_le_of_lt (Nat.sub_le _ _) t.isLt)).1 := by
    rw [after0_4, outsAt0_B m c t h0]; dsimp only; unfold out0_B_4; rfl
  have hb := before0_4_B m c t h0
  unfold Dat.leavesExact
  rw [idleAt0_4_B t (fun h => h0 ((hcond0_0 t).mp h))]
  cases hf : (cfg0.win 4).flush t
  · dsimp only
    iintro H
    iexists (dats m 0 c).after 4 t
    rw [hb]
    iexact H
  · dsimp only
    rw [ha]

/-- A later point returns window 5's buffer as it found it, which is what the pipeline asks of it: at a point that does not
    write the block back the buffer at what was found, at the last point the buffer at what the proof data names. -/
theorem keep5 (c : Dev nD) (t : Fin cfg0.N) (h0 : ¬t.val % 30 = 0) :
    (owns (c : Thread nD τ) (ms0_5 t) fullShare (outsAt0 m c (t.val - 1) (Nat.lt_of_le_of_lt (Nat.sub_le _ _) t.isLt)).2.1 : sProp (MT nD τ sig Unit (Elt F) ℕ (UR sig nD τ) ℕ))
      ⊢ (dats m 0 c).leavesExact 5 t := by
  have ha : (dats m 0 c).after 5 t = (outsAt0 m c (t.val - 1) (Nat.lt_of_le_of_lt (Nat.sub_le _ _) t.isLt)).2.1 := by
    rw [after0_5, outsAt0_B m c t h0]; dsimp only; unfold out0_B_5; rfl
  have hb := before0_5_B m c t h0
  unfold Dat.leavesExact
  rw [idleAt0_5_B t (fun h => h0 ((hcond0_0 t).mp h))]
  cases hf : (cfg0.win 5).flush t
  · dsimp only
    iintro H
    iexists (dats m 0 c).after 5 t
    rw [hb]
    iexact H
  · dsimp only
    rw [ha]

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 30 := lt_of_lt_of_eq t.isLt (show cfg0.N = 30 from N_0)
  by_cases h0 : t.val % 30 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4_A t ((hcond0_0 t).mpr h0)], after0_4]
    rw [show (dats m 0 c).leavesExact 5 t = owns (c : Thread nD τ) (ms0_5 t) fullShare ((dats m 0 c).after 5 t) from by
      unfold Dat.leavesExact; rw [liveAt0_5_A t ((hcond0_0 t).mpr h0)], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    by_cases hz : t.val = 0
    · rw [PhiS_castSucc m c t, PhiS_zero m c _ _ hz, PhiA0_eq]
      rw [outsAt0_A m c t h0]
      unfold out0_A_4 out0_A_5 out0_A_6 out0_A_7 out0_A_8 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ ((hcond0_0 t).mpr h0) (iblk m c 0 t) (iblk m c 1 t) (iblk m c 2 t) (iblk m c 3 t)).2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [H8]; · iexists _; iexact H8
      isplitl [HS0]; · iexact HS0
      iintro ⟨H0, H1, H2, H3, ⟨%e4, H4⟩, ⟨%e5, H5⟩, ⟨%e6, H6⟩, ⟨%e7, H7⟩, ⟨%e8, H8⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _)
      unfold owns; iexists _; isplitr
      swap; · iexact H8
      ipureintro; exact View.read_writes_of_cover _ _ _ _ _ (cover0_A_8 c _ _ _ _ _ _ _ _ _ _ _ _ _ _ _ _ _ _ _ _ _ _ _ _ _ _)
    · exfalso; have hN : t.val < 30 := lt_of_lt_of_eq t.isLt (show cfg0.N = 30 from N_0); omega
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    by_cases hz : t.val = 0
    · exfalso; have hN : t.val < 30 := lt_of_lt_of_eq t.isLt (show cfg0.N = 30 from N_0); omega
    · rw [PhiS_castSucc m c t, PhiS_pos m c _ _ hz]
      rw [outsAt0_B m c t h0]
      simp only [before0_4_B m c t h0, before0_5_B m c t h0]
      unfold out0_B_6 out0_B_7 out0_B_8 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ (fun h => h0 ((hcond0_0 t).mp h)) (iblk m c 0 t) (iblk m c 1 t) (iblk m c 2 t) (iblk m c 3 t) _ _ _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      iintro ⟨H0, H1, H2, H3, H4, H5, ⟨%e6, H6⟩, ⟨%e7, H7⟩, ⟨%e8, H8⟩, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iapply (keep4 m c t h0); iexact H4
      isplitl [H5]; · iapply (keep5 m c t h0); iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _)
      unfold owns; iexists _; isplitr
      swap; · iexact H8
      ipureintro; exact View.read_writes_of_cover _ _ _ _ _ (cover0_B_8 c _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 30 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_Residual`'s statement (Defs.lean) at any `F` — Proof.lean cites it at `Bits`:
    `theorem Cert.Proof.claim : Cert.Claim := ⟨Cert.Residual.Gen.facts, fun m ρ _ => Cert.Residual.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Residual.Gen

end
-- ==== Proof.ResidualIdealFrame.Runs.lean ====
/-
  What the two runs of the residual block's body share: the launch's facts, the conditions of the grid points in closed
  form, where the codes and scales of x are idle, and the names of the staging buffers.
-/
module

public import proofs.«01_k».proof.Proof.Gen.ResidualIdeal.Launch
public import proofs.«01_k».proof.Proof.Gen.ResidualIdeal.Skeleton
public import proofs.«01_k».proof.Proof.Gen.ResidualIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.ResidualIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_ResidualIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c)))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 30 = 0 :=
  (fun t => by
    have ht : t.val < 30 := Nat.lt_of_lt_of_eq t.isLt N_0
    have e0 : (grid0.coords t 0).val = t.val / 10 % 3 := Pipeline.Grid.coords_val t 0 (by decide) rfl
    have e1 : (grid0.coords t 1).val = t.val / 1 % 10 := Pipeline.Grid.coords_val t 1 (by decide) rfl
    simp only [cond0_0, k0_cond1, e0, e1]
    word_cmp
   : ∀ t : Fin grid0.N, cond0_0 (grid0.coords t) ↔ t.val % 30 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 6 is never idle (an output stored at every point, under no condition). -/
theorem liveAt0_6 : ∀ t : Fin cfg0.N, cfg0.idle 6 (grid0.coords t) = false := fun _ => rfl
/-- Window 7 is never idle (an output stored at every point, under no condition). -/
theorem liveAt0_7 : ∀ t : Fin cfg0.N, cfg0.idle 7 (grid0.coords t) = false := fun _ => rfl
/-- Window 8 is never idle (an output stored at every point, under no condition). -/
theorem liveAt0_8 : ∀ t : Fin cfg0.N, cfg0.idle 8 (grid0.coords t) = false := fun _ => rfl
/-- Whether output 4's buffer is FRESH at each position `1 ‥ N` — holds nothing the body stored since the region's entry or the
    last write-back (written back at the point before, or idle there and fresh before it) —, as a bitmask the classifier
    computed, bit `n` for position `n + 1`; position 0 is fresh. `freshTab0_4_step` checks it against the configuration's own
    step point by point and Lib/Pipeline/TableIdle.lean `Cfg.fresh_tab` makes it `Cfg.fresh` (`fresh0_4_eq`). -/
def freshTab0_4 : ℕ → Bool
  | 0 => true
  | n + 1 => (0x20000000 : ℕ).testBit n
theorem freshTab0_4_step : ∀ t : Fin cfg0.N,
    freshTab0_4 (t.val + 1) = ((cfg0.win 4).flush t || (cfg0.idle 4 (cfg0.grid.coords t) && freshTab0_4 t.val)) := by decide +kernel
theorem fresh0_4_eq (t : Fin cfg0.N) : cfg0.fresh 4 t.val = freshTab0_4 t.val :=
  Pipeline.Cfg.fresh_tab cfg0 4 freshTab0_4 rfl freshTab0_4_step t.val (Nat.le_of_lt t.isLt)
/-- At the points of case A the printed configuration (`Cfg.idle`) calls output 4 live: the case stores into it. -/
theorem liveAt0_4_A : ∀ t : Fin cfg0.N, cond0_0 (grid0.coords t) → cfg0.idle 4 (grid0.coords t) = false := by decide +kernel
/-- At the points of case B the printed configuration (`Cfg.idle`) calls output 4 live: the case stores into it. -/
theorem idleAt0_4_B : ∀ t : Fin cfg0.N, ¬cond0_0 (grid0.coords t) → cfg0.idle 4 (grid0.coords t) = true := by decide +kernel
/-- At the points of case B, which keeps output 4's prior contents (reads it before covering, or covers it in part), the
    window's buffer is not FRESH: something was stored into it since the region's entry or its last write-back, idle points
    between or not (Lib/Pipeline/TableIdle.lean `Cfg.fresh`, by the table `freshTab0_4`). -/
theorem notFresh0_4_B : ∀ t : Fin cfg0.N, ¬cond0_0 (grid0.coords t) → cfg0.fresh 4 t.val = false := by
  intro t; rw [fresh0_4_eq t]; revert t; decide +kernel
/-- Whether output 5's buffer is FRESH at each position `1 ‥ N` — holds nothing the body stored since the region's entry or the
    last write-back (written back at the point before, or idle there and fresh before it) —, as a bitmask the classifier
    computed, bit `n` for position `n + 1`; position 0 is fresh. `freshTab0_5_step` checks it against the configuration's own
    step point by point and Lib/Pipeline/TableIdle.lean `Cfg.fresh_tab` makes it `Cfg.fresh` (`fresh0_5_eq`). -/
def freshTab0_5 : ℕ → Bool
  | 0 => true
  | n + 1 => (0x20000000 : ℕ).testBit n
theorem freshTab0_5_step : ∀ t : Fin cfg0.N,
    freshTab0_5 (t.val + 1) = ((cfg0.win 5).flush t || (cfg0.idle 5 (cfg0.grid.coords t) && freshTab0_5 t.val)) := by decide +kernel
theorem fresh0_5_eq (t : Fin cfg0.N) : cfg0.fresh 5 t.val = freshTab0_5 t.val :=
  Pipeline.Cfg.fresh_tab cfg0 5 freshTab0_5 rfl freshTab0_5_step t.val (Nat.le_of_lt t.isLt)
/-- At the points of case A the printed configuration (`Cfg.idle`) calls output 5 live: the case stores into it. -/
theorem liveAt0_5_A : ∀ t : Fin cfg0.N, cond0_0 (grid0.coords t) → cfg0.idle 5 (grid0.coords t) = false := by decide +kernel
/-- At the points of case B the printed configuration (`Cfg.idle`) calls output 5 live: the case stores into it. -/
theorem idleAt0_5_B : ∀ t : Fin cfg0.N, ¬cond0_0 (grid0.coords t) → cfg0.idle 5 (grid0.coords t) = true := by decide +kernel
/-- At the points of case B, which keeps output 5's prior contents (reads it before covering, or covers it in part), the
    window's buffer is not FRESH: something was stored into it since the region's entry or its last write-back, idle points
    between or not (Lib/Pipeline/TableIdle.lean `Cfg.fresh`, by the table `freshTab0_5`). -/
theorem notFresh0_5_B : ∀ t : Fin cfg0.N, ¬cond0_0 (grid0.coords t) → cfg0.fresh 5 t.val = false := by
  intro t; rw [fresh0_5_eq t]; revert t; decide +kernel

/-! ## The kernel body on any staging memrefs: a subtype the run finds -/

/-- One staging buffer of output window 4, through which its contents are stated (`View.read_writes_of_cover`: the
    choice does not matter). -/
abbrev VO0_4 : View sig .tc .vmem S128x5120 .fp8e4m3 := (Memref.whole cc0_stg4_0 : Memref sig .tc .vmem S128x5120 .fp8e4m3).view
/-- One staging buffer of output window 5, through which its contents are stated (`View.read_writes_of_cover`: the
    choice does not matter). -/
abbrev VO0_5 : View sig .tc .vmem S1x128 .f32 := (Memref.whole cc0_stg5_0 : Memref sig .tc .vmem S1x128 .f32).view
/-- One staging buffer of output window 6, through which its contents are stated (`View.read_writes_of_cover`: the
    choice does not matter). -/
abbrev VO0_6 : View sig .tc .vmem S1x128x512 .fp8e4m3 := (Memref.whole cc0_stg6_0 : Memref sig .tc .vmem S1x128x512 .fp8e4m3).view
/-- One staging buffer of output window 7, through which its contents are stated (`View.read_writes_of_cover`: the
    choice does not matter). -/
abbrev VO0_7 : View sig .tc .vmem S1x16x128 .f32 := (Memref.whole cc0_stg7_0 : Memref sig .tc .vmem S1x16x128 .f32).view
/-- One staging buffer of output window 8, through which its contents are stated (`View.read_writes_of_cover`: the
    choice does not matter). -/
abbrev VO0_8 : View sig .tc .vmem S1x128x512 .bf16 := (Memref.whole cc0_stg8_0 : Memref sig .tc .vmem S1x128x512 .bf16).view
/-- Each window's current staging memref at point `t`, spelled as the pipeline passes it (`bodyAt0`), and its wholeness. -/
abbrev ms0_0 (t : Fin cfg0.N) : Memref sig .tc .vmem S128x5120 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x5120x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x5120 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x5120 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x5120 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128x512 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x16x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128x512 .bf16 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S128x128 .f32 := Memref.whole cc0_scratch0
/-- The scratch `arg11` the kernel carries between points, as a view: what it holds is stated through it. -/
abbrev VS0_0 : View sig .tc .vmem S128x128 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

end Cert.ResidualIdeal.Gen

end
-- ==== Proof.ResidualIdealFrame.RunA.lean ====
/-
  The body's run at the first grid point, where the codes and scales of x are stored: the pieces each output ends with.
-/
module

public import proofs.«01_k».proof.Proof.ResidualIdealFrame.Runs

@[expose] public section

-- membership in a rectangle of production extents (`View.cover_of_tiled`): the elaborator's structural look
-- recurses once per coordinate of the long axes
set_option maxRecDepth 16384

noncomputable section

namespace Cert.ResidualIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1084000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole) (hc0 : cond0_0 i)
    (x0 : Vec F S128x5120 .bf16) (x1 : Vec F S1x5120x512 .fp8e4m3) (x2 : Vec F S3x5120 .f32) (x3 : Vec F S3x5120 .f32) :
    Σ' (L4 : List (View.Piece (Elt F) S128x5120 .fp8e4m3)), Σ' (L5 : List (View.Piece (Elt F) S1x128 .f32)), Σ' (L6 : List (View.Piece (Elt F) S1x128x512 .fp8e4m3)), Σ' (L7 : List (View.Piece (Elt F) S1x16x128 .f32)), Σ' (L8 : List (View.Piece (Elt F) S1x128x512 .bf16)), { LS0 : List (View.Piece (Elt F) S128x128 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0_residual i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0_residual_eq_skeleton]; unfold cc0_residual_skel
    simp only [k0_part14_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    iexists _; iexact HS0

end Cert.ResidualIdeal.Gen

end
-- ==== Proof.ResidualIdealFrame.RunB.lean ====
/-
  The body's run at every later grid point, where the codes and scales of x are read and left as they are.
-/
module

public import proofs.«01_k».proof.Proof.ResidualIdealFrame.RunA

@[expose] public section

-- membership in a rectangle of production extents (`View.cover_of_tiled`): the elaborator's structural look
-- recurses once per coordinate of the long axes
set_option maxRecDepth 16384

noncomputable section

namespace Cert.ResidualIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 29: 29 of 30), WITH the
    proof that on whole staging memrefs — the inputs' at their contents, the outputs it reads before covering (4, 5) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole) (hc0 : ¬cond0_0 i)
    (x0 : Vec F S128x5120 .bf16) (x1 : Vec F S1x5120x512 .fp8e4m3) (x2 : Vec F S3x5120 .f32) (x3 : Vec F S3x5120 .f32) (xo4 : Vec F S128x5120 .fp8e4m3) (xo5 : Vec F S1x128 .f32) (xs0 : Vec F S128x128 .f32) :
    Σ' (L4 : List (View.Piece (Elt F) S128x5120 .fp8e4m3)), Σ' (L5 : List (View.Piece (Elt F) S1x128 .f32)), Σ' (L6 : List (View.Piece (Elt F) S1x128x512 .fp8e4m3)), Σ' (L7 : List (View.Piece (Elt F) S1x16x128 .f32)), Σ' (L8 : List (View.Piece (Elt F) S1x128x512 .bf16)), { LS0 : List (View.Piece (Elt F) S128x128 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ owns (c : Thread nD τ) arg7 fullShare xo5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ owns (c : Thread nD τ) arg7 fullShare xo5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ owns (c : Thread nD τ) arg11 fullShare xs0) -∗ K ⟨⟩))
          ⊢ wp frame (wpE (defs₀ (F := F)) Variants.none c none) E (cc0_residual i arg2 harg2 arg3 harg3 arg4 harg4 arg5 harg5 arg6 harg6 arg7 harg7 arg8 harg8 arg9 harg9 arg10 harg10 arg11 harg11) K } := by
  refine ⟨[], [], ?_, ?_, ?_, [], fun E K => ?run⟩
  case run =>
    simp only [cc0_residual_eq_skeleton]; unfold cc0_residual_skel
    simp only [k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    iexists _; isplitr; · ipureintro; exact harg11.read_unread _
    iexact HS0

end Cert.ResidualIdeal.Gen

end
-- ==== Proof.ResidualIdealFrame.Frame.lean ====
/-
  The residual block runs to an end and leaves its arguments as they are. The codes and scales of x are stored at the
  first grid point only, read at every point, and written back after the last: their staging buffers carry the first
  point's contents through all later points (`keep4`, `keep5`), which is what the write-back then writes.
-/
module

public import proofs.«01_k».proof.Proof.ResidualIdealFrame.RunB
public import Idealize.ShloMosaic.Lib.Claim

@[expose] public section

-- membership in a rectangle of production extents (`View.cover_of_tiled`): the elaborator's structural look
-- recurses once per coordinate of the long axes
set_option maxRecDepth 16384

noncomputable section

namespace Cert.ResidualIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- Case A's pieces for output 4 tile its block (40 stores of `S128x128`, checked by the kernel's evaluation: Lib/Ring.lean `Piece.tiledL`, linear in the pieces, through a loop's `@[irreducible]` trip theorem too), so they cover it. -/
theorem cover0_A_4 (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole) (hc0 : cond0_0 i)
    (x0 : Vec F S128x5120 .bf16) (x1 : Vec F S1x5120x512 .fp8e4m3) (x2 : Vec F S3x5120 .f32) (x3 : Vec F S3x5120 .f32) (y : S128x5120.Idx) :
    ∃ pc ∈ (kernelRun0_A c i arg2 harg2 arg3 harg3 arg4 harg4 arg5 harg5 arg6 harg6 arg7 harg7 arg8 harg8 arg9 harg9 arg10 harg10 arg11 harg11 hc0 x0 x1 x2 x3).1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3).1 S128x128.size (by sl_kernel_rfl) y

/-- What case A leaves in output 4's staging buffer: its pieces read back over junk. -/
def out0_A_4 (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole) (hc0 : cond0_0 i)
    (x0 : Vec F S128x5120 .bf16) (x1 : Vec F S1x5120x512 .fp8e4m3) (x2 : Vec F S3x5120 .f32) (x3 : Vec F S3x5120 .f32) : Vec F S128x5120 .fp8e4m3 :=
  VO0_4.read (Elt F) (VO0_4.writes (Elt F) VO0_4.junk (kernelRun0_A c i arg2 harg2 arg3 harg3 arg4 harg4 arg5 harg5 arg6 harg6 arg7 harg7 arg8 harg8 arg9 harg9 arg10 harg10 arg11 harg11 hc0 x0 x1 x2 x3).1)

/-- Case A's pieces for output 5 tile its block (1 store of `S1x128`, checked by the kernel's evaluation: Lib/Ring.lean `Piece.tiledL`, linear in the pieces, through a loop's `@[irreducible]` trip theorem too), so they cover it. -/
theorem cover0_A_5 (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole) (hc0 : cond0_0 i)
    (x0 : Vec F S128x5120 .bf16) (x1 : Vec F S1x5120x512 .fp8e4m3) (x2 : Vec F S3x5120 .f32) (x3 : Vec F S3x5120 .f32) (y : S1x128.Idx) :
    ∃ pc ∈ (kernelRun0_A c i arg2 harg2 arg3 harg3 arg4 harg4 arg5 harg5 arg6 harg6 arg7 harg7 arg8 harg8 arg9 harg9 arg10 harg10 arg11 harg11 hc0 x0 x1 x2 x3).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3).2.1 S1x128.size (by sl_kernel_rfl) y

/-- What case A leaves in output 5's staging buffer: its pieces read back over junk. -/
def out0_A_5 (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole) (hc0 : cond0_0 i)
    (x0 : Vec F S128x5120 .bf16) (x1 : Vec F S1x5120x512 .fp8e4m3) (x2 : Vec F S3x5120 .f32) (x3 : Vec F S3x5120 .f32) : Vec F S1x128 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 hc0 x0 x1 x2 x3).2.1)

/-- Case A's pieces for output 6 tile its block (4 stores of `S1x128x128`, checked by the kernel's evaluation: Lib/Ring.lean `Piece.tiledL`, linear in the pieces, through a loop's `@[irreducible]` trip theorem too), so they cover it. -/
theorem cover0_A_6 (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole) (hc0 : cond0_0 i)
    (x0 : Vec F S128x5120 .bf16) (x1 : Vec F S1x5120x512 .fp8e4m3) (x2 : Vec F S3x5120 .f32) (x3 : Vec F S3x5120 .f32) (y : S1x128x512.Idx) :
    ∃ pc ∈ (kernelRun0_A c i arg2 harg2 arg3 harg3 arg4 harg4 arg5 harg5 arg6 harg6 arg7 harg7 arg8 harg8 arg9 harg9 arg10 harg10 arg11 harg11 hc0 x0 x1 x2 x3).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3).2.2.1 S1x128x128.size (by sl_kernel_rfl) y

/-- What case A leaves in output 6's staging buffer: its pieces read back over junk. -/
def out0_A_6 (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole) (hc0 : cond0_0 i)
    (x0 : Vec F S128x5120 .bf16) (x1 : Vec F S1x5120x512 .fp8e4m3) (x2 : Vec F S3x5120 .f32) (x3 : Vec F S3x5120 .f32) : Vec F S1x128x512 .fp8e4m3 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 hc0 x0 x1 x2 x3).2.2.1)

/-- Case A's pieces for output 7 tile its block (1 store of `S1x16x128`, checked by the kernel's evaluation: Lib/Ring.lean `Piece.tiledL`, linear in the pieces, through a loop's `@[irreducible]` trip theorem too), so they cover it. -/
theorem cover0_A_7 (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole) (hc0 : cond0_0 i)
    (x0 : Vec F S128x5120 .bf16) (x1 : Vec F S1x5120x512 .fp8e4m3) (x2 : Vec F S3x5120 .f32) (x3 : Vec F S3x5120 .f32) (y : S1x16x128.Idx) :
    ∃ pc ∈ (kernelRun0_A c i arg2 harg2 arg3 harg3 arg4 harg4 arg5 harg5 arg6 harg6 arg7 harg7 arg8 harg8 arg9 harg9 arg10 harg10 arg11 harg11 hc0 x0 x1 x2 x3).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3).2.2.2.1 S1x16x128.size (by sl_kernel_rfl) y

/-- What case A leaves in output 7's staging buffer: its pieces read back over junk. -/
def out0_A_7 (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole) (hc0 : cond0_0 i)
    (x0 : Vec F S128x5120 .bf16) (x1 : Vec F S1x5120x512 .fp8e4m3) (x2 : Vec F S3x5120 .f32) (x3 : Vec F S3x5120 .f32) : Vec F S1x16x128 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 hc0 x0 x1 x2 x3).2.2.2.1)

/-- Case A's pieces for output 8 tile its block (4 stores of `S1x128x128`, checked by the kernel's evaluation: Lib/Ring.lean `Piece.tiledL`, linear in the pieces, through a loop's `@[irreducible]` trip theorem too), so they cover it. -/
theorem cover0_A_8 (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole) (hc0 : cond0_0 i)
    (x0 : Vec F S128x5120 .bf16) (x1 : Vec F S1x5120x512 .fp8e4m3) (x2 : Vec F S3x5120 .f32) (x3 : Vec F S3x5120 .f32) (y : S1x128x512.Idx) :
    ∃ pc ∈ (kernelRun0_A c i arg2 harg2 arg3 harg3 arg4 harg4 arg5 harg5 arg6 harg6 arg7 harg7 arg8 harg8 arg9 harg9 arg10 harg10 arg11 harg11 hc0 x0 x1 x2 x3).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3).2.2.2.2.1 S1x128x128.size (by sl_kernel_rfl) y

/-- What case A leaves in output 8's staging buffer: its pieces read back over junk. -/
def out0_A_8 (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole) (hc0 : cond0_0 i)
    (x0 : Vec F S128x5120 .bf16) (x1 : Vec F S1x5120x512 .fp8e4m3) (x2 : Vec F S3x5120 .f32) (x3 : Vec F S3x5120 .f32) : Vec F S1x128x512 .bf16 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 hc0 x0 x1 x2 x3).2.2.2.2.1)

/-- Case A's pieces for scratch `arg11`, which the kernel carries between points, cover it: 1 piece of `S128x128` tiling it (Lib/Ring.lean `Piece.tiledL`). -/
theorem scover0_A_0 (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole) (hc0 : cond0_0 i)
    (x0 : Vec F S128x5120 .bf16) (x1 : Vec F S1x5120x512 .fp8e4m3) (x2 : Vec F S3x5120 .f32) (x3 : Vec F S3x5120 .f32) (y : S128x128.Idx) :
    ∃ pc ∈ (kernelRun0_A c i arg2 harg2 arg3 harg3 arg4 harg4 arg5 harg5 arg6 harg6 arg7 harg7 arg8 harg8 arg9 harg9 arg10 harg10 arg11 harg11 hc0 x0 x1 x2 x3).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3).2.2.2.2.2.1 S128x128.size (by sl_kernel_rfl) y

/-- What case A leaves in scratch `arg11`: its pieces read back over junk. -/
def sout0_A_0 (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole) (hc0 : cond0_0 i)
    (x0 : Vec F S128x5120 .bf16) (x1 : Vec F S1x5120x512 .fp8e4m3) (x2 : Vec F S3x5120 .f32) (x3 : Vec F S3x5120 .f32) : Vec F S128x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 x0 x1 x2 x3).2.2.2.2.2.1)

/-- Case B stores nothing into output 4, a live window: its staging buffer holds what the point before left. -/
def out0_B_4 (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole) (hc0 : ¬cond0_0 i)
    (x0 : Vec F S128x5120 .bf16) (x1 : Vec F S1x5120x512 .fp8e4m3) (x2 : Vec F S3x5120 .f32) (x3 : Vec F S3x5120 .f32) (xo4 : Vec F S128x5120 .fp8e4m3) (xo5 : Vec F S1x128 .f32) (xs0 : Vec F S128x128 .f32) : Vec F S128x5120 .fp8e4m3 := xo4

/-- Case B stores nothing into output 5, a live window: its staging buffer holds what the point before left. -/
def out0_B_5 (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole) (hc0 : ¬cond0_0 i)
    (x0 : Vec F S128x5120 .bf16) (x1 : Vec F S1x5120x512 .fp8e4m3) (x2 : Vec F S3x5120 .f32) (x3 : Vec F S3x5120 .f32) (xo4 : Vec F S128x5120 .fp8e4m3) (xo5 : Vec F S1x128 .f32) (xs0 : Vec F S128x128 .f32) : Vec F S1x128 .f32 := xo5

/-- Case B's pieces for output 6 tile its block (4 stores of `S1x128x128`, checked by the kernel's evaluation: Lib/Ring.lean `Piece.tiledL`, linear in the pieces, through a loop's `@[irreducible]` trip theorem too), so they cover it. -/
theorem cover0_B_6 (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole) (hc0 : ¬cond0_0 i)
    (x0 : Vec F S128x5120 .bf16) (x1 : Vec F S1x5120x512 .fp8e4m3) (x2 : Vec F S3x5120 .f32) (x3 : Vec F S3x5120 .f32) (xo4 : Vec F S128x5120 .fp8e4m3) (xo5 : Vec F S1x128 .f32) (xs0 : Vec F S128x128 .f32) (y : S1x128x512.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 xo4 xo5 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 xo4 xo5 xs0).2.2.1 S1x128x128.size (by sl_kernel_rfl) y

/-- What case B leaves in output 6's staging buffer: its pieces read back over junk. -/
def out0_B_6 (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole) (hc0 : ¬cond0_0 i)
    (x0 : Vec F S128x5120 .bf16) (x1 : Vec F S1x5120x512 .fp8e4m3) (x2 : Vec F S3x5120 .f32) (x3 : Vec F S3x5120 .f32) (xo4 : Vec F S128x5120 .fp8e4m3) (xo5 : Vec F S1x128 .f32) (xs0 : Vec F S128x128 .f32) : Vec F S1x128x512 .fp8e4m3 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 hc0 x0 x1 x2 x3 xo4 xo5 xs0).2.2.1)

/-- Case B's pieces for output 7 tile its block (1 store of `S1x16x128`, checked by the kernel's evaluation: Lib/Ring.lean `Piece.tiledL`, linear in the pieces, through a loop's `@[irreducible]` trip theorem too), so they cover it. -/
theorem cover0_B_7 (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole) (hc0 : ¬cond0_0 i)
    (x0 : Vec F S128x5120 .bf16) (x1 : Vec F S1x5120x512 .fp8e4m3) (x2 : Vec F S3x5120 .f32) (x3 : Vec F S3x5120 .f32) (xo4 : Vec F S128x5120 .fp8e4m3) (xo5 : Vec F S1x128 .f32) (xs0 : Vec F S128x128 .f32) (y : S1x16x128.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 xo4 xo5 xs0).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 xo4 xo5 xs0).2.2.2.1 S1x16x128.size (by sl_kernel_rfl) y

/-- What case B leaves in output 7's staging buffer: its pieces read back over junk. -/
def out0_B_7 (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole) (hc0 : ¬cond0_0 i)
    (x0 : Vec F S128x5120 .bf16) (x1 : Vec F S1x5120x512 .fp8e4m3) (x2 : Vec F S3x5120 .f32) (x3 : Vec F S3x5120 .f32) (xo4 : Vec F S128x5120 .fp8e4m3) (xo5 : Vec F S1x128 .f32) (xs0 : Vec F S128x128 .f32) : Vec F S1x16x128 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 hc0 x0 x1 x2 x3 xo4 xo5 xs0).2.2.2.1)

/-- Case B's pieces for output 8 tile its block (4 stores of `S1x128x128`, checked by the kernel's evaluation: Lib/Ring.lean `Piece.tiledL`, linear in the pieces, through a loop's `@[irreducible]` trip theorem too), so they cover it. -/
theorem cover0_B_8 (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole) (hc0 : ¬cond0_0 i)
    (x0 : Vec F S128x5120 .bf16) (x1 : Vec F S1x5120x512 .fp8e4m3) (x2 : Vec F S3x5120 .f32) (x3 : Vec F S3x5120 .f32) (xo4 : Vec F S128x5120 .fp8e4m3) (xo5 : Vec F S1x128 .f32) (xs0 : Vec F S128x128 .f32) (y : S1x128x512.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 xo4 xo5 xs0).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 xo4 xo5 xs0).2.2.2.2.1 S1x128x128.size (by sl_kernel_rfl) y

/-- What case B leaves in output 8's staging buffer: its pieces read back over junk. -/
def out0_B_8 (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole) (hc0 : ¬cond0_0 i)
    (x0 : Vec F S128x5120 .bf16) (x1 : Vec F S1x5120x512 .fp8e4m3) (x2 : Vec F S3x5120 .f32) (x3 : Vec F S3x5120 .f32) (xo4 : Vec F S128x5120 .fp8e4m3) (xo5 : Vec F S1x128 .f32) (xs0 : Vec F S128x128 .f32) : Vec F S1x128x512 .bf16 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 hc0 x0 x1 x2 x3 xo4 xo5 xs0).2.2.2.2.1)

/-- Case B stores nothing into scratch `arg11`: it holds what the point before left. -/
def sout0_B_0 (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole) (hc0 : ¬cond0_0 i)
    (x0 : Vec F S128x5120 .bf16) (x1 : Vec F S1x5120x512 .fp8e4m3) (x2 : Vec F S3x5120 .f32) (x3 : Vec F S3x5120 .f32) (xo4 : Vec F S128x5120 .fp8e4m3) (xo5 : Vec F S1x128 .f32) (xs0 : Vec F S128x128 .f32) : Vec F S128x128 .f32 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S128x5120 .fp8e4m3 × Vec F S1x128 .f32 × Vec F S1x128x512 .fp8e4m3 × Vec F S1x16x128 .f32 × Vec F S1x128x512 .bf16 × Vec F S128x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 30 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.2.2.2)

/-- `outsAt0` at a point of case A: that case's contents. -/
theorem outsAt0_A (c : Dev nD) (t : Fin cfg0.N) (h0 : t.val % 30 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 30 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2.1
    | ⟨7, _⟩ => (outsAt0 m c t.val t.isLt).2.2.2.1
    | ⟨8, _⟩ => (outsAt0 m c t.val t.isLt).2.2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem after0_6 (c : Dev nD) (t : Fin cfg0.N) : (dats m 0 c).after 6 t = (outsAt0 m c t.val t.isLt).2.2.1 := by dsimp only [dats]
theorem after0_7 (c : Dev nD) (t : Fin cfg0.N) : (dats m 0 c).after 7 t = (outsAt0 m c t.val t.isLt).2.2.2.1 := by dsimp only [dats]
theorem after0_8 (c : Dev nD) (t : Fin cfg0.N) : (dats m 0 c).after 8 t = (outsAt0 m c t.val t.isLt).2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Output 4's contents CARRY through the points that leave it idle: at such a point, its buffer not fresh, the proof data's
    `after` is the point before's (the case there stores nothing into the window and its term says so; a case that stores
    into it is not idle there by `liveAt0_4_κ`) — the hypothesis of Lib/Pipeline/TableIdle.lean `Dat.before_out_traj`. -/
theorem hcarry0_4 (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t _ hi _
  have hN : t.val < 30 := lt_of_lt_of_eq t.isLt (show cfg0.N = 30 from N_0)
  rw [after0_4, after0_4]
  by_cases h0 : t.val % 30 = 0
  · rw [liveAt0_4_A t ((hcond0_0 t).mpr h0)] at hi
    exact absurd hi Bool.false_ne_true
  · rw [outsAt0_B m c t h0]
    dsimp only
    unfold out0_B_4
    rfl

/-- Output 5's contents CARRY through the points that leave it idle: at such a point, its buffer not fresh, the proof data's
    `after` is the point before's (the case there stores nothing into the window and its term says so; a case that stores
    into it is not idle there by `liveAt0_5_κ`) — the hypothesis of Lib/Pipeline/TableIdle.lean `Dat.before_out_traj`. -/
theorem hcarry0_5 (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t _ hi _
  have hN : t.val < 30 := lt_of_lt_of_eq t.isLt (show cfg0.N = 30 from N_0)
  rw [after0_5, after0_5]
  by_cases h0 : t.val % 30 = 0
  · rw [liveAt0_5_A t ((hcond0_0 t).mpr h0)] at hi
    exact absurd hi Bool.false_ne_true
  · rw [outsAt0_B m c t h0]
    dsimp only
    unfold out0_B_5
    rfl
/-- At a point of case B output 4's current staging buffer holds what the point before left: the buffer is not fresh
    there (`notFresh0_4_B`: stored into since the region's entry or the last write-back, carried through the points that
    leave it idle by `hcarry0_4`; Lib/Pipeline/TableIdle.lean `Dat.before_out_traj`). -/
theorem before0_4_B (c : Dev nD) (t : Fin cfg0.N) (h0 : ¬t.val % 30 = 0) (d) :
    (dats m 0 c).before 4 t d = (outsAt0 m c (t.val - 1) (Nat.lt_of_le_of_lt (Nat.sub_le _ _) t.isLt)).1 := by
  rw [Dat.before_out_traj _ 4 rfl (fun _ _ => rfl) (hcarry0_4 m c) t.val t rfl d,
    if_neg (by rw [notFresh0_4_B t (fun h => h0 ((hcond0_0 t).mp h))]; exact Bool.false_ne_true)]
  dsimp only [dats]
/-- At a point of case B output 5's current staging buffer holds what the point before left: the buffer is not fresh
    there (`notFresh0_5_B`: stored into since the region's entry or the last write-back, carried through the points that
    leave it idle by `hcarry0_5`; Lib/Pipeline/TableIdle.lean `Dat.before_out_traj`). -/
theorem before0_5_B (c : Dev nD) (t : Fin cfg0.N) (h0 : ¬t.val % 30 = 0) (d) :
    (dats m 0 c).before 5 t d = (outsAt0 m c (t.val - 1) (Nat.lt_of_le_of_lt (Nat.sub_le _ _) t.isLt)).2.1 := by
  rw [Dat.before_out_traj _ 5 rfl (fun _ _ => rfl) (hcarry0_5 m c) t.val t rfl d,
    if_neg (by rw [notFresh0_5_B t (fun h => h0 ((hcond0_0 t).mp h))]; exact Bool.false_ne_true)]
  dsimp only [dats]

/-- A later point returns window 4's buffer as it found it, which is what the pipeline asks of it: at a point that does not
    write the block back the buffer at what was found, at the last point the buffer at what the proof data names. -/
theorem keep4 (c : Dev nD) (t : Fin cfg0.N) (h0 : ¬t.val % 30 = 0) :
    (owns (c : Thread nD τ) (ms0_4 t) fullShare (outsAt0 m c (t.val - 1) (Nat.lt_of_le_of_lt (Nat.sub_le _ _) t.isLt)).1 : sProp (MT nD τ sig Unit (Elt F) ℕ (UR sig nD τ) ℕ))
      ⊢ (dats m 0 c).leavesExact 4 t := by
  have ha : (dats m 0 c).after 4 t = (outsAt0 m c (t.val - 1) (Nat.lt_of_le_of_lt (Nat.sub_le _ _) t.isLt)).1 := by
    rw [after0_4, outsAt0_B m c t h0]; dsimp only; unfold out0_B_4; rfl
  have hb := before0_4_B m c t h0
  unfold Dat.leavesExact
  rw [idleAt0_4_B t (fun h => h0 ((hcond0_0 t).mp h))]
  cases hf : (cfg0.win 4).flush t
  · dsimp only
    iintro H
    iexists (dats m 0 c).after 4 t
    rw [hb]
    iexact H
  · dsimp only
    rw [ha]

/-- A later point returns window 5's buffer as it found it, which is what the pipeline asks of it: at a point that does not
    write the block back the buffer at what was found, at the last point the buffer at what the proof data names. -/
theorem keep5 (c : Dev nD) (t : Fin cfg0.N) (h0 : ¬t.val % 30 = 0) :
    (owns (c : Thread nD τ) (ms0_5 t) fullShare (outsAt0 m c (t.val - 1) (Nat.lt_of_le_of_lt (Nat.sub_le _ _) t.isLt)).2.1 : sProp (MT nD τ sig Unit (Elt F) ℕ (UR sig nD τ) ℕ))
      ⊢ (dats m 0 c).leavesExact 5 t := by
  have ha : (dats m 0 c).after 5 t = (outsAt0 m c (t.val - 1) (Nat.lt_of_le_of_lt (Nat.sub_le _ _) t.isLt)).2.1 := by
    rw [after0_5, outsAt0_B m c t h0]; dsimp only; unfold out0_B_5; rfl
  have hb := before0_5_B m c t h0
  unfold Dat.leavesExact
  rw [idleAt0_5_B t (fun h => h0 ((hcond0_0 t).mp h))]
  cases hf : (cfg0.win 5).flush t
  · dsimp only
    iintro H
    iexists (dats m 0 c).after 5 t
    rw [hb]
    iexact H
  · dsimp only
    rw [ha]

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 30 := lt_of_lt_of_eq t.isLt (show cfg0.N = 30 from N_0)
  by_cases h0 : t.val % 30 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4_A t ((hcond0_0 t).mpr h0)], after0_4]
    rw [show (dats m 0 c).leavesExact 5 t = owns (c : Thread nD τ) (ms0_5 t) fullShare ((dats m 0 c).after 5 t) from by
      unfold Dat.leavesExact; rw [liveAt0_5_A t ((hcond0_0 t).mpr h0)], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    by_cases hz : t.val = 0
    · rw [PhiS_castSucc m c t, PhiS_zero m c _ _ hz, PhiA0_eq]
      rw [outsAt0_A m c t h0]
      unfold out0_A_4 out0_A_5 out0_A_6 out0_A_7 out0_A_8 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ ((hcond0_0 t).mpr h0) (iblk m c 0 t) (iblk m c 1 t) (iblk m c 2 t) (iblk m c 3 t)).2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [H8]; · iexists _; iexact H8
      isplitl [HS0]; · iexact HS0
      iintro ⟨H0, H1, H2, H3, ⟨%e4, H4⟩, ⟨%e5, H5⟩, ⟨%e6, H6⟩, ⟨%e7, H7⟩, ⟨%e8, H8⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _)
      unfold owns; iexists _; isplitr
      swap; · iexact H8
      ipureintro; exact View.read_writes_of_cover _ _ _ _ _ (cover0_A_8 c _ _ _ _ _ _ _ _ _ _ _ _ _ _ _ _ _ _ _ _ _ _ _ _ _ _)
    · exfalso; have hN : t.val < 30 := lt_of_lt_of_eq t.isLt (show cfg0.N = 30 from N_0); omega
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    by_cases hz : t.val = 0
    · exfalso; have hN : t.val < 30 := lt_of_lt_of_eq t.isLt (show cfg0.N = 30 from N_0); omega
    · rw [PhiS_castSucc m c t, PhiS_pos m c _ _ hz]
      rw [outsAt0_B m c t h0]
      simp only [before0_4_B m c t h0, before0_5_B m c t h0]
      unfold out0_B_6 out0_B_7 out0_B_8 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ (fun h => h0 ((hcond0_0 t).mp h)) (iblk m c 0 t) (iblk m c 1 t) (iblk m c 2 t) (iblk m c 3 t) _ _ _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      iintro ⟨H0, H1, H2, H3, H4, H5, ⟨%e6, H6⟩, ⟨%e7, H7⟩, ⟨%e8, H8⟩, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iapply (keep4 m c t h0); iexact H4
      isplitl [H5]; · iapply (keep5 m c t h0); iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _)
      unfold owns; iexists _; isplitr
      swap; · iexact H8
      ipureintro; exact View.read_writes_of_cover _ _ _ _ _ (cover0_B_8 c _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 30 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_ResidualIdeal`'s statement (Defs.lean) at any `F` — Proof.lean cites it at `Bits`:
    `theorem Cert.Proof.claim : Cert.Claim := ⟨Cert.ResidualIdeal.Gen.facts, fun m ρ _ => Cert.ResidualIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.ResidualIdeal.Gen

end
-- ==== Proof.ResidualIdealFrame.Value.lean ====
/-
  The residual block's outputs after the run, as one fold of its points' steps.
-/
module

public import proofs.«01_k».proof.Proof.ResidualIdealFrame.Frame
public import Idealize.ShloMosaic.Lib.Pipeline.Value

@[expose] public section

noncomputable section

namespace Cert.ResidualIdeal.Value

open Cert.ResidualIdeal Cert.ResidualIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 4's array: the run's contents for that window after the body (`Gen.outsAt0`: its component 0), read through the window's block. -/
theorem flushed4 (c : Dev nD) (t : Fin cfg0.N) :
    (dats m 0 c).flushed 4 t = (cfg0.win 4).cut (grid0.coords t) ((outsAt0 m c t.val t.isLt).1) := by
  show (cfg0.win 4).cut (grid0.coords t) ((dats m 0 c).after 4 t) = _
  rw [after0_4]

/-- … so at a point where case A runs, what its write-back would write is that case's NAMED TERM for the window (`Gen.out0_A_4`: the pieces
    its run found, read back) at the point's memrefs and input blocks, and for an output the case reads back what the point before left (`Gen.outsAt0` at `t - 1`) — by the frame's rewriting lemma for the case. -/
theorem flushed4_A (c : Dev nD) (t : Fin cfg0.N) (h0 : t.val % 30 = 0) :
    (dats m 0 c).flushed 4 t = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t)) := by
  simp only [flushed4, outsAt0_A m c t h0]

/-- … so at a point where case B runs, what its write-back would write is that case's NAMED TERM for the window (`Gen.out0_B_4`: the pieces
    its run found, read back) at the point's memrefs and input blocks, and for an output the case reads back what the point before left (`Gen.outsAt0` at `t - 1`) — by the frame's rewriting lemma for the case. -/
theorem flushed4_B (c : Dev nD) (t : Fin cfg0.N) (h0 : ¬t.val % 30 = 0) :
    (dats m 0 c).flushed 4 t = (cfg0.win 4).cut (grid0.coords t) (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.2.2) := by
  simp only [flushed4, outsAt0_B m c t h0]

-- no `blocks4`: window 4's index map revisits a block index, or its points could not be enumerated here;
-- the final array is still the frame's `arrAt`, to read with Lib/Pipeline/Value.lean's lemmas by hand

/-- An index that no flushing point's block covers keeps output window 4's array contents at region entry. -/
theorem entry4 (c : Dev nD) (i : S128x5120.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the run's contents for that window after the body (`Gen.outsAt0`: its component 1), read through the window's block. -/
theorem flushed5 (c : Dev nD) (t : Fin cfg0.N) :
    (dats m 0 c).flushed 5 t = (cfg0.win 5).cut (grid0.coords t) ((outsAt0 m c t.val t.isLt).2.1) := by
  show (cfg0.win 5).cut (grid0.coords t) ((dats m 0 c).after 5 t) = _
  rw [after0_5]

/-- … so at a point where case A runs, what its write-back would write is that case's NAMED TERM for the window (`Gen.out0_A_5`: the pieces
    its run found, read back) at the point's memrefs and input blocks, and for an output the case reads back what the point before left (`Gen.outsAt0` at `t - 1`) — by the frame's rewriting lemma for the case. -/
theorem flushed5_A (c : Dev nD) (t : Fin cfg0.N) (h0 : t.val % 30 = 0) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t)) := by
  simp only [flushed5, outsAt0_A m c t h0]

/-- … so at a point where case B runs, what its write-back would write is that case's NAMED TERM for the window (`Gen.out0_B_5`: the pieces
    its run found, read back) at the point's memrefs and input blocks, and for an output the case reads back what the point before left (`Gen.outsAt0` at `t - 1`) — by the frame's rewriting lemma for the case. -/
theorem flushed5_B (c : Dev nD) (t : Fin cfg0.N) (h0 : ¬t.val % 30 = 0) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.2.2) := by
  simp only [flushed5, outsAt0_B m c t h0]

-- no `blocks5`: window 5's index map revisits a block index, or its points could not be enumerated here;
-- the final array is still the frame's `arrAt`, to read with Lib/Pipeline/Value.lean's lemmas by hand

/-- An index that no flushing point's block covers keeps output window 5's array contents at region entry. -/
theorem entry5 (c : Dev nD) (i : S1x128.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the run's contents for that window after the body (`Gen.outsAt0`: its component 2), read through the window's block. -/
theorem flushed6 (c : Dev nD) (t : Fin cfg0.N) :
    (dats m 0 c).flushed 6 t = (cfg0.win 6).cut (grid0.coords t) ((outsAt0 m c t.val t.isLt).2.2.1) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — by the frame's rewriting lemma for the case. -/
theorem flushed6_A (c : Dev nD) (t : Fin cfg0.N) (h0 : t.val % 30 = 0) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t)) := by
  simp only [flushed6, outsAt0_A m c t h0]

/-- … so at a point where case B runs, what its write-back would write is that case's NAMED TERM for the window (`Gen.out0_B_6`: the pieces
    its run found, read back) at the point's memrefs and input blocks, and for an output the case reads back what the point before left (`Gen.outsAt0` at `t - 1`) — by the frame's rewriting lemma for the case. -/
theorem flushed6_B (c : Dev nD) (t : Fin cfg0.N) (h0 : ¬t.val % 30 = 0) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.2.2) := by
  simp only [flushed6, outsAt0_B m c t h0]

/-- The index map sends distinct grid points to distinct block indices (decided over the 30 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S3x128x5120.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the run's contents for that window after the body (`Gen.outsAt0`: its component 3), read through the window's block. -/
theorem flushed7 (c : Dev nD) (t : Fin cfg0.N) :
    (dats m 0 c).flushed 7 t = (cfg0.win 7).cut (grid0.coords t) ((outsAt0 m c t.val t.isLt).2.2.2.1) := by
  show (cfg0.win 7).cut (grid0.coords t) ((dats m 0 c).after 7 t) = _
  rw [after0_7]

/-- … so at a point where case A runs, what its write-back would write is that case's NAMED TERM for the window (`Gen.out0_A_7`: the pieces
    its run found, read back) at the point's memrefs and input blocks, and for an output the case reads back what the point before left (`Gen.outsAt0` at `t - 1`) — by the frame's rewriting lemma for the case. -/
theorem flushed7_A (c : Dev nD) (t : Fin cfg0.N) (h0 : t.val % 30 = 0) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t)) := by
  simp only [flushed7, outsAt0_A m c t h0]

/-- … so at a point where case B runs, what its write-back would write is that case's NAMED TERM for the window (`Gen.out0_B_7`: the pieces
    its run found, read back) at the point's memrefs and input blocks, and for an output the case reads back what the point before left (`Gen.outsAt0` at `t - 1`) — by the frame's rewriting lemma for the case. -/
theorem flushed7_B (c : Dev nD) (t : Fin cfg0.N) (h0 : ¬t.val % 30 = 0) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.2.2) := by
  simp only [flushed7, outsAt0_B m c t h0]

/-- The index map sends distinct grid points to distinct block indices (decided over the 30 points). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S3x160x128.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the run's contents for that window after the body (`Gen.outsAt0`: its component 4), read through the window's block. -/
theorem flushed8 (c : Dev nD) (t : Fin cfg0.N) :
    (dats m 0 c).flushed 8 t = (cfg0.win 8).cut (grid0.coords t) ((outsAt0 m c t.val t.isLt).2.2.2.2.1) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — by the frame's rewriting lemma for the case. -/
theorem flushed8_A (c : Dev nD) (t : Fin cfg0.N) (h0 : t.val % 30 = 0) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t)) := by
  simp only [flushed8, outsAt0_A m c t h0]

/-- … so at a point where case B runs, what its write-back would write is that case's NAMED TERM for the window (`Gen.out0_B_8`: the pieces
    its run found, read back) at the point's memrefs and input blocks, and for an output the case reads back what the point before left (`Gen.outsAt0` at `t - 1`) — by the frame's rewriting lemma for the case. -/
theorem flushed8_B (c : Dev nD) (t : Fin cfg0.N) (h0 : ¬t.val % 30 = 0) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.2.2) := by
  simp only [flushed8, outsAt0_B m c t h0]

/-- The index map sends distinct grid points to distinct block indices (decided over the 30 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S3x128x5120.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_2) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_3) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_4) = (dats m 0 c).arrAt 8 cfg0.N :=
  (h c).1 8

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 4 cfg0.N
      ∧ r.2.mem ((c : Thread nD τ).loc main_v0_1) = (dats m 0 c).arrAt 5 cfg0.N
      ∧ r.2.mem ((c : Thread nD τ).loc main_v0_2) = (dats m 0 c).arrAt 6 cfg0.N
      ∧ r.2.mem ((c : Thread nD τ).loc main_v0_3) = (dats m 0 c).arrAt 7 cfg0.N
      ∧ r.2.mem ((c : Thread nD τ).loc main_v0_4) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      post5 m r h c,
      post6 m r h c,
      post7 m r h c,
      post8 m r h c,
      kept_main_arg0 m r h c,
      kept_main_arg1 m r h c,
      kept_main_arg2 m r h c,
      kept_main_arg3 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S128x128 .f32) : Vec F S128x128 .f32 :=
  if h0 : n % 30 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).1 (outsAt0 m c ((⟨n, hb⟩ : Fin cfg0.N).val - 1) (Nat.lt_of_le_of_lt (Nat.sub_le _ _) (⟨n, hb⟩ : Fin cfg0.N).isLt)).2.1 acc

/-- WHAT CARRIED SCRATCH 0 HOLDS after point `t`: the fold of its run up to `t`, from the reset at the run's first point
    `30·(t / 30)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2.2.2.2 = Pipeline.accAt (fun n h => scAt0_0 m c n h (VS0_0.read (Elt F) VS0_0.junk)) (scAt0_0 m c) (30 * (t.val / 30)) (t.val % 30)
      (by have h1 := t.isLt; have h2 := Nat.div_add_mod t.val 30; omega) :=
  Pipeline.eq_accAt_of_mod (fun n h => (outsAt0 m c n h).2.2.2.2.2) 30 (fun n h => scAt0_0 m c n h (VS0_0.read (Elt F) VS0_0.junk)) (scAt0_0 m c)
    (fun n h hn => by
      have hN := lt_of_lt_of_eq h (show cfg0.N = 30 from N_0)
      by_cases h0 : n % 30 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 30 from N_0)
      by_cases h0 : (n + 1) % 30 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2.2.2.2.2 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 30 from N_0)
  have hd : n / 30 = 0 := Nat.div_eq_of_lt hN
  have hm : n % 30 = n := Nat.mod_eq_of_lt hN
  simpa only [hd, hm, Nat.mul_zero] using e

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S128x5120 .fp8e4m3 × Vec F S1x128 .f32 × Vec F S1x128x512 .fp8e4m3 × Vec F S1x16x128 .f32 × Vec F S1x128x512 .bf16 × Vec F S128x128 .f32 :=
  ((VO0_4.read (Elt F) VO0_4.junk, VO0_5.read (Elt F) VO0_5.junk, VO0_6.read (Elt F) VO0_6.junk, VO0_7.read (Elt F) VO0_7.junk, VO0_8.read (Elt F) VO0_8.junk, VS0_0.read (Elt F) VS0_0.junk) : Vec F S128x5120 .fp8e4m3 × Vec F S1x128 .f32 × Vec F S1x128x512 .fp8e4m3 × Vec F S1x16x128 .f32 × Vec F S1x128x512 .bf16 × Vec F S128x128 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S128x5120 .fp8e4m3 × Vec F S1x128 .f32 × Vec F S1x128x512 .fp8e4m3 × Vec F S1x16x128 .f32 × Vec F S1x128x512 .bf16 × Vec F S128x128 .f32) : Vec F S128x5120 .fp8e4m3 × Vec F S1x128 .f32 × Vec F S1x128x512 .fp8e4m3 × Vec F S1x16x128 .f32 × Vec F S1x128x512 .bf16 × Vec F S128x128 .f32 :=
  if h0 : n % 30 = 0 then
    (out0_A_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)), out0_A_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)), out0_A_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)), out0_A_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)), out0_A_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)))
  else
    (out0_B_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.1 acc.2.1 acc.2.2.2.2.2, out0_B_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.1 acc.2.1 acc.2.2.2.2.2, out0_B_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.1 acc.2.1 acc.2.2.2.2.2, out0_B_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.1 acc.2.1 acc.2.2.2.2.2, out0_B_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.1 acc.2.1 acc.2.2.2.2.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.1 acc.2.1 acc.2.2.2.2.2)

/-- `stAt0` at a point of case A: that case's contents. -/
theorem stAt0_A (c : Dev nD) (t : Fin cfg0.N) (acc : Vec F S128x5120 .fp8e4m3 × Vec F S1x128 .f32 × Vec F S1x128x512 .fp8e4m3 × Vec F S1x16x128 .f32 × Vec F S1x128x512 .bf16 × Vec F S128x128 .f32) (h0 : t.val % 30 = 0) :
    stAt0 m c t.val t.isLt acc = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t)) :=
  (dif_pos h0).trans rfl

/-- `stAt0` at a point of case B: that case's contents, over `acc`. -/
theorem stAt0_B (c : Dev nD) (t : Fin cfg0.N) (acc : Vec F S128x5120 .fp8e4m3 × Vec F S1x128 .f32 × Vec F S1x128x512 .fp8e4m3 × Vec F S1x16x128 .f32 × Vec F S1x128x512 .bf16 × Vec F S128x128 .f32) (h0 : ¬t.val % 30 = 0) :
    stAt0 m c t.val t.isLt acc = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) acc.1 acc.2.1 acc.2.2.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) acc.1 acc.2.1 acc.2.2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) acc.1 acc.2.1 acc.2.2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) acc.1 acc.2.1 acc.2.2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) acc.1 acc.2.1 acc.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) acc.1 acc.2.1 acc.2.2.2.2.2) :=
  (dif_neg h0).trans rfl

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 30 from N_0)
  have e := Pipeline.eq_accAt_of_mod (fun n h => outsAt0 m c n h) 30 (fun n h => stAt0 m c n h junk0) (stAt0 m c)
    (fun n h _ => by
      have hN := lt_of_lt_of_eq h (show cfg0.N = 30 from N_0)
      obtain rfl : n = 0 := by omega
      exact outsAt0_zero m c h)
    (fun n h _ => outsAt0_succ m c n h)
    (by decide) n hn (by have := Nat.div_add_mod n 30; omega)
  have hd : n / 30 = 0 := Nat.div_eq_of_lt hN
  have hm : n % 30 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 4 -/

/-- The block of the array that holds index `i`, numbered in the order the points write the blocks back (one every 30 points),
    `i`'s place in it, and the point that writes it back (the last of its 30). -/
abbrev run4Of (i : S128x5120.Idx) : ℕ := 1 * ((i 0).val / 128 - 0) + 1 * ((i 1).val / 5120 - 0)
set_option backward.proofsInPublic true in
abbrev loc4Of (i : S128x5120.Idx) : S128x5120.Idx := fun a => match a with
  | ⟨0, _⟩ => ⟨(i 0).val % 128, Nat.mod_lt _ (by decide)⟩
  | ⟨1, _⟩ => ⟨(i 1).val % 5120, Nat.mod_lt _ (by decide)⟩
abbrev pt4Of (i : S128x5120.Idx) : ℕ := 30 * run4Of i + 29

/-- WHAT THE ARRAY ENDS HOLDING at index `i` inside the box the flushing blocks fill: output 4's component of the carried
    state's fold at the point that writes `i`'s block back, at `i`'s place in the block. `G4` states the array's contents
    only inside the box. -/
def G4 (c : Dev nD) : Buf (Elt F) ((c : Thread nD τ).loc main_v0_0) := fun i =>
  if h : pt4Of i < cfg0.N then
    (Pipeline.accAt (fun n h => stAt0 m c n h junk0) (stAt0 m c) 0 (pt4Of i) (by omega)).1 (loc4Of i)
  else V m c (Pipeline.arrRef spec0 4) i

/-- The printed index map, decided over the grid: output window 4's block indices stay in the box, and the block number
    read off them is the point's (`t / 30`). -/
theorem idx_facts4 : ∀ t : Fin cfg0.N, 0 ≤ win0_4.index t (0 : Fin 2) ∧ win0_4.index t (0 : Fin 2) ≤ 0
    ∧ 0 ≤ win0_4.index t (1 : Fin 2) ∧ win0_4.index t (1 : Fin 2) ≤ 0
    ∧ 1 * (win0_4.index t (0 : Fin 2) - 0) + 1 * (win0_4.index t (1 : Fin 2) - 0) = t.val / 30 :=
  (by decide +kernel : ∀ t : Fin grid0.N, _)

/-- Every block of the box is SOME flushing point's: `onto4Pt`, the point that writes back the block at place `q` of the box (the last point of its run). -/
abbrev onto4Pt (q0 : Fin 1) (q1 : Fin 1) : Fin grid0.N :=
  ⟨30 * (1 * q0.val + 1 * q1.val) + 29, lt_of_lt_of_eq (by omega) N_0.symm⟩
theorem idx_onto4 : ∀ (q0 : Fin 1) (q1 : Fin 1), ∃ t : Fin cfg0.N, (cfg0.win 4).flush t = true ∧ win0_4.index t = ![q0.val + 0, q1.val + 0] :=
  fun q0 q1 => ⟨onto4Pt q0 q1, (by decide +kernel : ∀ (q0 : Fin 1) (q1 : Fin 1), win0_4.flush (onto4Pt q0 q1) = true ∧ win0_4.index (onto4Pt q0 q1) = ![q0.val + 0, q1.val + 0]) q0 q1⟩

/-- WHAT A FLUSHING POINT `t` WRITES BACK is block `t` of `G4`: output 4's component of the fold up to `t`. -/
theorem flushed4_eq (c : Dev nD) (t : Fin cfg0.N) (hf : (cfg0.win 4).flush t = true) :
    (dats m 0 c).flushed 4 t = ((cfg0.win 4).blk t).view.read (Elt F) (G4 m c) := by
  show (cfg0.win 4).cut (grid0.coords t) ((dats m 0 c).after 4 t) = _
  rw [after0_4, outsAt0_sweep]
  have hm : t.val % 30 = 29 := (flush0_4 t).mp hf
  obtain ⟨e0, e1, e2⟩ := idx_facts4 t
  funext y
  have hy0 : (y 0).val < 128 := (y 0).isLt
  have hy1 : (y 1).val < 5120 := (y 1).isLt
  have hb0 : (((cfg0.win 4).blk t).view.emb y 0).val = win0_4.index t (0 : Fin 2) * 128 + 1 * (y 0).val := rfl
  have hb1 : (((cfg0.win 4).blk t).view.emb y 1).val = win0_4.index t (1 : Fin 2) * 5120 + 1 * (y 1).val := rfl
  have hr : run4Of (((cfg0.win 4).blk t).view.emb y) = t.val / 30 := by
    show 1 * ((((cfg0.win 4).blk t).view.emb y 0).val / 128 - 0) + 1 * ((((cfg0.win 4).blk t).view.emb y 1).val / 5120 - 0) = _
    rw [hb0, hb1]
    rw [show (win0_4.index t (0 : Fin 2) * 128 + 1 * (y 0).val) / 128 = win0_4.index t (0 : Fin 2) from by omega]; rw [show (win0_4.index t (1 : Fin 2) * 5120 + 1 * (y 1).val) / 5120 = win0_4.index t (1 : Fin 2) from by omega]
    omega
  have hl : loc4Of (((cfg0.win 4).blk t).view.emb y) = (cfg0.win 4).xinj (grid0.coords t) y := by
    funext a; apply Fin.ext
    match a with
    | ⟨0, _⟩ => show (((cfg0.win 4).blk t).view.emb y 0).val % 128 = (y 0).val; rw [hb0]; omega
    | ⟨1, _⟩ => show (((cfg0.win 4).blk t).view.emb y 1).val % 5120 = (y 1).val; rw [hb1]; omega
  have hp : pt4Of (((cfg0.win 4).blk t).view.emb y) = t.val := by
    show 30 * run4Of (((cfg0.win 4).blk t).view.emb y) + 29 = _
    rw [hr]; have := Nat.div_add_mod t.val 30; omega
  show (Pipeline.accAt (fun n h => stAt0 m c n h junk0) (stAt0 m c) 0 t.val _).1 ((cfg0.win 4).xinj (grid0.coords t) y) = G4 m c (((cfg0.win 4).blk t).view.emb y)
  unfold G4
  rw [dif_pos (by rw [hp]; exact t.isLt), hl, fold0_congr m c _ _ _ _ hp.symm]

/-- An index of the array is in point `t`'s block iff each coordinate is in the block's range on its axis. -/
theorem mem_blk4 (t : Fin cfg0.N) (i : S128x5120.Idx) :
    i ∈ ((cfg0.win 4).blk t).view.set ↔ ∀ a : Fin 2, win0_4.index t a * S128x5120.size a ≤ (i a).val ∧ (i a).val < win0_4.index t a * S128x5120.size a + S128x5120.size a := by
  show i ∈ ((View.whole main_v0_0).slice (win0_4.rect t)).set ↔ _
  rw [View.set_slice_whole, Rect.mem_set_unit]
  exact Iff.rfl

/-- THE COVERED INDICES: in some flushing point's block iff inside the box those blocks fill. -/
theorem covered_iff4 (i : S128x5120.Idx) :
    (∃ t : Fin cfg0.N, (cfg0.win 4).flush t = true ∧ i ∈ ((cfg0.win 4).blk t).view.set) ↔ 0 ≤ (i 0).val ∧ (i 0).val < 128 ∧ 0 ≤ (i 1).val ∧ (i 1).val < 5120 := by
  constructor
  · rintro ⟨t, -, hi⟩
    rw [mem_blk4] at hi
    have b0 : win0_4.index t (0 : Fin 2) * 128 ≤ (i 0).val ∧ (i 0).val < win0_4.index t (0 : Fin 2) * 128 + 128 := hi 0
    have b1 : win0_4.index t (1 : Fin 2) * 5120 ≤ (i 1).val ∧ (i 1).val < win0_4.index t (1 : Fin 2) * 5120 + 5120 := hi 1
    obtain ⟨e0, e1, e2⟩ := idx_facts4 t
    omega
  · intro h
    have hi0 : (i 0).val < 128 := (i 0).isLt
    have hi1 : (i 1).val < 5120 := (i 1).isLt
    obtain ⟨t, hft, ht⟩ := idx_onto4 ⟨(i 0).val / 128 - 0, by omega⟩ ⟨(i 1).val / 5120 - 0, by omega⟩
    have q0 : win0_4.index t (0 : Fin 2) = (i 0).val / 128 - 0 + 0 := congrFun ht 0
    have q1 : win0_4.index t (1 : Fin 2) = (i 1).val / 5120 - 0 + 0 := congrFun ht 1
    refine ⟨t, hft, ?_⟩
    rw [mem_blk4]
    intro a
    match a with
    | ⟨0, _⟩ => show win0_4.index t (0 : Fin 2) * 128 ≤ (i 0).val ∧ (i 0).val < win0_4.index t (0 : Fin 2) * 128 + 128; omega
    | ⟨1, _⟩ => show win0_4.index t (1 : Fin 2) * 5120 ≤ (i 1).val ∧ (i 1).val < win0_4.index t (1 : Fin 2) * 5120 + 5120; omega

/-- THE ARRAY after the run: `G4` (the flushing blocks tile it). -/
theorem final4 (c : Dev nD) : (dats m 0 c).arrAt 4 cfg0.N = G4 m c :=
  (dats m 0 c).arrAt_eq_of_cover 4 _ (fun t hf => flushed4_eq m c t hf) (fun i => (covered_iff4 i).2 (by
    have h0 : (i 0).val < 128 := (i 0).isLt; have h1 : (i 1).val < 5120 := (i 1).isLt; omega))

/-- Output 4 is written back ONCE, at the last point, and its block is its array: the array after the run is output 4's
    component of the fold over the whole grid — where a hand proof over this window starts. -/
theorem G4_last (c : Dev nD) :
    G4 m c = (Pipeline.accAt (fun n h => stAt0 m c n h junk0) (stAt0 m c) 0 29 (lt_of_lt_of_eq (by decide) N_0.symm)).1 := by
  funext i
  have hi0 : (i 0).val < 128 := (i 0).isLt
  have hi1 : (i 1).val < 5120 := (i 1).isLt
  have hp : pt4Of i = 29 := by
    show 30 * (1 * ((i 0).val / 128 - 0) + 1 * ((i 1).val / 5120 - 0)) + 29 = _
    omega
  have hl : loc4Of i = i := by
    funext a; apply Fin.ext
    match a with
    | ⟨0, _⟩ => show (i 0).val % 128 = (i 0).val; omega
    | ⟨1, _⟩ => show (i 1).val % 5120 = (i 1).val; omega
  unfold G4
  rw [dif_pos (by rw [hp]; exact lt_of_lt_of_eq (by decide) N_0.symm), hl, fold0_congr m c _ _ _ _ hp]

/-! ## Output window 5 -/

/-- The block of the array that holds index `i`, numbered in the order the points write the blocks back (one every 30 points),
    `i`'s place in it, and the point that writes it back (the last of its 30). -/
abbrev run5Of (i : S1x128.Idx) : ℕ := 1 * ((i 0).val / 1 - 0) + 1 * ((i 1).val / 128 - 0)
set_option backward.proofsInPublic true in
abbrev loc5Of (i : S1x128.Idx) : S1x128.Idx := fun a => match a with
  | ⟨0, _⟩ => ⟨(i 0).val % 1, Nat.mod_lt _ (by decide)⟩
  | ⟨1, _⟩ => ⟨(i 1).val % 128, Nat.mod_lt _ (by decide)⟩
abbrev pt5Of (i : S1x128.Idx) : ℕ := 30 * run5Of i + 29

/-- WHAT THE ARRAY ENDS HOLDING at index `i` inside the box the flushing blocks fill: output 5's component of the carried
    state's fold at the point that writes `i`'s block back, at `i`'s place in the block. `G5` states the array's contents
    only inside the box. -/
def G5 (c : Dev nD) : Buf (Elt F) ((c : Thread nD τ).loc main_v0_1) := fun i =>
  if h : pt5Of i < cfg0.N then
    (Pipeline.accAt (fun n h => stAt0 m c n h junk0) (stAt0 m c) 0 (pt5Of i) (by omega)).2.1 (loc5Of i)
  else V m c (Pipeline.arrRef spec0 5) i

/-- The printed index map, decided over the grid: output window 5's block indices stay in the box, and the block number
    read off them is the point's (`t / 30`). -/
theorem idx_facts5 : ∀ t : Fin cfg0.N, 0 ≤ win0_5.index t (0 : Fin 2) ∧ win0_5.index t (0 : Fin 2) ≤ 0
    ∧ 0 ≤ win0_5.index t (1 : Fin 2) ∧ win0_5.index t (1 : Fin 2) ≤ 0
    ∧ 1 * (win0_5.index t (0 : Fin 2) - 0) + 1 * (win0_5.index t (1 : Fin 2) - 0) = t.val / 30 :=
  (by decide +kernel : ∀ t : Fin grid0.N, _)

/-- Every block of the box is SOME flushing point's: `onto5Pt`, the point that writes back the block at place `q` of the box (the last point of its run). -/
abbrev onto5Pt (q0 : Fin 1) (q1 : Fin 1) : Fin grid0.N :=
  ⟨30 * (1 * q0.val + 1 * q1.val) + 29, lt_of_lt_of_eq (by omega) N_0.symm⟩
theorem idx_onto5 : ∀ (q0 : Fin 1) (q1 : Fin 1), ∃ t : Fin cfg0.N, (cfg0.win 5).flush t = true ∧ win0_5.index t = ![q0.val + 0, q1.val + 0] :=
  fun q0 q1 => ⟨onto5Pt q0 q1, (by decide +kernel : ∀ (q0 : Fin 1) (q1 : Fin 1), win0_5.flush (onto5Pt q0 q1) = true ∧ win0_5.index (onto5Pt q0 q1) = ![q0.val + 0, q1.val + 0]) q0 q1⟩

/-- WHAT A FLUSHING POINT `t` WRITES BACK is block `t` of `G5`: output 5's component of the fold up to `t`. -/
theorem flushed5_eq (c : Dev nD) (t : Fin cfg0.N) (hf : (cfg0.win 5).flush t = true) :
    (dats m 0 c).flushed 5 t = ((cfg0.win 5).blk t).view.read (Elt F) (G5 m c) := by
  show (cfg0.win 5).cut (grid0.coords t) ((dats m 0 c).after 5 t) = _
  rw [after0_5, outsAt0_sweep]
  have hm : t.val % 30 = 29 := (flush0_5 t).mp hf
  obtain ⟨e0, e1, e2⟩ := idx_facts5 t
  funext y
  have hy0 : (y 0).val < 1 := (y 0).isLt
  have hy1 : (y 1).val < 128 := (y 1).isLt
  have hb0 : (((cfg0.win 5).blk t).view.emb y 0).val = win0_5.index t (0 : Fin 2) * 1 + 1 * (y 0).val := rfl
  have hb1 : (((cfg0.win 5).blk t).view.emb y 1).val = win0_5.index t (1 : Fin 2) * 128 + 1 * (y 1).val := rfl
  have hr : run5Of (((cfg0.win 5).blk t).view.emb y) = t.val / 30 := by
    show 1 * ((((cfg0.win 5).blk t).view.emb y 0).val / 1 - 0) + 1 * ((((cfg0.win 5).blk t).view.emb y 1).val / 128 - 0) = _
    rw [hb0, hb1]
    rw [show (win0_5.index t (0 : Fin 2) * 1 + 1 * (y 0).val) / 1 = win0_5.index t (0 : Fin 2) from by omega]; rw [show (win0_5.index t (1 : Fin 2) * 128 + 1 * (y 1).val) / 128 = win0_5.index t (1 : Fin 2) from by omega]
    omega
  have hl : loc5Of (((cfg0.win 5).blk t).view.emb y) = (cfg0.win 5).xinj (grid0.coords t) y := by
    funext a; apply Fin.ext
    match a with
    | ⟨0, _⟩ => show (((cfg0.win 5).blk t).view.emb y 0).val % 1 = (y 0).val; rw [hb0]; omega
    | ⟨1, _⟩ => show (((cfg0.win 5).blk t).view.emb y 1).val % 128 = (y 1).val; rw [hb1]; omega
  have hp : pt5Of (((cfg0.win 5).blk t).view.emb y) = t.val := by
    show 30 * run5Of (((cfg0.win 5).blk t).view.emb y) + 29 = _
    rw [hr]; have := Nat.div_add_mod t.val 30; omega
  show (Pipeline.accAt (fun n h => stAt0 m c n h junk0) (stAt0 m c) 0 t.val _).2.1 ((cfg0.win 5).xinj (grid0.coords t) y) = G5 m c (((cfg0.win 5).blk t).view.emb y)
  unfold G5
  rw [dif_pos (by rw [hp]; exact t.isLt), hl, fold0_congr m c _ _ _ _ hp.symm]

/-- An index of the array is in point `t`'s block iff each coordinate is in the block's range on its axis. -/
theorem mem_blk5 (t : Fin cfg0.N) (i : S1x128.Idx) :
    i ∈ ((cfg0.win 5).blk t).view.set ↔ ∀ a : Fin 2, win0_5.index t a * S1x128.size a ≤ (i a).val ∧ (i a).val < win0_5.index t a * S1x128.size a + S1x128.size a := by
  show i ∈ ((View.whole main_v0_1).slice (win0_5.rect t)).set ↔ _
  rw [View.set_slice_whole, Rect.mem_set_unit]
  exact Iff.rfl

/-- THE COVERED INDICES: in some flushing point's block iff inside the box those blocks fill. -/
theorem covered_iff5 (i : S1x128.Idx) :
    (∃ t : Fin cfg0.N, (cfg0.win 5).flush t = true ∧ i ∈ ((cfg0.win 5).blk t).view.set) ↔ 0 ≤ (i 0).val ∧ (i 0).val < 1 ∧ 0 ≤ (i 1).val ∧ (i 1).val < 128 := by
  constructor
  · rintro ⟨t, -, hi⟩
    rw [mem_blk5] at hi
    have b0 : win0_5.index t (0 : Fin 2) * 1 ≤ (i 0).val ∧ (i 0).val < win0_5.index t (0 : Fin 2) * 1 + 1 := hi 0
    have b1 : win0_5.index t (1 : Fin 2) * 128 ≤ (i 1).val ∧ (i 1).val < win0_5.index t (1 : Fin 2) * 128 + 128 := hi 1
    obtain ⟨e0, e1, e2⟩ := idx_facts5 t
    omega
  · intro h
    have hi0 : (i 0).val < 1 := (i 0).isLt
    have hi1 : (i 1).val < 128 := (i 1).isLt
    obtain ⟨t, hft, ht⟩ := idx_onto5 ⟨(i 0).val / 1 - 0, by omega⟩ ⟨(i 1).val / 128 - 0, by omega⟩
    have q0 : win0_5.index t (0 : Fin 2) = (i 0).val / 1 - 0 + 0 := congrFun ht 0
    have q1 : win0_5.index t (1 : Fin 2) = (i 1).val / 128 - 0 + 0 := congrFun ht 1
    refine ⟨t, hft, ?_⟩
    rw [mem_blk5]
    intro a
    match a with
    | ⟨0, _⟩ => show win0_5.index t (0 : Fin 2) * 1 ≤ (i 0).val ∧ (i 0).val < win0_5.index t (0 : Fin 2) * 1 + 1; omega
    | ⟨1, _⟩ => show win0_5.index t (1 : Fin 2) * 128 ≤ (i 1).val ∧ (i 1).val < win0_5.index t (1 : Fin 2) * 128 + 128; omega

/-- THE ARRAY after the run: `G5` (the flushing blocks tile it). -/
theorem final5 (c : Dev nD) : (dats m 0 c).arrAt 5 cfg0.N = G5 m c :=
  (dats m 0 c).arrAt_eq_of_cover 5 _ (fun t hf => flushed5_eq m c t hf) (fun i => (covered_iff5 i).2 (by
    have h0 : (i 0).val < 1 := (i 0).isLt; have h1 : (i 1).val < 128 := (i 1).isLt; omega))

/-- Output 5 is written back ONCE, at the last point, and its block is its array: the array after the run is output 5's
    component of the fold over the whole grid — where a hand proof over this window starts. -/
theorem G5_last (c : Dev nD) :
    G5 m c = (Pipeline.accAt (fun n h => stAt0 m c n h junk0) (stAt0 m c) 0 29 (lt_of_lt_of_eq (by decide) N_0.symm)).2.1 := by
  funext i
  have hi0 : (i 0).val < 1 := (i 0).isLt
  have hi1 : (i 1).val < 128 := (i 1).isLt
  have hp : pt5Of i = 29 := by
    show 30 * (1 * ((i 0).val / 1 - 0) + 1 * ((i 1).val / 128 - 0)) + 29 = _
    omega
  have hl : loc5Of i = i := by
    funext a; apply Fin.ext
    match a with
    | ⟨0, _⟩ => show (i 0).val % 1 = (i 0).val; omega
    | ⟨1, _⟩ => show (i 1).val % 128 = (i 1).val; omega
  unfold G5
  rw [dif_pos (by rw [hp]; exact lt_of_lt_of_eq (by decide) N_0.symm), hl, fold0_congr m c _ _ _ _ hp]

/-! ## Output window 6 -/

/-- The block of the array that holds index `i`, numbered in the order the points write the blocks back (one per point),
    `i`'s place in it, and the point that writes it back. -/
abbrev run6Of (i : S3x128x5120.Idx) : ℕ := 10 * ((i 0).val / 1 - 0) + 10 * ((i 1).val / 128 - 0) + 1 * ((i 2).val / 512 - 0)
set_option backward.proofsInPublic true in
abbrev loc6Of (i : S3x128x5120.Idx) : S1x128x512.Idx := fun a => match a with
  | ⟨0, _⟩ => ⟨(i 0).val % 1, Nat.mod_lt _ (by decide)⟩
  | ⟨1, _⟩ => ⟨(i 1).val % 128, Nat.mod_lt _ (by decide)⟩
  | ⟨2, _⟩ => ⟨(i 2).val % 512, Nat.mod_lt _ (by decide)⟩
abbrev pt6Of (i : S3x128x5120.Idx) : ℕ := run6Of i

/-- WHAT THE ARRAY ENDS HOLDING at index `i` inside the box the flushing blocks fill: output 6's component of the carried
    state's fold at the point that writes `i`'s block back, at `i`'s place in the block. `G6` states the array's contents
    only inside the box. -/
def G6 (c : Dev nD) : Buf (Elt F) ((c : Thread nD τ).loc main_v0_2) := fun i =>
  if h : pt6Of i < cfg0.N then
    (Pipeline.accAt (fun n h => stAt0 m c n h junk0) (stAt0 m c) 0 (pt6Of i) (by omega)).2.2.1 (loc6Of i)
  else V m c (Pipeline.arrRef spec0 6) i

/-- The printed index map, decided over the grid: output window 6's block indices stay in the box, and the block number
    read off them is the point's (`t`). -/
theorem idx_facts6 : ∀ t : Fin cfg0.N, 0 ≤ win0_6.index t (0 : Fin 3) ∧ win0_6.index t (0 : Fin 3) ≤ 2
    ∧ 0 ≤ win0_6.index t (1 : Fin 3) ∧ win0_6.index t (1 : Fin 3) ≤ 0
    ∧ 0 ≤ win0_6.index t (2 : Fin 3) ∧ win0_6.index t (2 : Fin 3) ≤ 9
    ∧ 10 * (win0_6.index t (0 : Fin 3) - 0) + 10 * (win0_6.index t (1 : Fin 3) - 0) + 1 * (win0_6.index t (2 : Fin 3) - 0) = t.val :=
  (by decide +kernel : ∀ t : Fin grid0.N, _)

/-- Every block of the box is SOME flushing point's: `onto6Pt`, the point that writes back the block at place `q` of the box. -/
abbrev onto6Pt (q0 : Fin 3) (q1 : Fin 1) (q2 : Fin 10) : Fin grid0.N :=
  ⟨10 * q0.val + 10 * q1.val + 1 * q2.val, lt_of_lt_of_eq (by omega) N_0.symm⟩
theorem idx_onto6 : ∀ (q0 : Fin 3) (q1 : Fin 1) (q2 : Fin 10), ∃ t : Fin cfg0.N, (cfg0.win 6).flush t = true ∧ win0_6.index t = ![q0.val + 0, q1.val + 0, q2.val + 0] :=
  fun q0 q1 q2 => ⟨onto6Pt q0 q1 q2, (by decide +kernel : ∀ (q0 : Fin 3) (q1 : Fin 1) (q2 : Fin 10), win0_6.flush (onto6Pt q0 q1 q2) = true ∧ win0_6.index (onto6Pt q0 q1 q2) = ![q0.val + 0, q1.val + 0, q2.val + 0]) q0 q1 q2⟩

/-- WHAT A FLUSHING POINT `t` WRITES BACK is block `t` of `G6`: output 6's component of the fold up to `t`. -/
theorem flushed6_eq (c : Dev nD) (t : Fin cfg0.N) (hf : (cfg0.win 6).flush t = true) :
    (dats m 0 c).flushed 6 t = ((cfg0.win 6).blk t).view.read (Elt F) (G6 m c) := by
  show (cfg0.win 6).cut (grid0.coords t) ((dats m 0 c).after 6 t) = _
  rw [after0_6, outsAt0_sweep]
  obtain ⟨e0, e1, e2, e3⟩ := idx_facts6 t
  funext y
  have hy0 : (y 0).val < 1 := (y 0).isLt
  have hy1 : (y 1).val < 128 := (y 1).isLt
  have hy2 : (y 2).val < 512 := (y 2).isLt
  have hb0 : (((cfg0.win 6).blk t).view.emb y 0).val = win0_6.index t (0 : Fin 3) * 1 + 1 * (y 0).val := rfl
  have hb1 : (((cfg0.win 6).blk t).view.emb y 1).val = win0_6.index t (1 : Fin 3) * 128 + 1 * (y 1).val := rfl
  have hb2 : (((cfg0.win 6).blk t).view.emb y 2).val = win0_6.index t (2 : Fin 3) * 512 + 1 * (y 2).val := rfl
  have hr : run6Of (((cfg0.win 6).blk t).view.emb y) = t.val := by
    show 10 * ((((cfg0.win 6).blk t).view.emb y 0).val / 1 - 0) + 10 * ((((cfg0.win 6).blk t).view.emb y 1).val / 128 - 0) + 1 * ((((cfg0.win 6).blk t).view.emb y 2).val / 512 - 0) = _
    rw [hb0, hb1, hb2]
    rw [show (win0_6.index t (0 : Fin 3) * 1 + 1 * (y 0).val) / 1 = win0_6.index t (0 : Fin 3) from by omega]; rw [show (win0_6.index t (1 : Fin 3) * 128 + 1 * (y 1).val) / 128 = win0_6.index t (1 : Fin 3) from by omega]; rw [show (win0_6.index t (2 : Fin 3) * 512 + 1 * (y 2).val) / 512 = win0_6.index t (2 : Fin 3) from by omega]
    omega
  have hl : loc6Of (((cfg0.win 6).blk t).view.emb y) = (cfg0.win 6).xinj (grid0.coords t) y := by
    funext a; apply Fin.ext
    match a with
    | ⟨0, _⟩ => show (((cfg0.win 6).blk t).view.emb y 0).val % 1 = (y 0).val; rw [hb0]; omega
    | ⟨1, _⟩ => show (((cfg0.win 6).blk t).view.emb y 1).val % 128 = (y 1).val; rw [hb1]; omega
    | ⟨2, _⟩ => show (((cfg0.win 6).blk t).view.emb y 2).val % 512 = (y 2).val; rw [hb2]; omega
  have hp : pt6Of (((cfg0.win 6).blk t).view.emb y) = t.val := by
    exact hr
  show (Pipeline.accAt (fun n h => stAt0 m c n h junk0) (stAt0 m c) 0 t.val _).2.2.1 ((cfg0.win 6).xinj (grid0.coords t) y) = G6 m c (((cfg0.win 6).blk t).view.emb y)
  unfold G6
  rw [dif_pos (by rw [hp]; exact t.isLt), hl, fold0_congr m c _ _ _ _ hp.symm]

/-- An index of the array is in point `t`'s block iff each coordinate is in the block's range on its axis. -/
theorem mem_blk6 (t : Fin cfg0.N) (i : S3x128x5120.Idx) :
    i ∈ ((cfg0.win 6).blk t).view.set ↔ ∀ a : Fin 3, win0_6.index t a * S1x128x512.size a ≤ (i a).val ∧ (i a).val < win0_6.index t a * S1x128x512.size a + S1x128x512.size a := by
  show i ∈ ((View.whole main_v0_2).slice (win0_6.rect t)).set ↔ _
  rw [View.set_slice_whole, Rect.mem_set_unit]
  exact Iff.rfl

/-- THE COVERED INDICES: in some flushing point's block iff inside the box those blocks fill. -/
theorem covered_iff6 (i : S3x128x5120.Idx) :
    (∃ t : Fin cfg0.N, (cfg0.win 6).flush t = true ∧ i ∈ ((cfg0.win 6).blk t).view.set) ↔ 0 ≤ (i 0).val ∧ (i 0).val < 3 ∧ 0 ≤ (i 1).val ∧ (i 1).val < 128 ∧ 0 ≤ (i 2).val ∧ (i 2).val < 5120 := by
  constructor
  · rintro ⟨t, -, hi⟩
    rw [mem_blk6] at hi
    have b0 : win0_6.index t (0 : Fin 3) * 1 ≤ (i 0).val ∧ (i 0).val < win0_6.index t (0 : Fin 3) * 1 + 1 := hi 0
    have b1 : win0_6.index t (1 : Fin 3) * 128 ≤ (i 1).val ∧ (i 1).val < win0_6.index t (1 : Fin 3) * 128 + 128 := hi 1
    have b2 : win0_6.index t (2 : Fin 3) * 512 ≤ (i 2).val ∧ (i 2).val < win0_6.index t (2 : Fin 3) * 512 + 512 := hi 2
    obtain ⟨e0, e1, e2, e3⟩ := idx_facts6 t
    omega
  · intro h
    have hi0 : (i 0).val < 3 := (i 0).isLt
    have hi1 : (i 1).val < 128 := (i 1).isLt
    have hi2 : (i 2).val < 5120 := (i 2).isLt
    obtain ⟨t, hft, ht⟩ := idx_onto6 ⟨(i 0).val / 1 - 0, by omega⟩ ⟨(i 1).val / 128 - 0, by omega⟩ ⟨(i 2).val / 512 - 0, by omega⟩
    have q0 : win0_6.index t (0 : Fin 3) = (i 0).val / 1 - 0 + 0 := congrFun ht 0
    have q1 : win0_6.index t (1 : Fin 3) = (i 1).val / 128 - 0 + 0 := congrFun ht 1
    have q2 : win0_6.index t (2 : Fin 3) = (i 2).val / 512 - 0 + 0 := congrFun ht 2
    refine ⟨t, hft, ?_⟩
    rw [mem_blk6]
    intro a
    match a with
    | ⟨0, _⟩ => show win0_6.index t (0 : Fin 3) * 1 ≤ (i 0).val ∧ (i 0).val < win0_6.index t (0 : Fin 3) * 1 + 1; omega
    | ⟨1, _⟩ => show win0_6.index t (1 : Fin 3) * 128 ≤ (i 1).val ∧ (i 1).val < win0_6.index t (1 : Fin 3) * 128 + 128; omega
    | ⟨2, _⟩ => show win0_6.index t (2 : Fin 3) * 512 ≤ (i 2).val ∧ (i 2).val < win0_6.index t (2 : Fin 3) * 512 + 512; omega

/-- THE ARRAY after the run: `G6` (the flushing blocks tile it). -/
theorem final6 (c : Dev nD) : (dats m 0 c).arrAt 6 cfg0.N = G6 m c :=
  (dats m 0 c).arrAt_eq_of_cover 6 _ (fun t hf => flushed6_eq m c t hf) (fun i => (covered_iff6 i).2 (by
    have h0 : (i 0).val < 3 := (i 0).isLt; have h1 : (i 1).val < 128 := (i 1).isLt; have h2 : (i 2).val < 5120 := (i 2).isLt; omega))

/-! ## Output window 7 -/

/-- The block of the array that holds index `i`, numbered in the order the points write the blocks back (one per point),
    `i`'s place in it, and the point that writes it back. -/
abbrev run7Of (i : S3x160x128.Idx) : ℕ := 10 * ((i 0).val / 1 - 0) + 1 * ((i 1).val / 16 - 0) + 1 * ((i 2).val / 128 - 0)
set_option backward.proofsInPublic true in
abbrev loc7Of (i : S3x160x128.Idx) : S1x16x128.Idx := fun a => match a with
  | ⟨0, _⟩ => ⟨(i 0).val % 1, Nat.mod_lt _ (by decide)⟩
  | ⟨1, _⟩ => ⟨(i 1).val % 16, Nat.mod_lt _ (by decide)⟩
  | ⟨2, _⟩ => ⟨(i 2).val % 128, Nat.mod_lt _ (by decide)⟩
abbrev pt7Of (i : S3x160x128.Idx) : ℕ := run7Of i

/-- WHAT THE ARRAY ENDS HOLDING at index `i` inside the box the flushing blocks fill: output 7's component of the carried
    state's fold at the point that writes `i`'s block back, at `i`'s place in the block. `G7` states the array's contents
    only inside the box. -/
def G7 (c : Dev nD) : Buf (Elt F) ((c : Thread nD τ).loc main_v0_3) := fun i =>
  if h : pt7Of i < cfg0.N then
    (Pipeline.accAt (fun n h => stAt0 m c n h junk0) (stAt0 m c) 0 (pt7Of i) (by omega)).2.2.2.1 (loc7Of i)
  else V m c (Pipeline.arrRef spec0 7) i

/-- The printed index map, decided over the grid: output window 7's block indices stay in the box, and the block number
    read off them is the point's (`t`). -/
theorem idx_facts7 : ∀ t : Fin cfg0.N, 0 ≤ win0_7.index t (0 : Fin 3) ∧ win0_7.index t (0 : Fin 3) ≤ 2
    ∧ 0 ≤ win0_7.index t (1 : Fin 3) ∧ win0_7.index t (1 : Fin 3) ≤ 9
    ∧ 0 ≤ win0_7.index t (2 : Fin 3) ∧ win0_7.index t (2 : Fin 3) ≤ 0
    ∧ 10 * (win0_7.index t (0 : Fin 3) - 0) + 1 * (win0_7.index t (1 : Fin 3) - 0) + 1 * (win0_7.index t (2 : Fin 3) - 0) = t.val :=
  (by decide +kernel : ∀ t : Fin grid0.N, _)

/-- Every block of the box is SOME flushing point's: `onto7Pt`, the point that writes back the block at place `q` of the box. -/
abbrev onto7Pt (q0 : Fin 3) (q1 : Fin 10) (q2 : Fin 1) : Fin grid0.N :=
  ⟨10 * q0.val + 1 * q1.val + 1 * q2.val, lt_of_lt_of_eq (by omega) N_0.symm⟩
theorem idx_onto7 : ∀ (q0 : Fin 3) (q1 : Fin 10) (q2 : Fin 1), ∃ t : Fin cfg0.N, (cfg0.win 7).flush t = true ∧ win0_7.index t = ![q0.val + 0, q1.val + 0, q2.val + 0] :=
  fun q0 q1 q2 => ⟨onto7Pt q0 q1 q2, (by decide +kernel : ∀ (q0 : Fin 3) (q1 : Fin 10) (q2 : Fin 1), win0_7.flush (onto7Pt q0 q1 q2) = true ∧ win0_7.index (onto7Pt q0 q1 q2) = ![q0.val + 0, q1.val + 0, q2.val + 0]) q0 q1 q2⟩

/-- WHAT A FLUSHING POINT `t` WRITES BACK is block `t` of `G7`: output 7's component of the fold up to `t`. -/
theorem flushed7_eq (c : Dev nD) (t : Fin cfg0.N) (hf : (cfg0.win 7).flush t = true) :
    (dats m 0 c).flushed 7 t = ((cfg0.win 7).blk t).view.read (Elt F) (G7 m c) := by
  show (cfg0.win 7).cut (grid0.coords t) ((dats m 0 c).after 7 t) = _
  rw [after0_7, outsAt0_sweep]
  obtain ⟨e0, e1, e2, e3⟩ := idx_facts7 t
  funext y
  have hy0 : (y 0).val < 1 := (y 0).isLt
  have hy1 : (y 1).val < 16 := (y 1).isLt
  have hy2 : (y 2).val < 128 := (y 2).isLt
  have hb0 : (((cfg0.win 7).blk t).view.emb y 0).val = win0_7.index t (0 : Fin 3) * 1 + 1 * (y 0).val := rfl
  have hb1 : (((cfg0.win 7).blk t).view.emb y 1).val = win0_7.index t (1 : Fin 3) * 16 + 1 * (y 1).val := rfl
  have hb2 : (((cfg0.win 7).blk t).view.emb y 2).val = win0_7.index t (2 : Fin 3) * 128 + 1 * (y 2).val := rfl
  have hr : run7Of (((cfg0.win 7).blk t).view.emb y) = t.val := by
    show 10 * ((((cfg0.win 7).blk t).view.emb y 0).val / 1 - 0) + 1 * ((((cfg0.win 7).blk t).view.emb y 1).val / 16 - 0) + 1 * ((((cfg0.win 7).blk t).view.emb y 2).val / 128 - 0) = _
    rw [hb0, hb1, hb2]
    rw [show (win0_7.index t (0 : Fin 3) * 1 + 1 * (y 0).val) / 1 = win0_7.index t (0 : Fin 3) from by omega]; rw [show (win0_7.index t (1 : Fin 3) * 16 + 1 * (y 1).val) / 16 = win0_7.index t (1 : Fin 3) from by omega]; rw [show (win0_7.index t (2 : Fin 3) * 128 + 1 * (y 2).val) / 128 = win0_7.index t (2 : Fin 3) from by omega]
    omega
  have hl : loc7Of (((cfg0.win 7).blk t).view.emb y) = (cfg0.win 7).xinj (grid0.coords t) y := by
    funext a; apply Fin.ext
    match a with
    | ⟨0, _⟩ => show (((cfg0.win 7).blk t).view.emb y 0).val % 1 = (y 0).val; rw [hb0]; omega
    | ⟨1, _⟩ => show (((cfg0.win 7).blk t).view.emb y 1).val % 16 = (y 1).val; rw [hb1]; omega
    | ⟨2, _⟩ => show (((cfg0.win 7).blk t).view.emb y 2).val % 128 = (y 2).val; rw [hb2]; omega
  have hp : pt7Of (((cfg0.win 7).blk t).view.emb y) = t.val := by
    exact hr
  show (Pipeline.accAt (fun n h => stAt0 m c n h junk0) (stAt0 m c) 0 t.val _).2.2.2.1 ((cfg0.win 7).xinj (grid0.coords t) y) = G7 m c (((cfg0.win 7).blk t).view.emb y)
  unfold G7
  rw [dif_pos (by rw [hp]; exact t.isLt), hl, fold0_congr m c _ _ _ _ hp.symm]

/-- An index of the array is in point `t`'s block iff each coordinate is in the block's range on its axis. -/
theorem mem_blk7 (t : Fin cfg0.N) (i : S3x160x128.Idx) :
    i ∈ ((cfg0.win 7).blk t).view.set ↔ ∀ a : Fin 3, win0_7.index t a * S1x16x128.size a ≤ (i a).val ∧ (i a).val < win0_7.index t a * S1x16x128.size a + S1x16x128.size a := by
  show i ∈ ((View.whole main_v0_3).slice (win0_7.rect t)).set ↔ _
  rw [View.set_slice_whole, Rect.mem_set_unit]
  exact Iff.rfl

/-- THE COVERED INDICES: in some flushing point's block iff inside the box those blocks fill. -/
theorem covered_iff7 (i : S3x160x128.Idx) :
    (∃ t : Fin cfg0.N, (cfg0.win 7).flush t = true ∧ i ∈ ((cfg0.win 7).blk t).view.set) ↔ 0 ≤ (i 0).val ∧ (i 0).val < 3 ∧ 0 ≤ (i 1).val ∧ (i 1).val < 160 ∧ 0 ≤ (i 2).val ∧ (i 2).val < 128 := by
  constructor
  · rintro ⟨t, -, hi⟩
    rw [mem_blk7] at hi
    have b0 : win0_7.index t (0 : Fin 3) * 1 ≤ (i 0).val ∧ (i 0).val < win0_7.index t (0 : Fin 3) * 1 + 1 := hi 0
    have b1 : win0_7.index t (1 : Fin 3) * 16 ≤ (i 1).val ∧ (i 1).val < win0_7.index t (1 : Fin 3) * 16 + 16 := hi 1
    have b2 : win0_7.index t (2 : Fin 3) * 128 ≤ (i 2).val ∧ (i 2).val < win0_7.index t (2 : Fin 3) * 128 + 128 := hi 2
    obtain ⟨e0, e1, e2, e3⟩ := idx_facts7 t
    omega
  · intro h
    have hi0 : (i 0).val < 3 := (i 0).isLt
    have hi1 : (i 1).val < 160 := (i 1).isLt
    have hi2 : (i 2).val < 128 := (i 2).isLt
    obtain ⟨t, hft, ht⟩ := idx_onto7 ⟨(i 0).val / 1 - 0, by omega⟩ ⟨(i 1).val / 16 - 0, by omega⟩ ⟨(i 2).val / 128 - 0, by omega⟩
    have q0 : win0_7.index t (0 : Fin 3) = (i 0).val / 1 - 0 + 0 := congrFun ht 0
    have q1 : win0_7.index t (1 : Fin 3) = (i 1).val / 16 - 0 + 0 := congrFun ht 1
    have q2 : win0_7.index t (2 : Fin 3) = (i 2).val / 128 - 0 + 0 := congrFun ht 2
    refine ⟨t, hft, ?_⟩
    rw [mem_blk7]
    intro a
    match a with
    | ⟨0, _⟩ => show win0_7.index t (0 : Fin 3) * 1 ≤ (i 0).val ∧ (i 0).val < win0_7.index t (0 : Fin 3) * 1 + 1; omega
    | ⟨1, _⟩ => show win0_7.index t (1 : Fin 3) * 16 ≤ (i 1).val ∧ (i 1).val < win0_7.index t (1 : Fin 3) * 16 + 16; omega
    | ⟨2, _⟩ => show win0_7.index t (2 : Fin 3) * 128 ≤ (i 2).val ∧ (i 2).val < win0_7.index t (2 : Fin 3) * 128 + 128; omega

/-- THE ARRAY after the run: `G7` (the flushing blocks tile it). -/
theorem final7 (c : Dev nD) : (dats m 0 c).arrAt 7 cfg0.N = G7 m c :=
  (dats m 0 c).arrAt_eq_of_cover 7 _ (fun t hf => flushed7_eq m c t hf) (fun i => (covered_iff7 i).2 (by
    have h0 : (i 0).val < 3 := (i 0).isLt; have h1 : (i 1).val < 160 := (i 1).isLt; have h2 : (i 2).val < 128 := (i 2).isLt; omega))

/-! ## Output window 8 -/

/-- The block of the array that holds index `i`, numbered in the order the points write the blocks back (one per point),
    `i`'s place in it, and the point that writes it back. -/
abbrev run8Of (i : S3x128x5120.Idx) : ℕ := 10 * ((i 0).val / 1 - 0) + 10 * ((i 1).val / 128 - 0) + 1 * ((i 2).val / 512 - 0)
set_option backward.proofsInPublic true in
abbrev loc8Of (i : S3x128x5120.Idx) : S1x128x512.Idx := fun a => match a with
  | ⟨0, _⟩ => ⟨(i 0).val % 1, Nat.mod_lt _ (by decide)⟩
  | ⟨1, _⟩ => ⟨(i 1).val % 128, Nat.mod_lt _ (by decide)⟩
  | ⟨2, _⟩ => ⟨(i 2).val % 512, Nat.mod_lt _ (by decide)⟩
abbrev pt8Of (i : S3x128x5120.Idx) : ℕ := run8Of i

/-- WHAT THE ARRAY ENDS HOLDING at index `i` inside the box the flushing blocks fill: output 8's component of the carried
    state's fold at the point that writes `i`'s block back, at `i`'s place in the block. `G8` states the array's contents
    only inside the box. -/
def G8 (c : Dev nD) : Buf (Elt F) ((c : Thread nD τ).loc main_v0_4) := fun i =>
  if h : pt8Of i < cfg0.N then
    (Pipeline.accAt (fun n h => stAt0 m c n h junk0) (stAt0 m c) 0 (pt8Of i) (by omega)).2.2.2.2.1 (loc8Of i)
  else V m c (Pipeline.arrRef spec0 8) i

/-- The printed index map, decided over the grid: output window 8's block indices stay in the box, and the block number
    read off them is the point's (`t`). -/
theorem idx_facts8 : ∀ t : Fin cfg0.N, 0 ≤ win0_8.index t (0 : Fin 3) ∧ win0_8.index t (0 : Fin 3) ≤ 2
    ∧ 0 ≤ win0_8.index t (1 : Fin 3) ∧ win0_8.index t (1 : Fin 3) ≤ 0
    ∧ 0 ≤ win0_8.index t (2 : Fin 3) ∧ win0_8.index t (2 : Fin 3) ≤ 9
    ∧ 10 * (win0_8.index t (0 : Fin 3) - 0) + 10 * (win0_8.index t (1 : Fin 3) - 0) + 1 * (win0_8.index t (2 : Fin 3) - 0) = t.val :=
  (by decide +kernel : ∀ t : Fin grid0.N, _)

/-- Every block of the box is SOME flushing point's: `onto8Pt`, the point that writes back the block at place `q` of the box. -/
abbrev onto8Pt (q0 : Fin 3) (q1 : Fin 1) (q2 : Fin 10) : Fin grid0.N :=
  ⟨10 * q0.val + 10 * q1.val + 1 * q2.val, lt_of_lt_of_eq (by omega) N_0.symm⟩
theorem idx_onto8 : ∀ (q0 : Fin 3) (q1 : Fin 1) (q2 : Fin 10), ∃ t : Fin cfg0.N, (cfg0.win 8).flush t = true ∧ win0_8.index t = ![q0.val + 0, q1.val + 0, q2.val + 0] :=
  fun q0 q1 q2 => ⟨onto8Pt q0 q1 q2, (by decide +kernel : ∀ (q0 : Fin 3) (q1 : Fin 1) (q2 : Fin 10), win0_8.flush (onto8Pt q0 q1 q2) = true ∧ win0_8.index (onto8Pt q0 q1 q2) = ![q0.val + 0, q1.val + 0, q2.val + 0]) q0 q1 q2⟩

/-- WHAT A FLUSHING POINT `t` WRITES BACK is block `t` of `G8`: output 8's component of the fold up to `t`. -/
theorem flushed8_eq (c : Dev nD) (t : Fin cfg0.N) (hf : (cfg0.win 8).flush t = true) :
    (dats m 0 c).flushed 8 t = ((cfg0.win 8).blk t).view.read (Elt F) (G8 m c) := by
  show (cfg0.win 8).cut (grid0.coords t) ((dats m 0 c).after 8 t) = _
  rw [after0_8, outsAt0_sweep]
  obtain ⟨e0, e1, e2, e3⟩ := idx_facts8 t
  funext y
  have hy0 : (y 0).val < 1 := (y 0).isLt
  have hy1 : (y 1).val < 128 := (y 1).isLt
  have hy2 : (y 2).val < 512 := (y 2).isLt
  have hb0 : (((cfg0.win 8).blk t).view.emb y 0).val = win0_8.index t (0 : Fin 3) * 1 + 1 * (y 0).val := rfl
  have hb1 : (((cfg0.win 8).blk t).view.emb y 1).val = win0_8.index t (1 : Fin 3) * 128 + 1 * (y 1).val := rfl
  have hb2 : (((cfg0.win 8).blk t).view.emb y 2).val = win0_8.index t (2 : Fin 3) * 512 + 1 * (y 2).val := rfl
  have hr : run8Of (((cfg0.win 8).blk t).view.emb y) = t.val := by
    show 10 * ((((cfg0.win 8).blk t).view.emb y 0).val / 1 - 0) + 10 * ((((cfg0.win 8).blk t).view.emb y 1).val / 128 - 0) + 1 * ((((cfg0.win 8).blk t).view.emb y 2).val / 512 - 0) = _
    rw [hb0, hb1, hb2]
    rw [show (win0_8.index t (0 : Fin 3) * 1 + 1 * (y 0).val) / 1 = win0_8.index t (0 : Fin 3) from by omega]; rw [show (win0_8.index t (1 : Fin 3) * 128 + 1 * (y 1).val) / 128 = win0_8.index t (1 : Fin 3) from by omega]; rw [show (win0_8.index t (2 : Fin 3) * 512 + 1 * (y 2).val) / 512 = win0_8.index t (2 : Fin 3) from by omega]
    omega
  have hl : loc8Of (((cfg0.win 8).blk t).view.emb y) = (cfg0.win 8).xinj (grid0.coords t) y := by
    funext a; apply Fin.ext
    match a with
    | ⟨0, _⟩ => show (((cfg0.win 8).blk t).view.emb y 0).val % 1 = (y 0).val; rw [hb0]; omega
    | ⟨1, _⟩ => show (((cfg0.win 8).blk t).view.emb y 1).val % 128 = (y 1).val; rw [hb1]; omega
    | ⟨2, _⟩ => show (((cfg0.win 8).blk t).view.emb y 2).val % 512 = (y 2).val; rw [hb2]; omega
  have hp : pt8Of (((cfg0.win 8).blk t).view.emb y) = t.val := by
    exact hr
  show (Pipeline.accAt (fun n h => stAt0 m c n h junk0) (stAt0 m c) 0 t.val _).2.2.2.2.1 ((cfg0.win 8).xinj (grid0.coords t) y) = G8 m c (((cfg0.win 8).blk t).view.emb y)
  unfold G8
  rw [dif_pos (by rw [hp]; exact t.isLt), hl, fold0_congr m c _ _ _ _ hp.symm]

/-- An index of the array is in point `t`'s block iff each coordinate is in the block's range on its axis. -/
theorem mem_blk8 (t : Fin cfg0.N) (i : S3x128x5120.Idx) :
    i ∈ ((cfg0.win 8).blk t).view.set ↔ ∀ a : Fin 3, win0_8.index t a * S1x128x512.size a ≤ (i a).val ∧ (i a).val < win0_8.index t a * S1x128x512.size a + S1x128x512.size a := by
  show i ∈ ((View.whole main_v0_4).slice (win0_8.rect t)).set ↔ _
  rw [View.set_slice_whole, Rect.mem_set_unit]
  exact Iff.rfl

/-- THE COVERED INDICES: in some flushing point's block iff inside the box those blocks fill. -/
theorem covered_iff8 (i : S3x128x5120.Idx) :
    (∃ t : Fin cfg0.N, (cfg0.win 8).flush t = true ∧ i ∈ ((cfg0.win 8).blk t).view.set) ↔ 0 ≤ (i 0).val ∧ (i 0).val < 3 ∧ 0 ≤ (i 1).val ∧ (i 1).val < 128 ∧ 0 ≤ (i 2).val ∧ (i 2).val < 5120 := by
  constructor
  · rintro ⟨t, -, hi⟩
    rw [mem_blk8] at hi
    have b0 : win0_8.index t (0 : Fin 3) * 1 ≤ (i 0).val ∧ (i 0).val < win0_8.index t (0 : Fin 3) * 1 + 1 := hi 0
    have b1 : win0_8.index t (1 : Fin 3) * 128 ≤ (i 1).val ∧ (i 1).val < win0_8.index t (1 : Fin 3) * 128 + 128 := hi 1
    have b2 : win0_8.index t (2 : Fin 3) * 512 ≤ (i 2).val ∧ (i 2).val < win0_8.index t (2 : Fin 3) * 512 + 512 := hi 2
    obtain ⟨e0, e1, e2, e3⟩ := idx_facts8 t
    omega
  · intro h
    have hi0 : (i 0).val < 3 := (i 0).isLt
    have hi1 : (i 1).val < 128 := (i 1).isLt
    have hi2 : (i 2).val < 5120 := (i 2).isLt
    obtain ⟨t, hft, ht⟩ := idx_onto8 ⟨(i 0).val / 1 - 0, by omega⟩ ⟨(i 1).val / 128 - 0, by omega⟩ ⟨(i 2).val / 512 - 0, by omega⟩
    have q0 : win0_8.index t (0 : Fin 3) = (i 0).val / 1 - 0 + 0 := congrFun ht 0
    have q1 : win0_8.index t (1 : Fin 3) = (i 1).val / 128 - 0 + 0 := congrFun ht 1
    have q2 : win0_8.index t (2 : Fin 3) = (i 2).val / 512 - 0 + 0 := congrFun ht 2
    refine ⟨t, hft, ?_⟩
    rw [mem_blk8]
    intro a
    match a with
    | ⟨0, _⟩ => show win0_8.index t (0 : Fin 3) * 1 ≤ (i 0).val ∧ (i 0).val < win0_8.index t (0 : Fin 3) * 1 + 1; omega
    | ⟨1, _⟩ => show win0_8.index t (1 : Fin 3) * 128 ≤ (i 1).val ∧ (i 1).val < win0_8.index t (1 : Fin 3) * 128 + 128; omega
    | ⟨2, _⟩ => show win0_8.index t (2 : Fin 3) * 512 ≤ (i 2).val ∧ (i 2).val < win0_8.index t (2 : Fin 3) * 512 + 512; omega

/-- THE ARRAY after the run: `G8` (the flushing blocks tile it). -/
theorem final8 (c : Dev nD) : (dats m 0 c).arrAt 8 cfg0.N = G8 m c :=
  (dats m 0 c).arrAt_eq_of_cover 8 _ (fun t hf => flushed8_eq m c t hf) (fun i => (covered_iff8 i).2 (by
    have h0 : (i 0).val < 3 := (i 0).isLt; have h1 : (i 1).val < 128 := (i 1).isLt; have h2 : (i 2).val < 5120 := (i 2).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v0_0) = G4 m c
      ∧ r.2.mem ((c : Thread nD τ).loc main_v0_1) = G5 m c
      ∧ r.2.mem ((c : Thread nD τ).loc main_v0_2) = G6 m c
      ∧ r.2.mem ((c : Thread nD τ).loc main_v0_3) = G7 m c
      ∧ r.2.mem ((c : Thread nD τ).loc main_v0_4) = G8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post4 m r h c).trans (final4 m c),
      (post5 m r h c).trans (final5 m c),
      (post6 m r h c).trans (final6 m c),
      (post7 m r h c).trans (final7 m c),
      (post8 m r h c).trans (final8 m c),
      kept_main_arg0 m r h c,
      kept_main_arg1 m r h c,
      kept_main_arg2 m r h c,
      kept_main_arg3 m r h c⟩)
    (run_main m ρ)

end Cert.ResidualIdeal.Value

end
-- ==== Proof.Scale.lean ====
/-
  The power-of-two scale of a group, over the extended reals.

  Both programs take `v`, a group's largest magnitude over 448, and want the smallest power of two above it. One counts how
  many of the powers `2 ^ (j - 126)`, `j < 246`, lie at or below `v`. The other finds the same count by bisection, each step
  comparing `v` with the number whose exponent field is the candidate count. The count less 126 (and 0 for a count of 0) is
  the exponent; the one then takes the power of two of it, the other writes the exponent field.
-/
module

public import Idealize.ShloMosaic.PureOps.Ideal
public import Idealize.ShloMosaic.Lib.WordSum
public import Mathlib.Data.EReal.Operations

@[expose] public section

set_option maxRecDepth 16384

noncomputable section

open Idealize.ShloMosaic

namespace Cert.Scale

/-- The powers of two the count runs over. -/
def pow (j : ℕ) : EReal := (((2 : ℝ) ^ ((j : ℤ) - 126) : ℝ) : EReal)

/-- How many of the powers lie at or below `v`. -/
def count (v : EReal) : ℕ := ((Finset.range 246).filter fun j => pow j ≤ v).card

theorem count_le (v : EReal) : count v ≤ 246 := by
  unfold count
  exact (Finset.card_filter_le _ _).trans (by simp)

theorem pow_mono {i j : ℕ} (h : i ≤ j) : pow i ≤ pow j := by
  unfold pow
  exact EReal.coe_le_coe_iff.mpr (zpow_le_zpow_right₀ (by norm_num) (by omega))

theorem pow_le_iff (v : EReal) (j : ℕ) (hj : j < 246) : pow j ≤ v ↔ j < count v := by
  unfold count
  constructor
  · intro h
    have hs : Finset.range (j + 1) ⊆ (Finset.range 246).filter fun j => pow j ≤ v := by
      intro i hi
      rw [Finset.mem_range] at hi
      rw [Finset.mem_filter, Finset.mem_range]
      exact ⟨by omega, (pow_mono (by omega)).trans h⟩
    have := Finset.card_le_card hs
    rw [Finset.card_range] at this
    omega
  · intro h
    by_contra hn
    have hs : ((Finset.range 246).filter fun j => pow j ≤ v) ⊆ Finset.range j := by
      intro i hi
      rw [Finset.mem_filter] at hi
      rw [Finset.mem_range]
      by_contra hi'
      exact hn ((pow_mono (by omega)).trans hi.2)
    have := Finset.card_le_card hs
    rw [Finset.card_range] at this
    omega

/-- A word whose exponent field is `n` and whose other bits are zero. -/
theorem ofBits_field (n : ℕ) (h1 : 1 ≤ n) (h2 : n ≤ 254) :
    (FloatOps.ofBits (F := Ideal) .f32 (IntOp.shli .vector (BitVec.ofNat 32 n) 23#32) : EReal) = (((2 : ℝ) ^ ((n : ℤ) - 127) : ℝ) : EReal) := by
  have hn : IntOp.shli .vector (BitVec.ofNat 32 n) 23#32 = BitVec.ofNat 32 (n * 8388608) := by
    apply BitVec.eq_of_toNat_eq
    have : IntOp.shli .vector (BitVec.ofNat 32 n) 23#32 = (BitVec.ofNat 32 n) <<< (23 : ℕ) := rfl
    rw [this]
    simp [BitVec.toNat_shiftLeft, Nat.shiftLeft_eq]
  rw [hn]
  show Ideal.ieee 8 23 (BitVec.ofNat 32 (n * 8388608)) = _
  have ht : (BitVec.ofNat 32 (n * 8388608)).toNat = n * 8388608 := by
    rw [BitVec.toNat_ofNat]; exact Nat.mod_eq_of_lt (by omega)
  have e1 : ((BitVec.ofNat 32 (n * 8388608)).extractLsb' (8 + 23) 1 == 1#1) = false := by
    rw [beq_eq_false_iff_ne]
    intro h
    have := congrArg BitVec.toNat h
    rw [BitVec.extractLsb'_toNat, ht, Nat.shiftRight_eq_div_pow] at this
    norm_num at this
    omega
  have e2 : ((BitVec.ofNat 32 (n * 8388608)).extractLsb' 23 8).toNat = n := by
    rw [BitVec.extractLsb'_toNat, ht, Nat.shiftRight_eq_div_pow]
    norm_num
    omega
  have e3 : ((BitVec.ofNat 32 (n * 8388608)).extractLsb' 0 23).toNat = 0 := by
    rw [BitVec.extractLsb'_toNat, ht, Nat.shiftRight_eq_div_pow]
    norm_num
  unfold Ideal.ieee
  simp only [e1, e2, e3]
  rw [if_neg (by omega), if_neg (by omega)]
  have : ((if (false : Bool) = true then (-1 : ℝ) else 1) * ((2 ^ 23 + 0 : ℕ) : ℝ) * (2 : ℝ) ^ ((n : ℤ) - (2 ^ (8 - 1) - 1) - ((23 : ℕ) : ℤ)))
      = (2 : ℝ) ^ ((n : ℤ) - 127) := by
    rw [show ((n : ℤ) - (2 ^ (8 - 1) - 1) - ((23 : ℕ) : ℤ)) = ((n : ℤ) - 127) + (-23) by norm_num; ring, zpow_add₀ (by norm_num : (2 : ℝ) ≠ 0)]
    norm_num
    ring
  exact congrArg _ this

/-- One step of the bisection: is `v` at least the number of exponent field `f + s`? -/
def up (v : EReal) (s f : BitVec 32) : BitVec 32 :=
  Scalar.select (FloatOps.cmpf (F := Ideal) (φ := .f32) .oge v (FloatOps.ofBits .f32 (IntOp.shli .vector (IntOp.addi f s) 23#32))) (IntOp.addi f s) f

/-- The bisection. -/
def bisect (v : EReal) : BitVec 32 :=
  up v 1#32 (up v 2#32 (up v 4#32 (up v 8#32 (up v 16#32 (up v 32#32 (up v 64#32 (up v 119#32 0#32)))))))

/-- The same step on a count. -/
def upN (c s f : ℕ) : ℕ := if f + s ≤ c then f + s else f

theorem up_eq (v : EReal) (s f : ℕ) (h1 : 1 ≤ f + s) (h2 : f + s ≤ 246) :
    up v (BitVec.ofNat 32 s) (BitVec.ofNat 32 f) = BitVec.ofNat 32 (upN (count v) s f) := by
  have ha : IntOp.addi (BitVec.ofNat 32 f) (BitVec.ofNat 32 s) = BitVec.ofNat 32 (f + s) := (BitVec.ofNat_add f s).symm
  unfold up upN
  rw [ha, ofBits_field _ h1 (by omega)]
  have hp : (((2 : ℝ) ^ (((f + s : ℕ) : ℤ) - 127) : ℝ) : EReal) = pow (f + s - 1) := by
    unfold pow
    rw [show ((f + s - 1 : ℕ) : ℤ) - 126 = ((f + s : ℕ) : ℤ) - 127 by omega]
  rw [hp]
  have hc := pow_le_iff v (f + s - 1) (by omega)
  show Scalar.select (BitVec.ofBool (decide (pow (f + s - 1) ≤ v))) _ _ = _
  unfold Scalar.select
  by_cases h : f + s ≤ count v
  · rw [if_pos h, decide_eq_true (hc.mpr (by omega))]; rfl
  · rw [if_neg h, decide_eq_false (fun h' => h (by have := hc.mp h'; omega))]; rfl

theorem upN_le (c s f : ℕ) : upN c s f ≤ f + s := by unfold upN; split <;> omega

theorem bisectN (c : ℕ) (h : c ≤ 246) : upN c 1 (upN c 2 (upN c 4 (upN c 8 (upN c 16 (upN c 32 (upN c 64 (upN c 119 0))))))) = c := by
  have : ∀ c : Fin 247, upN c 1 (upN c 2 (upN c 4 (upN c 8 (upN c 16 (upN c 32 (upN c 64 (upN c 119 0))))))) = c := by decide +kernel
  exact this ⟨c, by omega⟩

/-- The bisection finds the count. -/
theorem bisect_eq (v : EReal) : bisect v = BitVec.ofNat 32 (count v) := by
  unfold bisect
  have l1 := upN_le (count v) 119 0
  have l2 := upN_le (count v) 64 (upN (count v) 119 0)
  have l3 := upN_le (count v) 32 (upN (count v) 64 (upN (count v) 119 0))
  have l4 := upN_le (count v) 16 (upN (count v) 32 (upN (count v) 64 (upN (count v) 119 0)))
  have l5 := upN_le (count v) 8 (upN (count v) 16 (upN (count v) 32 (upN (count v) 64 (upN (count v) 119 0))))
  have l6 := upN_le (count v) 4 (upN (count v) 8 (upN (count v) 16 (upN (count v) 32 (upN (count v) 64 (upN (count v) 119 0)))))
  have l7 := upN_le (count v) 2 (upN (count v) 4 (upN (count v) 8 (upN (count v) 16 (upN (count v) 32 (upN (count v) 64 (upN (count v) 119 0))))))
  rw [up_eq v 119 0 (by omega) (by omega), up_eq v 64 _ (by omega) (by omega), up_eq v 32 _ (by omega) (by omega), up_eq v 16 _ (by omega) (by omega),
    up_eq v 8 _ (by omega) (by omega), up_eq v 4 _ (by omega) (by omega), up_eq v 2 _ (by omega) (by omega), up_eq v 1 _ (by omega) (by omega),
    bisectN _ (count_le v)]

/-- The exponent for a count. -/
def expOf (f : BitVec 32) : BitVec 32 := Scalar.select (IntOp.cmpi .eq f 0#32) 0#32 (IntOp.subi f 126#32)

/-- The exponent of `v`'s scale. -/
def expo (v : EReal) : ℤ := if count v = 0 then 0 else (count v : ℤ) - 126

theorem expOf_toInt (c : ℕ) (h : c ≤ 246) : (expOf (BitVec.ofNat 32 c)).toInt = if c = 0 then 0 else (c : ℤ) - 126 := by
  have : ∀ c : Fin 247, (expOf (BitVec.ofNat 32 c.val)).toInt = if c.val = 0 then 0 else (c.val : ℤ) - 126 := by decide +kernel
  exact this ⟨c, by omega⟩

/-- The scale of `v`, and what a group of that scale is multiplied by. -/
def scale (v : EReal) : EReal := (((2 : ℝ) ^ (expo v) : ℝ) : EReal)
def inv (v : EReal) : EReal := (((2 : ℝ) ^ (-expo v) : ℝ) : EReal)

theorem plus_word (c : ℕ) (h : c ≤ 246) :
    IntOp.addi (expOf (BitVec.ofNat 32 c)) 127#32 = BitVec.ofNat 32 (if c = 0 then 127 else c + 1) := by
  have : ∀ c : Fin 247, IntOp.addi (expOf (BitVec.ofNat 32 c.val)) 127#32 = BitVec.ofNat 32 (if c.val = 0 then 127 else c.val + 1) := by decide +kernel
  exact this ⟨c, by omega⟩

theorem minus_word (c : ℕ) (h : c ≤ 246) :
    IntOp.addi (IntOp.subi 0#32 (expOf (BitVec.ofNat 32 c))) 127#32 = BitVec.ofNat 32 (if c = 0 then 127 else 253 - c) := by
  have : ∀ c : Fin 247, IntOp.addi (IntOp.subi 0#32 (expOf (BitVec.ofNat 32 c.val))) 127#32 = BitVec.ofNat 32 (if c.val = 0 then 127 else 253 - c.val) := by decide +kernel
  exact this ⟨c, by omega⟩

/-- The scale by its exponent field. -/
theorem scale_field (v : EReal) :
    (FloatOps.ofBits (F := Ideal) .f32 (IntOp.shli .vector (IntOp.addi (expOf (bisect v)) 127#32) 23#32) : EReal) = scale v := by
  have hc := count_le v
  rw [bisect_eq, plus_word _ hc]
  unfold scale expo
  by_cases h : count v = 0
  · rw [if_pos h, if_pos h, ofBits_field _ (by omega) (by omega)]; norm_num
  · rw [if_neg h, if_neg h, ofBits_field _ (by omega) (by omega)]
    exact congrArg (fun e : ℤ => (((2 : ℝ) ^ e : ℝ) : EReal)) (by push_cast; omega)

/-- The inverse by its exponent field. -/
theorem inv_field (v : EReal) :
    (FloatOps.ofBits (F := Ideal) .f32 (IntOp.shli .vector (IntOp.addi (IntOp.subi 0#32 (expOf (bisect v))) 127#32) 23#32) : EReal) = inv v := by
  have hc := count_le v
  rw [bisect_eq, minus_word _ hc]
  unfold inv expo
  by_cases h : count v = 0
  · rw [if_pos h, if_pos h, ofBits_field _ (by omega) (by omega)]; norm_num
  · rw [if_neg h, if_neg h, ofBits_field _ (by omega) (by omega)]
    exact congrArg (fun e : ℤ => (((2 : ℝ) ^ e : ℝ) : EReal)) (by push_cast; omega)

theorem exp2_int (e : ℤ) : Ideal.exp2 (((e : ℝ) : ℝ) : EReal) = (((2 : ℝ) ^ e : ℝ) : EReal) := by
  rw [Ideal.exp2_coe]
  exact congrArg _ (Real.rpow_intCast 2 e)

/-- The scale as a power of two of the exponent. -/
theorem scale_exp2 (v : EReal) : Ideal.exp2 ((((expOf (BitVec.ofNat 32 (count v))).toInt : ℝ) : ℝ) : EReal) = scale v := by
  rw [expOf_toInt _ (count_le v)]
  exact exp2_int _

theorem inv_exp2 (v : EReal) : Ideal.exp2 ((0 : EReal) - ((((expOf (BitVec.ofNat 32 (count v))).toInt : ℝ) : ℝ) : EReal)) = inv v := by
  rw [expOf_toInt _ (count_le v), zero_sub, ← EReal.coe_neg, ← Int.cast_neg]
  exact exp2_int _

theorem ofBits_126 : (Ideal.ofBits .f32 0x42FC0000#32 : EReal) = ((126 : ℝ) : EReal) := by
  simp [Ideal.ofBits, Ideal.ieee]
  rw [← EReal.coe_mul]
  norm_num

/-- The power the count compares with. -/
theorem pow_exp2 (j : ℕ) (hj : j < 246) :
    Ideal.exp2 (((((BitVec.ofNat 32 j).toInt : ℝ) : ℝ) : EReal) - Ideal.ofBits .f32 0x42FC0000#32) = pow j := by
  have ht : (BitVec.ofNat 32 j).toInt = (j : ℤ) := by
    have : ∀ j : Fin 246, (BitVec.ofNat 32 j.val).toInt = (j.val : ℤ) := by decide +kernel
    exact this ⟨j, hj⟩
  rw [ht, ofBits_126, ← EReal.coe_sub]
  have : (((j : ℤ) : ℝ) - 126) = (((j : ℤ) - 126 : ℤ) : ℝ) := by push_cast; ring
  rw [this]
  exact exp2_int _

/-- The count as a sum of words, one for each power at or below `v`. -/
theorem count_word (v : EReal) (g : Fin 246 → BitVec 32) (h : ∀ j, g j = if pow j.val ≤ v then 1#32 else 0#32) :
    Finset.univ.fold IntOp.addi 0#32 g = BitVec.ofNat 32 (count v) := by
  have hs : ∀ s : Finset (Fin 246), s.fold IntOp.addi 0#32 g = BitVec.ofNat 32 ((s.filter fun j => pow j.val ≤ v).card) := by
    classical
    intro s
    induction s using Finset.induction_on with
    | empty => rfl
    | insert a s ha ih =>
      rw [Finset.fold_insert ha, ih, h a, Finset.filter_insert]
      by_cases hp : pow a.val ≤ v
      · rw [if_pos hp, if_pos hp, Finset.card_insert_of_notMem (by simp [ha])]
        rw [Nat.add_comm, BitVec.ofNat_add]; rfl
      · rw [if_neg hp, if_neg hp]
        show 0#32 + _ = _
        rw [BitVec.zero_add]
  rw [hs]
  congr 1
  unfold count
  refine Finset.card_bij (fun j _ => j.val) ?_ ?_ ?_
  · intro a ha
    rw [Finset.mem_filter] at ha ⊢
    exact ⟨Finset.mem_range.mpr a.isLt, ha.2⟩
  · intro a _ b _ hab
    exact Fin.ext hab
  · intro b hb
    rw [Finset.mem_filter, Finset.mem_range] at hb
    exact ⟨⟨b, hb.1⟩, by rw [Finset.mem_filter]; exact ⟨Finset.mem_univ _, hb.2⟩, rfl⟩

/-- A code: the value over the scale, clipped. -/
def code (h v : EReal) : EReal := min (Ideal.ofBits .f32 0x43E00000#32) (max (Ideal.ofBits .f32 0xC3E00000#32) (h * inv v))
/-- The gated residual. -/
def gated (x z : EReal) : EReal := x + z * Ideal.logistic z
/-- The magnitude. -/
def mag (x : EReal) : EReal := max x (-x)
/-- 1 / 448, as written. -/
abbrev c448 : EReal := Ideal.ofBits .f32 0x3B124925#32

theorem ofBits_neg_inf : Ideal.ofBits FTy.f32 0xFF800000#32 = ⊥ := by
  unfold Ideal.ofBits
  decide

/-- The largest magnitude, as a fold from minus infinity. -/
theorem fold_mag {ι : Type} (s : Finset ι) (f : ι → EReal) :
    s.fold max (Ideal.ofBits .f32 0xFF800000#32) (fun x => FloatOps.absf (F := Ideal) (φ := .f32) (f x)) = s.sup fun x => mag (f x) := by
  rw [ofBits_neg_inf]
  rfl

end Cert.Scale

end
-- ==== Proof.ResStep.lean ====
/-
  The residual block's arithmetic on one chunk of 128 columns, as the kernel writes it: the affine map and the gated
  residual, the largest magnitude of each group of 32 lanes by five rotations and a gather, the power-of-two scale by
  bisection, the codes, and the packing of a chunk's four scales into four lanes.
-/
module

public import proofs.«01_k».proof.Proof.Gen.ResidualIdeal.Skeleton
public import proofs.«01_k».proof.Proof.Scale
public import Idealize.ShloMosaic.Lib.Pipeline.Value
public import Idealize.ShloMosaic.Lib.Pointwise
public import Idealize.ShloMosaic.Lib.KernelVsHost
public import Idealize.ShloMosaic.Lib.Tactic

@[expose] public section

set_option maxRecDepth 16384

noncomputable section

open Idealize.ShloMosaic Idealize.ShloMosaic.TcCoe Idealize.SL.Sem

namespace Cert.ResidualIdeal.Value

open Cert.ResidualIdeal Cert.ResidualIdeal.Gen
open Cert.Scale (scale inv code gated mag c448)

/-! ## The vector functions -/

/-- One step of the bisection, on all lanes. -/
def vup (v : FVec Ideal S128x128 .f32) (s : BitVec 32) (f : IVec S128x128 32) : IVec S128x128 32 :=
  select (cmpf .oge v (bitcastToFloat .f32 (shli (addi f (broadcast S128x128 s)) (broadcast S128x128 23#32)))) (addi f (broadcast S128x128 s)) f

/-- The bisection. -/
def vbisect (v : FVec Ideal S128x128 .f32) : IVec S128x128 32 :=
  vup v 1#32 (vup v 2#32 (vup v 4#32 (vup v 8#32 (vup v 16#32 (vup v 32#32 (vup v 64#32 (vup v 119#32 (broadcast S128x128 0#32))))))))

/-- The exponent. -/
def vexpo (v : FVec Ideal S128x128 .f32) : IVec S128x128 32 :=
  select (cmpi .eq (vbisect v) (broadcast S128x128 0#32)) (broadcast S128x128 0#32) (subi (vbisect v) (broadcast S128x128 126#32))

/-- The scale, and its inverse. -/
def vscale (v : FVec Ideal S128x128 .f32) : FVec Ideal S128x128 .f32 :=
  bitcastToFloat .f32 (shli (addi (vexpo v) (broadcast S128x128 127#32)) (broadcast S128x128 23#32))
def vinv (v : FVec Ideal S128x128 .f32) : FVec Ideal S128x128 .f32 :=
  bitcastToFloat .f32 (shli (addi (subi (broadcast S128x128 0#32) (vexpo v)) (broadcast S128x128 127#32)) (broadcast S128x128 23#32))

/-- The codes of `h` under the scale of `v`. -/
def vcodes (h v : FVec Ideal S128x128 .f32) : FVec Ideal S128x128 .fp8e4m3 :=
  truncf .fp8e4m3 (minimumf (broadcast S128x128 (Scalar.ofBits .f32 0x43E00000#32)) (maximumf (broadcast S128x128 (Scalar.ofBits .f32 0xC3E00000#32)) (mulf h (vinv v)))) bitsLt_fp8e4m3_f32

/-- The row of three for a part. -/
def vsel (p : BitVec 32) (s : Vec Ideal S3x128 .f32) : FVec Ideal S1x128 .f32 :=
  Scalar.select (Scalar.cmpi .eq p 0#32) (extractStridedSlice S1x128 ![0, 0] s slices_S3x128_o0_0_S1x128)
    (Scalar.select (Scalar.cmpi .eq p 1#32) (extractStridedSlice S1x128 ![1, 0] s slices_S3x128_o1_0_S1x128) (extractStridedSlice S1x128 ![2, 0] s slices_S3x128_o2_0_S1x128))

/-- The affine map and the gated residual. -/
def vaff (p : BitVec 32) (z xs : FVec Ideal S128x128 .f32) (s b : Vec Ideal S3x128 .f32) : FVec Ideal S128x128 .f32 :=
  addf (mulf (mulf z xs) (broadcastTo S128x128 (vsel p s) broadcasts_S1x128_S128x128)) (broadcastTo S128x128 (vsel p b) broadcasts_S1x128_S128x128)
def vres (p : BitVec 32) (z xs : FVec Ideal S128x128 .f32) (s b : Vec Ideal S3x128 .f32) (x : Vec Ideal S128x128 .bf16) : FVec Ideal S128x128 .f32 :=
  addf (extf .f32 x bitsLt_bf16_f32) (mulf (vaff p z xs s b) (logistic (vaff p z xs s b)))

/-- The larger of a lane and the lane `128 - n` further. -/
def vrot (n : BitVec 32) (h : FVec Ideal S128x128 .f32) : FVec Ideal S128x128 .f32 :=
  maximumf h (dynamicRotate 1 n none h rotates_S128x128_d1)

/-- A gather along the lanes at a word, a negative one counted from the end. -/
def vgather (w : IVec S128x128 32) (h : FVec Ideal S128x128 .f32) : FVec Ideal S128x128 .f32 :=
  dynamicGather 1 h (shapeCast S128x128 (shapeCast S128x128x1 (select (cmpi .slt w (broadcast S128x128 0#32)) (addi w (broadcast S128x128 128#32)) w)
    shapeCasts_S128x128_S128x128x1) shapeCasts_S128x128x1_S128x128)

/-- The largest magnitude of each lane's group, over 448. -/
def vamax (h : FVec Ideal S128x128 .f32) : FVec Ideal S128x128 .f32 :=
  mulf (vgather k0_pay58 (vrot 112#32 (vrot 120#32 (vrot 124#32 (vrot 126#32 (vrot 127#32 (absf h))))))) (broadcast S128x128 (Scalar.ofBits .f32 0x3B124925#32))

/-- Four scales of a chunk put into the lanes from `a` to `b`. -/
def vpack (a b : BitVec 32) (prev sc : FVec Ideal S128x128 .f32) : FVec Ideal S128x128 .f32 :=
  select (andi (cmpi .sge (iota .tc S128x128 32 [1] iota_S128x128_d1_w32) (broadcast S128x128 a)) (cmpi .slt (iota .tc S128x128 32 [1] iota_S128x128_d1_w32) (broadcast S128x128 b)))
    (vgather k0_pay59 sc) prev

/-! ## Lane by lane -/

theorem vscale_apply (v : FVec Ideal S128x128 .f32) (y : S128x128.Idx) : (vscale v y : EReal) = scale (v y) :=
  Cert.Scale.scale_field (v y)

theorem vinv_apply (v : FVec Ideal S128x128 .f32) (y : S128x128.Idx) : (vinv v y : EReal) = inv (v y) :=
  Cert.Scale.inv_field (v y)

theorem vcodes_apply (h v : FVec Ideal S128x128 .f32) (y : S128x128.Idx) : (vcodes h v y : EReal) = code (h y) (v y) := by
  unfold code
  rw [← vinv_apply]
  rfl

/-- The row of a part. -/
theorem vsel_apply (k : Fin 3) (s : Vec Ideal S3x128 .f32) (l : Fin 128) :
    (vsel (BitVec.ofNat 32 k.val) s (ix2 0 l) : EReal) = s (ix2 k l) := by
  unfold vsel
  fin_cases k
  · rw [show Scalar.cmpi .eq (BitVec.ofNat 32 ((⟨0, by decide⟩ : Fin 3)).val) 0#32 = 1#1 from by decide]
    show (extractStridedSlice S1x128 ![0, 0] s slices_S3x128_o0_0_S1x128 (ix2 0 l) : EReal) = _
    pointwise
  · rw [show Scalar.cmpi .eq (BitVec.ofNat 32 ((⟨1, by decide⟩ : Fin 3)).val) 0#32 = 0#1 from by decide,
      show Scalar.cmpi .eq (BitVec.ofNat 32 ((⟨1, by decide⟩ : Fin 3)).val) 1#32 = 1#1 from by decide]
    show (extractStridedSlice S1x128 ![1, 0] s slices_S3x128_o1_0_S1x128 (ix2 0 l) : EReal) = _
    pointwise
  · rw [show Scalar.cmpi .eq (BitVec.ofNat 32 ((⟨2, by decide⟩ : Fin 3)).val) 0#32 = 0#1 from by decide,
      show Scalar.cmpi .eq (BitVec.ofNat 32 ((⟨2, by decide⟩ : Fin 3)).val) 1#32 = 0#1 from by decide]
    show (extractStridedSlice S1x128 ![2, 0] s slices_S3x128_o2_0_S1x128 (ix2 0 l) : EReal) = _
    pointwise

theorem row_apply (r : FVec Ideal S1x128 .f32) (b l : Fin 128) :
    (broadcastTo S128x128 r broadcasts_S1x128_S128x128 (ix2 b l) : EReal) = r (ix2 0 l) := by
  pointwise

theorem vaff_apply (k : Fin 3) (z xs : FVec Ideal S128x128 .f32) (s c : Vec Ideal S3x128 .f32) (b l : Fin 128) :
    (vaff (BitVec.ofNat 32 k.val) z xs s c (ix2 b l) : EReal)
      = (z (ix2 b l) : EReal) * (xs (ix2 b l) : EReal) * (s (ix2 k l) : EReal) + (c (ix2 k l) : EReal) := by
  show (z (ix2 b l) : EReal) * (xs (ix2 b l) : EReal) * (broadcastTo S128x128 (vsel (BitVec.ofNat 32 k.val) s) broadcasts_S1x128_S128x128 (ix2 b l) : EReal)
    + (broadcastTo S128x128 (vsel (BitVec.ofNat 32 k.val) c) broadcasts_S1x128_S128x128 (ix2 b l) : EReal) = _
  rw [row_apply, row_apply, vsel_apply, vsel_apply]

theorem vres_apply (k : Fin 3) (z xs : FVec Ideal S128x128 .f32) (s c : Vec Ideal S3x128 .f32) (x : Vec Ideal S128x128 .bf16) (b l : Fin 128) :
    (vres (BitVec.ofNat 32 k.val) z xs s c x (ix2 b l) : EReal)
      = gated (x (ix2 b l)) ((z (ix2 b l) : EReal) * (xs (ix2 b l) : EReal) * (s (ix2 k l) : EReal) + (c (ix2 k l) : EReal)) := by
  rw [← vaff_apply]
  rfl

theorem gather_apply (w : IVec S128x128 32) (h : FVec Ideal S128x128 .f32) (b l : Fin 128) (n : Fin 128)
    (hn : w (ix2 b l) = BitVec.ofNat 32 n.val) : (vgather w h (ix2 b l) : EReal) = h (ix2 b n) := by
  have hw : ∀ n : Fin 128, (Scalar.select (Scalar.cmpi .slt (BitVec.ofNat 32 n.val) 0#32) (BitVec.ofNat 32 n.val + 128#32) (BitVec.ofNat 32 n.val)).toNat % 128 = n.val := by
    decide +kernel
  unfold vgather
  rw [shapeCast_shapeCast, dynamicGather_apply]
  congr 1
  funext a
  apply Fin.ext
  match a with
  | ⟨0, _⟩ => rfl
  | ⟨1, _⟩ =>
    show (Scalar.select (Scalar.cmpi .slt (w (ix2 b l)) 0#32) (w (ix2 b l) + 128#32) (w (ix2 b l))).toNat % 128 = n.val
    rw [hn]
    exact hw n

theorem base_lane (b l : Fin 128) : k0_pay58 (ix2 b l) = BitVec.ofNat 32 (32 * (l.val / 32)) := by
  have h : ∀ l : Fin 128, IntOp.andi (BitVec.ofNat 32 l.val) 4294967264#32 = BitVec.ofNat 32 (32 * (l.val / 32)) := by decide +kernel
  rw [← h l]
  unfold k0_pay58
  pointwise

theorem group_lane (b l : Fin 128) : k0_pay59 (ix2 b l) = BitVec.ofNat 32 (32 * (l.val % 4)) := by
  have h : ∀ l : Fin 128, IntOp.muli (IntOp.andi (BitVec.ofNat 32 l.val) 3#32) 32#32 = BitVec.ofNat 32 (32 * (l.val % 4)) := by decide +kernel
  rw [← h l]
  unfold k0_pay59
  pointwise

/-- A row's lane, past the last one nothing. -/
def laneAt (h : FVec Ideal S128x128 .f32) (b : Fin 128) (t : ℕ) : EReal := if ht : t < 128 then h (ix2 b ⟨t, ht⟩) else ⊥

theorem rot_apply (n : ℕ) (hn : 0 < n) (hn' : n < 128) (h : FVec Ideal S128x128 .f32) (b : Fin 128) (t : ℕ) (ht : t + n < 128) :
    laneAt (vrot (BitVec.ofNat 32 (128 - n)) h) b t = max (laneAt h b t) (laneAt h b (t + n)) := by
  unfold laneAt vrot
  rw [dif_pos (by omega), dif_pos (by omega), dif_pos ht]
  show max _ (dynamicRotate 1 (BitVec.ofNat 32 (128 - n)) none h rotates_S128x128_d1 (ix2 b ⟨t, by omega⟩) : EReal) = _
  refine congrArg (fun e : EReal => max _ e) (dynamicRotate_apply (1 : Fin S128x128.rank) _ h _ _ (ix2 b ⟨t + n, ht⟩) fun c => ?_)
  match c with
  | ⟨0, _⟩ => rfl
  | ⟨1, _⟩ =>
    show t + n = (t + 128 - (BitVec.ofNat 32 (128 - n)).toNat % 128) % 128
    rw [BitVec.toNat_ofNat]
    omega

theorem sup_double (a : ℕ → EReal) (n l : ℕ) :
    (Finset.range (n + n)).sup (fun t => a (l + t)) = max ((Finset.range n).sup fun t => a (l + t)) ((Finset.range n).sup fun t => a (l + n + t)) := by
  apply le_antisymm
  · refine Finset.sup_le fun t ht => ?_
    rw [Finset.mem_range] at ht
    by_cases h : t < n
    · exact le_trans (Finset.le_sup (f := fun t => a (l + t)) (Finset.mem_range.mpr h)) (le_max_left _ _)
    · refine le_trans ?_ (le_max_right _ _)
      have e : l + t = l + n + (t - n) := by omega
      rw [e]
      exact Finset.le_sup (f := fun t => a (l + n + t)) (Finset.mem_range.mpr (by omega))
  · refine max_le (Finset.sup_le fun t ht => ?_) (Finset.sup_le fun t ht => ?_)
    · rw [Finset.mem_range] at ht
      exact Finset.le_sup (f := fun t => a (l + t)) (Finset.mem_range.mpr (by omega))
    · rw [Finset.mem_range] at ht
      rw [Nat.add_assoc]
      exact Finset.le_sup (f := fun t => a (l + t)) (Finset.mem_range.mpr (by omega))

/-- One rotation doubles the run of lanes a lane stands for. -/
theorem rot_step (n : ℕ) (hn : 0 < n) (hn' : n < 128) (h : FVec Ideal S128x128 .f32) (a : ℕ → EReal) (b : Fin 128)
    (hh : ∀ t, t + n ≤ 128 → laneAt h b t = (Finset.range n).sup fun i => a (t + i)) (t : ℕ) (ht : t + (n + n) ≤ 128) :
    laneAt (vrot (BitVec.ofNat 32 (128 - n)) h) b t = (Finset.range (n + n)).sup fun i => a (t + i) := by
  rw [rot_apply n hn hn' h b t (by omega), hh t (by omega), hh (t + n) (by omega), sup_double]

/-- The largest magnitude of a group, lane by lane. -/
theorem vamax_apply (h : FVec Ideal S128x128 .f32) (b l : Fin 128) :
    (vamax h (ix2 b l) : EReal)
      = (Finset.univ.sup fun t : Fin 32 => mag (h (ix2 b ⟨32 * (l.val / 32) + t.val, by omega⟩))) * c448 := by
  have s0 : ∀ t, t + 1 ≤ 128 → laneAt (absf h) b t = (Finset.range 1).sup fun i => laneAt (absf h) b (t + i) := by
    intro t _
    simp
  have s1 := rot_step 1 (by decide) (by decide) _ _ b s0
  have s2 := rot_step 2 (by decide) (by decide) _ _ b s1
  have s3 := rot_step 4 (by decide) (by decide) _ _ b s2
  have s4 := rot_step 8 (by decide) (by decide) _ _ b s3
  have s5 := rot_step 16 (by decide) (by decide) _ _ b s4 (32 * (l.val / 32)) (by omega)
  show (vgather _ _ (ix2 b l) : EReal) * _ = _
  rw [gather_apply _ _ b l ⟨32 * (l.val / 32), by omega⟩ (base_lane b l)]
  refine congrArg (fun e : EReal => e * c448) ?_
  refine Eq.trans (Eq.trans (Eq.symm (dif_pos (show 32 * (l.val / 32) < 128 by omega))) s5) ?_
  show (Finset.range 32).sup (fun i => laneAt (absf h) b (32 * (l.val / 32) + i)) = _
  apply le_antisymm
  · refine Finset.sup_le fun t ht => ?_
    rw [Finset.mem_range] at ht
    unfold laneAt
    rw [dif_pos (by omega)]
    exact Finset.le_sup (f := fun t : Fin 32 => mag (h (ix2 b ⟨32 * (l.val / 32) + t.val, by omega⟩))) (Finset.mem_univ (⟨t, ht⟩ : Fin 32))
  · refine Finset.sup_le fun t _ => ?_
    refine le_trans (le_of_eq ?_) (Finset.le_sup (f := fun i => laneAt (absf h) b (32 * (l.val / 32) + i)) (Finset.mem_range.mpr t.isLt))
    unfold laneAt
    rw [dif_pos (by omega)]
    rfl

theorem vpack_apply (q : Fin 4) (prev sc : FVec Ideal S128x128 .f32) (b l : Fin 128) :
    (vpack (BitVec.ofNat 32 (4 * q.val)) (BitVec.ofNat 32 (4 * q.val + 4)) prev sc (ix2 b l) : EReal)
      = if l.val / 4 = q.val then (sc (ix2 b ⟨32 * (l.val % 4), by omega⟩) : EReal) else prev (ix2 b l) := by
  have hb : ∀ (q : Fin 4) (l : Fin 128), IntOp.andi (IntOp.cmpi .sge (BitVec.ofNat 32 l.val) (BitVec.ofNat 32 (4 * q.val)))
      (IntOp.cmpi .slt (BitVec.ofNat 32 l.val) (BitVec.ofNat 32 (4 * q.val + 4))) = if l.val / 4 = q.val then 1#1 else 0#1 := by decide +kernel
  have hi : iota .tc S128x128 32 [1] iota_S128x128_d1_w32 (ix2 b l) = BitVec.ofNat 32 l.val := by pointwise
  unfold vpack
  show Scalar.select (IntOp.andi (IntOp.cmpi .sge (iota .tc S128x128 32 [1] iota_S128x128_d1_w32 (ix2 b l)) _) (IntOp.cmpi .slt (iota .tc S128x128 32 [1] iota_S128x128_d1_w32 (ix2 b l)) _)) (vgather _ _ (ix2 b l) : EReal) _ = _
  rw [hi, gather_apply _ _ b l ⟨32 * (l.val % 4), by omega⟩ (group_lane b l)]
  refine Eq.trans (congrArg (fun c => Scalar.select c _ _) (hb q l)) ?_
  by_cases h : l.val / 4 = q.val
  · rw [if_pos h, if_pos h]; rfl
  · rw [if_neg h, if_neg h]; rfl

end Cert.ResidualIdeal.Value

end
-- ==== Proof.ResCodes.lean ====
/-
  What the first grid point stores of the rows of `x`: their scales, and their codes in 40 chunks of 128 columns, one
  box of the whole array when read back.
-/
module

public import proofs.«01_k».proof.Proof.ResidualIdealFrame.Value
public import proofs.«01_k».proof.Proof.ResStep

@[expose] public section

set_option maxRecDepth 16384

noncomputable section

open Idealize.ShloMosaic Idealize.ShloMosaic.TcCoe Idealize.SL.Sem

namespace Cert.ResidualIdeal.Value

open Cert.ResidualIdeal Cert.ResidualIdeal.Gen
open Cert.Scale (scale inv code gated mag c448)

theorem hz : (![0, 0] : Fin 2 → Nat) = fun _ => 0 := funext fun a => by fin_cases a <;> rfl
theorem hz3 : (![0, 0, 0] : Fin 3 → Nat) = fun _ => 0 := funext fun a => by fin_cases a <;> rfl

/-- The exponents of the rows, one in every lane. -/
abbrev expoX (x0 : Vec Ideal S128x5120 .bf16) : IVec S128x128 32 := k0_pay6 (k0_pay3 x0) (k0_pay4 x0) (k0_pay5 x0) 16#32

theorem expoX_eq (x0 : Vec Ideal S128x5120 .bf16) : expoX x0 = vexpo (k0_pay3 x0) := rfl

/-- The largest magnitude of a row over 448. -/
def rowv (x0 : Vec Ideal S128x5120 .bf16) (b : Fin 128) : EReal :=
  (Finset.univ.sup fun d : Fin 5120 => mag (x0 (ix2 b d))) * c448

theorem pay3_apply (x0 : Vec Ideal S128x5120 .bf16) (b l : Fin 128) : (k0_pay3 x0 (ix2 b l) : EReal) = rowv x0 b := by
  unfold k0_pay3 rowv
  pointwise
  exact congrArg (fun e : EReal => e * c448) (Cert.Scale.fold_mag _ _)

/-- The scales of the rows, one in every lane, and as one row. -/
theorem pay9_apply (x0 : Vec Ideal S128x5120 .bf16) (b l : Fin 128) : (k0_pay9 (F := Ideal) (expoX x0) (ix2 b l) : EReal) = scale (rowv x0 b) := by
  have h : k0_pay9 (F := Ideal) (expoX x0) = shapeCast S128x128 (vscale (k0_pay3 x0)) shapeCasts_S128x128_S128x128 := rfl
  rw [h, shapeCast_self, vscale_apply, pay3_apply]

theorem pay10_apply (x0 : Vec Ideal S128x5120 .bf16) (b : Fin 128) : (k0_pay10 (F := Ideal) (expoX x0) (ix2 0 b) : EReal) = scale (rowv x0 b) := by
  have h : k0_pay10 (F := Ideal) (expoX x0)
      = extractStridedSlice S1x128 ![0, 0] (transpose S128x128 [1, 0] (vscale (k0_pay3 x0)) transposes_S128x128_p1_0_S128x128) slices_S128x128_o0_0_S1x128 := rfl
  have e : (vscale (k0_pay3 x0) (ix2 b 0) : EReal) = scale (rowv x0 b) := by rw [vscale_apply, pay3_apply]
  rw [h, ← e]
  generalize vscale (k0_pay3 x0) = v
  pointwise

/-- The codes of `x`. -/
def xcblk (x0 : Vec Ideal S128x5120 .bf16) : Vec Ideal S128x5120 .fp8e4m3 := fun y => code (x0 y) (rowv x0 (y 0))

theorem piece_x (x0 : Vec Ideal S128x5120 .bf16) (c : ℕ)
    (inb : ∀ a, (![0, c] : Fin 2 → ℕ) a + (![128, 128] : Fin 2 → ℕ) a ≤ S128x5120.size a)
    (x : (Rect.unit (s := S128x5120) ![0, c] ![128, 128] inb).shape.Idx) :
    vcodes (extf .f32 (View.ld x0 (Rect.unit (s := S128x5120) ![0, c] ![128, 128] inb)) bitsLt_bf16_f32) (k0_pay3 x0) x
      = xcblk x0 ((Rect.unit (s := S128x5120) ![0, c] ![128, 128] inb).emb x) := by
  have e : (x : S128x128.Idx) = ix2 (x 0) (x 1) := by
    funext a
    fin_cases a <;> rfl
  have h0 : ((Rect.unit (s := S128x5120) ![0, c] ![128, 128] inb).emb x) 0 = x 0 := Fin.ext (by show 0 + 1 * (x 0).val = (x 0).val; omega)
  refine (vcodes_apply _ _ x).trans ?_
  unfold xcblk
  rw [h0]
  refine congrArg₂ code rfl ?_
  refine (congrArg (k0_pay3 x0) e).trans (pay3_apply x0 (x 0) (x 1))

section
variable (x0 : Vec Ideal S128x5120 .bf16) (X : Vec Ideal S128x128 .bf16)
theorem xc_39 : k0_pay56 (k0_pay55 (k0_pay8 (expoX x0)) X) (FloatOps.ofBits .f32 0xC3E00000#32) (FloatOps.ofBits .f32 0x43E00000#32) = vcodes (extf .f32 X bitsLt_bf16_f32) (k0_pay3 x0) := rfl
theorem xc_38 : k0_pay54 (k0_pay8 (expoX x0)) X = vcodes (extf .f32 X bitsLt_bf16_f32) (k0_pay3 x0) := rfl
theorem xc_37 : k0_pay53 (k0_pay8 (expoX x0)) X = vcodes (extf .f32 X bitsLt_bf16_f32) (k0_pay3 x0) := rfl
theorem xc_36 : k0_pay52 (k0_pay8 (expoX x0)) X = vcodes (extf .f32 X bitsLt_bf16_f32) (k0_pay3 x0) := rfl
theorem xc_35 : k0_pay51 (k0_pay50 (k0_pay8 (expoX x0)) X) = vcodes (extf .f32 X bitsLt_bf16_f32) (k0_pay3 x0) := rfl
theorem xc_34 : k0_pay49 (k0_pay8 (expoX x0)) X = vcodes (extf .f32 X bitsLt_bf16_f32) (k0_pay3 x0) := rfl
theorem xc_33 : k0_pay48 (k0_pay8 (expoX x0)) X = vcodes (extf .f32 X bitsLt_bf16_f32) (k0_pay3 x0) := rfl
theorem xc_32 : k0_pay47 (k0_pay8 (expoX x0)) X = vcodes (extf .f32 X bitsLt_bf16_f32) (k0_pay3 x0) := rfl
theorem xc_31 : k0_pay46 (k0_pay8 (expoX x0)) X = vcodes (extf .f32 X bitsLt_bf16_f32) (k0_pay3 x0) := rfl
theorem xc_30 : k0_pay45 (k0_pay8 (expoX x0)) X = vcodes (extf .f32 X bitsLt_bf16_f32) (k0_pay3 x0) := rfl
theorem xc_29 : k0_pay44 (k0_pay8 (expoX x0)) X = vcodes (extf .f32 X bitsLt_bf16_f32) (k0_pay3 x0) := rfl
theorem xc_28 : k0_pay43 (k0_pay8 (expoX x0)) X = vcodes (extf .f32 X bitsLt_bf16_f32) (k0_pay3 x0) := rfl
theorem xc_27 : k0_pay42 (k0_pay8 (expoX x0)) X = vcodes (extf .f32 X bitsLt_bf16_f32) (k0_pay3 x0) := rfl
theorem xc_26 : k0_pay41 (k0_pay8 (expoX x0)) X = vcodes (extf .f32 X bitsLt_bf16_f32) (k0_pay3 x0) := rfl
theorem xc_25 : k0_pay40 (k0_pay8 (expoX x0)) X = vcodes (extf .f32 X bitsLt_bf16_f32) (k0_pay3 x0) := rfl
theorem xc_24 : k0_pay39 (k0_pay38 (k0_pay8 (expoX x0)) X) (FloatOps.ofBits .f32 0xC3E00000#32) (FloatOps.ofBits .f32 0x43E00000#32) = vcodes (extf .f32 X bitsLt_bf16_f32) (k0_pay3 x0) := rfl
theorem xc_23 : k0_pay37 (k0_pay8 (expoX x0)) X = vcodes (extf .f32 X bitsLt_bf16_f32) (k0_pay3 x0) := rfl
theorem xc_22 : k0_pay36 (k0_pay8 (expoX x0)) X = vcodes (extf .f32 X bitsLt_bf16_f32) (k0_pay3 x0) := rfl
theorem xc_21 : k0_pay35 (k0_pay8 (expoX x0)) X = vcodes (extf .f32 X bitsLt_bf16_f32) (k0_pay3 x0) := rfl
theorem xc_20 : k0_pay34 (k0_pay33 (k0_pay8 (expoX x0)) X) = vcodes (extf .f32 X bitsLt_bf16_f32) (k0_pay3 x0) := rfl
theorem xc_19 : k0_pay32 (k0_pay8 (expoX x0)) X = vcodes (extf .f32 X bitsLt_bf16_f32) (k0_pay3 x0) := rfl
theorem xc_18 : k0_pay31 (k0_pay8 (expoX x0)) X = vcodes (extf .f32 X bitsLt_bf16_f32) (k0_pay3 x0) := rfl
theorem xc_17 : k0_pay30 (k0_pay8 (expoX x0)) X = vcodes (extf .f32 X bitsLt_bf16_f32) (k0_pay3 x0) := rfl
theorem xc_16 : k0_pay29 (k0_pay8 (expoX x0)) X = vcodes (extf .f32 X bitsLt_bf16_f32) (k0_pay3 x0) := rfl
theorem xc_15 : k0_pay28 (k0_pay8 (expoX x0)) X = vcodes (extf .f32 X bitsLt_bf16_f32) (k0_pay3 x0) := rfl
theorem xc_14 : k0_pay27 (k0_pay8 (expoX x0)) X = vcodes (extf .f32 X bitsLt_bf16_f32) (k0_pay3 x0) := rfl
theorem xc_13 : k0_pay26 (k0_pay8 (expoX x0)) X = vcodes (extf .f32 X bitsLt_bf16_f32) (k0_pay3 x0) := rfl
theorem xc_12 : k0_pay25 (k0_pay8 (expoX x0)) X = vcodes (extf .f32 X bitsLt_bf16_f32) (k0_pay3 x0) := rfl
theorem xc_11 : k0_pay24 (k0_pay8 (expoX x0)) X = vcodes (extf .f32 X bitsLt_bf16_f32) (k0_pay3 x0) := rfl
theorem xc_10 : k0_pay23 (k0_pay8 (expoX x0)) X = vcodes (extf .f32 X bitsLt_bf16_f32) (k0_pay3 x0) := rfl
theorem xc_9 : k0_pay22 (k0_pay21 (k0_pay8 (expoX x0)) X) (FloatOps.ofBits .f32 0xC3E00000#32) (FloatOps.ofBits .f32 0x43E00000#32) = vcodes (extf .f32 X bitsLt_bf16_f32) (k0_pay3 x0) := rfl
theorem xc_8 : k0_pay20 (k0_pay8 (expoX x0)) X = vcodes (extf .f32 X bitsLt_bf16_f32) (k0_pay3 x0) := rfl
theorem xc_7 : k0_pay19 (k0_pay8 (expoX x0)) X = vcodes (extf .f32 X bitsLt_bf16_f32) (k0_pay3 x0) := rfl
theorem xc_6 : k0_pay18 (k0_pay8 (expoX x0)) X = vcodes (extf .f32 X bitsLt_bf16_f32) (k0_pay3 x0) := rfl
theorem xc_5 : k0_pay17 (k0_pay16 (k0_pay8 (expoX x0)) X) = vcodes (extf .f32 X bitsLt_bf16_f32) (k0_pay3 x0) := rfl
theorem xc_4 : k0_pay15 (k0_pay8 (expoX x0)) X = vcodes (extf .f32 X bitsLt_bf16_f32) (k0_pay3 x0) := rfl
theorem xc_3 : k0_pay14 (k0_pay8 (expoX x0)) X = vcodes (extf .f32 X bitsLt_bf16_f32) (k0_pay3 x0) := rfl
theorem xc_2 : k0_pay13 (k0_pay8 (expoX x0)) X = vcodes (extf .f32 X bitsLt_bf16_f32) (k0_pay3 x0) := rfl
theorem xc_1 : k0_pay12 (expoX x0) X = vcodes (extf .f32 X bitsLt_bf16_f32) (k0_pay3 x0) := rfl
theorem xc_0 : k0_pay11 (expoX x0) X = vcodes (extf .f32 X bitsLt_bf16_f32) (k0_pay3 x0) := rfl
end

/-- The 40 chunks of codes. -/
def xpieces (x0 : Vec Ideal S128x5120 .bf16) : List (View.Piece (Elt Ideal) S128x5120 .fp8e4m3) := [
  ⟨Rect.unit ![0, 4992] ![128, 128] inb_S128x5120_S128x128_0_4992, k0_pay56 (k0_pay55 (k0_pay8 (expoX x0)) (View.ld x0 (Rect.unit ![0, 4992] ![128, 128] inb_S128x5120_S128x128_0_4992))) (FloatOps.ofBits .f32 0xC3E00000#32) (FloatOps.ofBits .f32 0x43E00000#32)⟩,
  ⟨Rect.unit ![0, 4864] ![128, 128] inb_S128x5120_S128x128_0_4864, k0_pay54 (k0_pay8 (expoX x0)) (View.ld x0 (Rect.unit ![0, 4864] ![128, 128] inb_S128x5120_S128x128_0_4864))⟩,
  ⟨Rect.unit ![0, 4736] ![128, 128] inb_S128x5120_S128x128_0_4736, k0_pay53 (k0_pay8 (expoX x0)) (View.ld x0 (Rect.unit ![0, 4736] ![128, 128] inb_S128x5120_S128x128_0_4736))⟩,
  ⟨Rect.unit ![0, 4608] ![128, 128] inb_S128x5120_S128x128_0_4608, k0_pay52 (k0_pay8 (expoX x0)) (View.ld x0 (Rect.unit ![0, 4608] ![128, 128] inb_S128x5120_S128x128_0_4608))⟩,
  ⟨Rect.unit ![0, 4480] ![128, 128] inb_S128x5120_S128x128_0_4480, k0_pay51 (k0_pay50 (k0_pay8 (expoX x0)) (View.ld x0 (Rect.unit ![0, 4480] ![128, 128] inb_S128x5120_S128x128_0_4480)))⟩,
  ⟨Rect.unit ![0, 4352] ![128, 128] inb_S128x5120_S128x128_0_4352, k0_pay49 (k0_pay8 (expoX x0)) (View.ld x0 (Rect.unit ![0, 4352] ![128, 128] inb_S128x5120_S128x128_0_4352))⟩,
  ⟨Rect.unit ![0, 4224] ![128, 128] inb_S128x5120_S128x128_0_4224, k0_pay48 (k0_pay8 (expoX x0)) (View.ld x0 (Rect.unit ![0, 4224] ![128, 128] inb_S128x5120_S128x128_0_4224))⟩,
  ⟨Rect.unit ![0, 4096] ![128, 128] inb_S128x5120_S128x128_0_4096, k0_pay47 (k0_pay8 (expoX x0)) (View.ld x0 (Rect.unit ![0, 4096] ![128, 128] inb_S128x5120_S128x128_0_4096))⟩,
  ⟨Rect.unit ![0, 3968] ![128, 128] inb_S128x5120_S128x128_0_3968, k0_pay46 (k0_pay8 (expoX x0)) (View.ld x0 (Rect.unit ![0, 3968] ![128, 128] inb_S128x5120_S128x128_0_3968))⟩,
  ⟨Rect.unit ![0, 3840] ![128, 128] inb_S128x5120_S128x128_0_3840, k0_pay45 (k0_pay8 (expoX x0)) (View.ld x0 (Rect.unit ![0, 3840] ![128, 128] inb_S128x5120_S128x128_0_3840))⟩,
  ⟨Rect.unit ![0, 3712] ![128, 128] inb_S128x5120_S128x128_0_3712, k0_pay44 (k0_pay8 (expoX x0)) (View.ld x0 (Rect.unit ![0, 3712] ![128, 128] inb_S128x5120_S128x128_0_3712))⟩,
  ⟨Rect.unit ![0, 3584] ![128, 128] inb_S128x5120_S128x128_0_3584, k0_pay43 (k0_pay8 (expoX x0)) (View.ld x0 (Rect.unit ![0, 3584] ![128, 128] inb_S128x5120_S128x128_0_3584))⟩,
  ⟨Rect.unit ![0, 3456] ![128, 128] inb_S128x5120_S128x128_0_3456, k0_pay42 (k0_pay8 (expoX x0)) (View.ld x0 (Rect.unit ![0, 3456] ![128, 128] inb_S128x5120_S128x128_0_3456))⟩,
  ⟨Rect.unit ![0, 3328] ![128, 128] inb_S128x5120_S128x128_0_3328, k0_pay41 (k0_pay8 (expoX x0)) (View.ld x0 (Rect.unit ![0, 3328] ![128, 128] inb_S128x5120_S128x128_0_3328))⟩,
  ⟨Rect.unit ![0, 3200] ![128, 128] inb_S128x5120_S128x128_0_3200, k0_pay40 (k0_pay8 (expoX x0)) (View.ld x0 (Rect.unit ![0, 3200] ![128, 128] inb_S128x5120_S128x128_0_3200))⟩,
  ⟨Rect.unit ![0, 3072] ![128, 128] inb_S128x5120_S128x128_0_3072, k0_pay39 (k0_pay38 (k0_pay8 (expoX x0)) (View.ld x0 (Rect.unit ![0, 3072] ![128, 128] inb_S128x5120_S128x128_0_3072))) (FloatOps.ofBits .f32 0xC3E00000#32) (FloatOps.ofBits .f32 0x43E00000#32)⟩,
  ⟨Rect.unit ![0, 2944] ![128, 128] inb_S128x5120_S128x128_0_2944, k0_pay37 (k0_pay8 (expoX x0)) (View.ld x0 (Rect.unit ![0, 2944] ![128, 128] inb_S128x5120_S128x128_0_2944))⟩,
  ⟨Rect.unit ![0, 2816] ![128, 128] inb_S128x5120_S128x128_0_2816, k0_pay36 (k0_pay8 (expoX x0)) (View.ld x0 (Rect.unit ![0, 2816] ![128, 128] inb_S128x5120_S128x128_0_2816))⟩,
  ⟨Rect.unit ![0, 2688] ![128, 128] inb_S128x5120_S128x128_0_2688, k0_pay35 (k0_pay8 (expoX x0)) (View.ld x0 (Rect.unit ![0, 2688] ![128, 128] inb_S128x5120_S128x128_0_2688))⟩,
  ⟨Rect.unit ![0, 2560] ![128, 128] inb_S128x5120_S128x128_0_2560, k0_pay34 (k0_pay33 (k0_pay8 (expoX x0)) (View.ld x0 (Rect.unit ![0, 2560] ![128, 128] inb_S128x5120_S128x128_0_2560)))⟩,
  ⟨Rect.unit ![0, 2432] ![128, 128] inb_S128x5120_S128x128_0_2432, k0_pay32 (k0_pay8 (expoX x0)) (View.ld x0 (Rect.unit ![0, 2432] ![128, 128] inb_S128x5120_S128x128_0_2432))⟩,
  ⟨Rect.unit ![0, 2304] ![128, 128] inb_S128x5120_S128x128_0_2304, k0_pay31 (k0_pay8 (expoX x0)) (View.ld x0 (Rect.unit ![0, 2304] ![128, 128] inb_S128x5120_S128x128_0_2304))⟩,
  ⟨Rect.unit ![0, 2176] ![128, 128] inb_S128x5120_S128x128_0_2176, k0_pay30 (k0_pay8 (expoX x0)) (View.ld x0 (Rect.unit ![0, 2176] ![128, 128] inb_S128x5120_S128x128_0_2176))⟩,
  ⟨Rect.unit ![0, 2048] ![128, 128] inb_S128x5120_S128x128_0_2048, k0_pay29 (k0_pay8 (expoX x0)) (View.ld x0 (Rect.unit ![0, 2048] ![128, 128] inb_S128x5120_S128x128_0_2048))⟩,
  ⟨Rect.unit ![0, 1920] ![128, 128] inb_S128x5120_S128x128_0_1920, k0_pay28 (k0_pay8 (expoX x0)) (View.ld x0 (Rect.unit ![0, 1920] ![128, 128] inb_S128x5120_S128x128_0_1920))⟩,
  ⟨Rect.unit ![0, 1792] ![128, 128] inb_S128x5120_S128x128_0_1792, k0_pay27 (k0_pay8 (expoX x0)) (View.ld x0 (Rect.unit ![0, 1792] ![128, 128] inb_S128x5120_S128x128_0_1792))⟩,
  ⟨Rect.unit ![0, 1664] ![128, 128] inb_S128x5120_S128x128_0_1664, k0_pay26 (k0_pay8 (expoX x0)) (View.ld x0 (Rect.unit ![0, 1664] ![128, 128] inb_S128x5120_S128x128_0_1664))⟩,
  ⟨Rect.unit ![0, 1536] ![128, 128] inb_S128x5120_S128x128_0_1536, k0_pay25 (k0_pay8 (expoX x0)) (View.ld x0 (Rect.unit ![0, 1536] ![128, 128] inb_S128x5120_S128x128_0_1536))⟩,
  ⟨Rect.unit ![0, 1408] ![128, 128] inb_S128x5120_S128x128_0_1408, k0_pay24 (k0_pay8 (expoX x0)) (View.ld x0 (Rect.unit ![0, 1408] ![128, 128] inb_S128x5120_S128x128_0_1408))⟩,
  ⟨Rect.unit ![0, 1280] ![128, 128] inb_S128x5120_S128x128_0_1280, k0_pay23 (k0_pay8 (expoX x0)) (View.ld x0 (Rect.unit ![0, 1280] ![128, 128] inb_S128x5120_S128x128_0_1280))⟩,
  ⟨Rect.unit ![0, 1152] ![128, 128] inb_S128x5120_S128x128_0_1152, k0_pay22 (k0_pay21 (k0_pay8 (expoX x0)) (View.ld x0 (Rect.unit ![0, 1152] ![128, 128] inb_S128x5120_S128x128_0_1152))) (FloatOps.ofBits .f32 0xC3E00000#32) (FloatOps.ofBits .f32 0x43E00000#32)⟩,
  ⟨Rect.unit ![0, 1024] ![128, 128] inb_S128x5120_S128x128_0_1024, k0_pay20 (k0_pay8 (expoX x0)) (View.ld x0 (Rect.unit ![0, 1024] ![128, 128] inb_S128x5120_S128x128_0_1024))⟩,
  ⟨Rect.unit ![0, 896] ![128, 128] inb_S128x5120_S128x128_0_896, k0_pay19 (k0_pay8 (expoX x0)) (View.ld x0 (Rect.unit ![0, 896] ![128, 128] inb_S128x5120_S128x128_0_896))⟩,
  ⟨Rect.unit ![0, 768] ![128, 128] inb_S128x5120_S128x128_0_768, k0_pay18 (k0_pay8 (expoX x0)) (View.ld x0 (Rect.unit ![0, 768] ![128, 128] inb_S128x5120_S128x128_0_768))⟩,
  ⟨Rect.unit ![0, 640] ![128, 128] inb_S128x5120_S128x128_0_640, k0_pay17 (k0_pay16 (k0_pay8 (expoX x0)) (View.ld x0 (Rect.unit ![0, 640] ![128, 128] inb_S128x5120_S128x128_0_640)))⟩,
  ⟨Rect.unit ![0, 512] ![128, 128] inb_S128x5120_S128x128_0_512, k0_pay15 (k0_pay8 (expoX x0)) (View.ld x0 (Rect.unit ![0, 512] ![128, 128] inb_S128x5120_S128x128_0_512))⟩,
  ⟨Rect.unit ![0, 384] ![128, 128] inb_S128x5120_S128x128_0_384, k0_pay14 (k0_pay8 (expoX x0)) (View.ld x0 (Rect.unit ![0, 384] ![128, 128] inb_S128x5120_S128x128_0_384))⟩,
  ⟨Rect.unit ![0, 256] ![128, 128] inb_S128x5120_S128x128_0_256, k0_pay13 (k0_pay8 (expoX x0)) (View.ld x0 (Rect.unit ![0, 256] ![128, 128] inb_S128x5120_S128x128_0_256))⟩,
  ⟨Rect.unit ![0, 128] ![128, 128] inb_S128x5120_S128x128_0_128, k0_pay12 (expoX x0) (View.ld x0 (Rect.unit ![0, 128] ![128, 128] inb_S128x5120_S128x128_0_128))⟩,
  ⟨Rect.unit ![0, 0] ![128, 128] inb_S128x5120_S128x128_0_0, k0_pay11 (expoX x0) (View.ld x0 (Rect.unit ![0, 0] ![128, 128] inb_S128x5120_S128x128_0_0))⟩]

theorem xpieces_cover (x0 : Vec Ideal S128x5120 .bf16) (y : S128x5120.Idx) : ∃ p ∈ xpieces x0, y ∈ p.1.set :=
  View.cover_of_tiledL (xpieces x0) S128x128.size (by sl_kernel_rfl) y

theorem canon_xpieces (x0 : Vec Ideal S128x5120 .bf16) : View.canon (xpieces x0) = xcblk x0 := by
  funext y
  refine View.canon_apply_of_pieces (xcblk x0) _ ?_ y (xpieces_cover x0 y)
  unfold xpieces
  simp only [List.forall_mem_cons]
  exact ⟨fun x => (congrFun (xc_39 _ _) x).trans (piece_x x0 4992 _ x),
    fun x => (congrFun (xc_38 _ _) x).trans (piece_x x0 4864 _ x),
    fun x => (congrFun (xc_37 _ _) x).trans (piece_x x0 4736 _ x),
    fun x => (congrFun (xc_36 _ _) x).trans (piece_x x0 4608 _ x),
    fun x => (congrFun (xc_35 _ _) x).trans (piece_x x0 4480 _ x),
    fun x => (congrFun (xc_34 _ _) x).trans (piece_x x0 4352 _ x),
    fun x => (congrFun (xc_33 _ _) x).trans (piece_x x0 4224 _ x),
    fun x => (congrFun (xc_32 _ _) x).trans (piece_x x0 4096 _ x),
    fun x => (congrFun (xc_31 _ _) x).trans (piece_x x0 3968 _ x),
    fun x => (congrFun (xc_30 _ _) x).trans (piece_x x0 3840 _ x),
    fun x => (congrFun (xc_29 _ _) x).trans (piece_x x0 3712 _ x),
    fun x => (congrFun (xc_28 _ _) x).trans (piece_x x0 3584 _ x),
    fun x => (congrFun (xc_27 _ _) x).trans (piece_x x0 3456 _ x),
    fun x => (congrFun (xc_26 _ _) x).trans (piece_x x0 3328 _ x),
    fun x => (congrFun (xc_25 _ _) x).trans (piece_x x0 3200 _ x),
    fun x => (congrFun (xc_24 _ _) x).trans (piece_x x0 3072 _ x),
    fun x => (congrFun (xc_23 _ _) x).trans (piece_x x0 2944 _ x),
    fun x => (congrFun (xc_22 _ _) x).trans (piece_x x0 2816 _ x),
    fun x => (congrFun (xc_21 _ _) x).trans (piece_x x0 2688 _ x),
    fun x => (congrFun (xc_20 _ _) x).trans (piece_x x0 2560 _ x),
    fun x => (congrFun (xc_19 _ _) x).trans (piece_x x0 2432 _ x),
    fun x => (congrFun (xc_18 _ _) x).trans (piece_x x0 2304 _ x),
    fun x => (congrFun (xc_17 _ _) x).trans (piece_x x0 2176 _ x),
    fun x => (congrFun (xc_16 _ _) x).trans (piece_x x0 2048 _ x),
    fun x => (congrFun (xc_15 _ _) x).trans (piece_x x0 1920 _ x),
    fun x => (congrFun (xc_14 _ _) x).trans (piece_x x0 1792 _ x),
    fun x => (congrFun (xc_13 _ _) x).trans (piece_x x0 1664 _ x),
    fun x => (congrFun (xc_12 _ _) x).trans (piece_x x0 1536 _ x),
    fun x => (congrFun (xc_11 _ _) x).trans (piece_x x0 1408 _ x),
    fun x => (congrFun (xc_10 _ _) x).trans (piece_x x0 1280 _ x),
    fun x => (congrFun (xc_9 _ _) x).trans (piece_x x0 1152 _ x),
    fun x => (congrFun (xc_8 _ _) x).trans (piece_x x0 1024 _ x),
    fun x => (congrFun (xc_7 _ _) x).trans (piece_x x0 896 _ x),
    fun x => (congrFun (xc_6 _ _) x).trans (piece_x x0 768 _ x),
    fun x => (congrFun (xc_5 _ _) x).trans (piece_x x0 640 _ x),
    fun x => (congrFun (xc_4 _ _) x).trans (piece_x x0 512 _ x),
    fun x => (congrFun (xc_3 _ _) x).trans (piece_x x0 384 _ x),
    fun x => (congrFun (xc_2 _ _) x).trans (piece_x x0 256 _ x),
    fun x => (congrFun (xc_1 _ _) x).trans (piece_x x0 128 _ x),
    fun x => (congrFun (xc_0 _ _) x).trans (piece_x x0 0 _ x),
    fun p hp => absurd hp List.not_mem_nil⟩

theorem box_x (x0 : Vec Ideal S128x5120 .bf16) :
    (fun y => View.canon (xpieces x0) ((Rect.unit (s := S128x5120) ![0, 0] ![128, 5120] inb_S128x5120_S128x5120_0_0).idx y)) = xcblk x0 := by
  rw [canon_xpieces]
  funext y
  refine congrArg (xcblk x0) ?_
  funext a
  exact Fin.ext (by match a with
    | ⟨0, _⟩ => show 0 + 1 * (y 0).val = (y 0).val; omega
    | ⟨1, _⟩ => show 0 + 1 * (y 1).val = (y 1).val; omega)

section
variable (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole)

theorem xout0_A_4 (hc0 : cond0_0 i) (x0 : Vec Ideal S128x5120 .bf16) (x1 : Vec Ideal S1x5120x512 .fp8e4m3) (x2 x3 : Vec Ideal S3x5120 .f32) : out0_A_4 c i arg2 harg2 arg3 harg3 arg4 harg4 arg5 harg5 arg6 harg6 arg7 harg7 arg8 harg8 arg9 harg9 arg10 harg10 arg11 harg11 hc0 x0 x1 x2 x3 = xcblk x0 := by
  unfold out0_A_4
  rw [View.read_writes_eq_canon _ _ _ (cover0_A_4 c i arg2 harg2 arg3 harg3 arg4 harg4 arg5 harg5 arg6 harg6 arg7 harg7 arg8 harg8 arg9 harg9 arg10 harg10 arg11 harg11 hc0 x0 x1 x2 x3)]
  unfold kernelRun0_A
  dsimp only
  sl_unfold_words
  simp only [View.readAt_eq_ld, harg2.read_unread, harg3.read_unread, harg4.read_unread, harg5.read_unread, harg6.read_unread, harg7.read_unread, harg11.read_unread, View.ld_unit_zero (S := S128x128) hz, shapeCast_self, View.ld_unit_zero (S := S128x5120) hz, View.ld_unit_zero (S := S1x5120x512) hz3, View.readCov_unit_zero (S := S128x128) _ hz, View.readCov_eq_canon', View.canon_unit_zero (S := S128x128) hz, View.canon_unit_zero (S := S1x128) hz, View.canon_unit_zero (S := S1x16x128) hz3]
  exact canon_xpieces x0

theorem xout0_A_5 (hc0 : cond0_0 i) (x0 : Vec Ideal S128x5120 .bf16) (x1 : Vec Ideal S1x5120x512 .fp8e4m3) (x2 x3 : Vec Ideal S3x5120 .f32) : out0_A_5 c i arg2 harg2 arg3 harg3 arg4 harg4 arg5 harg5 arg6 harg6 arg7 harg7 arg8 harg8 arg9 harg9 arg10 harg10 arg11 harg11 hc0 x0 x1 x2 x3 = k0_pay10 (F := Ideal) (expoX x0) := by
  unfold out0_A_5
  rw [View.read_writes_eq_canon _ _ _ (cover0_A_5 c i arg2 harg2 arg3 harg3 arg4 harg4 arg5 harg5 arg6 harg6 arg7 harg7 arg8 harg8 arg9 harg9 arg10 harg10 arg11 harg11 hc0 x0 x1 x2 x3)]
  unfold kernelRun0_A
  dsimp only
  sl_unfold_words
  simp only [View.readAt_eq_ld, harg2.read_unread, harg3.read_unread, harg4.read_unread, harg5.read_unread, harg6.read_unread, harg7.read_unread, harg11.read_unread, View.ld_unit_zero (S := S128x128) hz, shapeCast_self, View.ld_unit_zero (S := S128x5120) hz, View.ld_unit_zero (S := S1x5120x512) hz3, View.readCov_unit_zero (S := S128x128) _ hz, View.readCov_eq_canon', View.canon_unit_zero (S := S128x128) hz, View.canon_unit_zero (S := S1x128) hz, View.canon_unit_zero (S := S1x16x128) hz3]

theorem xsout0_A_0 (hc0 : cond0_0 i) (x0 : Vec Ideal S128x5120 .bf16) (x1 : Vec Ideal S1x5120x512 .fp8e4m3) (x2 x3 : Vec Ideal S3x5120 .f32) : sout0_A_0 c i arg2 harg2 arg3 harg3 arg4 harg4 arg5 harg5 arg6 harg6 arg7 harg7 arg8 harg8 arg9 harg9 arg10 harg10 arg11 harg11 hc0 x0 x1 x2 x3 = k0_pay9 (F := Ideal) (expoX x0) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 x0 x1 x2 x3)]
  unfold kernelRun0_A
  dsimp only
  sl_unfold_words
  simp only [View.readAt_eq_ld, harg2.read_unread, harg3.read_unread, harg4.read_unread, harg5.read_unread, harg6.read_unread, harg7.read_unread, harg11.read_unread, View.ld_unit_zero (S := S128x128) hz, shapeCast_self, View.ld_unit_zero (S := S128x5120) hz, View.ld_unit_zero (S := S1x5120x512) hz3, View.readCov_unit_zero (S := S128x128) _ hz, View.readCov_eq_canon', View.canon_unit_zero (S := S128x128) hz, View.canon_unit_zero (S := S1x128) hz, View.canon_unit_zero (S := S1x16x128) hz3]

end

end Cert.ResidualIdeal.Value

end
-- ==== Proof.ResChunk.lean ====
/-
  The four chunks of a block of 512 columns, as the kernel computes them: each is the residual of its chunk, and its
  codes, its scales and its values follow from the residual by the same functions.
-/
module

public import proofs.«01_k».proof.Proof.ResidualIdealFrame.Value
public import proofs.«01_k».proof.Proof.ResStep

@[expose] public section

set_option maxRecDepth 16384

noncomputable section

open Idealize.ShloMosaic Idealize.ShloMosaic.TcCoe Idealize.SL.Sem

namespace Cert.ResidualIdeal.Value

open Cert.ResidualIdeal Cert.ResidualIdeal.Gen

/-- The part, as a word. -/
abbrev pt (i : grid0.Coords) : BitVec 32 := BitVec.ofNat 32 (i 0).val

/-- What is stored of a chunk's residual: its codes, and the values the codes stand for. -/
def hcOf (h : FVec Ideal S128x128 .f32) : Vec Ideal S1x128x128 .fp8e4m3 :=
  shapeCast S1x128x128 (vcodes h (vamax h)) shapeCasts_S128x128_S1x128x128
def hwOf (h : FVec Ideal S128x128 .f32) : Vec Ideal S1x128x128 .bf16 :=
  shapeCast S1x128x128 (mulf (extf .bf16 (vcodes h (vamax h)) bitsLt_fp8e4m3_bf16) (truncf .bf16 (vscale (vamax h)) bitsLt_bf16_f32)) shapeCasts_S128x128_S1x128x128

/-- The residual of chunk 0. -/
def res_0 (i : grid0.Coords) (xc : Vec Ideal S128x5120 .fp8e4m3) (w : Vec Ideal S1x5120x512 .fp8e4m3) (xs : Vec Ideal S128x128 .f32) (S B : Vec Ideal S3x128 .f32) (X : Vec Ideal S128x128 .bf16) : FVec Ideal S128x128 .f32 :=
  vres (pt i) (extractStridedSlice S128x128 ![0, 0] (k0_pay57 xc w) slices_S128x512_o0_0_S128x128) xs S B X

/-- The residual of chunk 1. -/
def res_1 (i : grid0.Coords) (xc : Vec Ideal S128x5120 .fp8e4m3) (w : Vec Ideal S1x5120x512 .fp8e4m3) (xs : Vec Ideal S128x128 .f32) (S B : Vec Ideal S3x128 .f32) (X : Vec Ideal S128x128 .bf16) : FVec Ideal S128x128 .f32 :=
  vres (pt i) (extractStridedSlice S128x128 ![0, 128] (k0_pay57 xc w) slices_S128x512_o0_128_S128x128) xs S B X

/-- The residual of chunk 2. -/
def res_2 (i : grid0.Coords) (xc : Vec Ideal S128x5120 .fp8e4m3) (w : Vec Ideal S1x5120x512 .fp8e4m3) (xs : Vec Ideal S128x128 .f32) (S B : Vec Ideal S3x128 .f32) (X : Vec Ideal S128x128 .bf16) : FVec Ideal S128x128 .f32 :=
  vres (pt i) (extractStridedSlice S128x128 ![0, 256] (k0_pay57 xc w) slices_S128x512_o0_256_S128x128) xs S B X

/-- The residual of chunk 3. -/
def res_3 (i : grid0.Coords) (xc : Vec Ideal S128x5120 .fp8e4m3) (w : Vec Ideal S1x5120x512 .fp8e4m3) (xs : Vec Ideal S128x128 .f32) (S B : Vec Ideal S3x128 .f32) (X : Vec Ideal S128x128 .bf16) : FVec Ideal S128x128 .f32 :=
  vres (pt i) (extractStridedSlice S128x128 ![0, 384] (k0_pay57 xc w) slices_S128x512_o0_384_S128x128) xs S B X

section
variable (i : grid0.Coords) (xc : Vec Ideal S128x5120 .fp8e4m3) (w : Vec Ideal S1x5120x512 .fp8e4m3) (xs : Vec Ideal S128x128 .f32) (S B : Vec Ideal S3x128 .f32) (X : Vec Ideal S128x128 .bf16)

theorem hc_0 : k0_pay73 (k0_pay72 (k0_pay62 (pt i) (k0_pay61 i xc w xs S) B X) (k0_pay63 (pt i) k0_pay58 (k0_pay61 i xc w xs S) B X) (k0_pay67 (k0_pay63 (pt i) k0_pay58 (k0_pay61 i xc w xs S) B X) k0_pay64 (k0_pay65 (pt i) k0_pay58 (k0_pay61 i xc w xs S) B X) k0_pay66) (k0_pay68 (k0_pay63 (pt i) k0_pay58 (k0_pay61 i xc w xs S) B X) k0_pay64 (k0_pay65 (pt i) k0_pay58 (k0_pay61 i xc w xs S) B X) k0_pay66) k0_pay69) = hcOf (res_0 i xc w xs S B X) := rfl

theorem sc_0 : k0_pay71 (k0_pay63 (pt i) k0_pay58 (k0_pay61 i xc w xs S) B X) (k0_pay67 (k0_pay63 (pt i) k0_pay58 (k0_pay61 i xc w xs S) B X) k0_pay64 (k0_pay65 (pt i) k0_pay58 (k0_pay61 i xc w xs S) B X) k0_pay66) (k0_pay68 (k0_pay63 (pt i) k0_pay58 (k0_pay61 i xc w xs S) B X) k0_pay64 (k0_pay65 (pt i) k0_pay58 (k0_pay61 i xc w xs S) B X) k0_pay66) k0_pay69 = vscale (vamax (res_0 i xc w xs S B X)) := rfl

theorem hw_0 : k0_pay74 (k0_pay71 (k0_pay63 (pt i) k0_pay58 (k0_pay61 i xc w xs S) B X) (k0_pay67 (k0_pay63 (pt i) k0_pay58 (k0_pay61 i xc w xs S) B X) k0_pay64 (k0_pay65 (pt i) k0_pay58 (k0_pay61 i xc w xs S) B X) k0_pay66) (k0_pay68 (k0_pay63 (pt i) k0_pay58 (k0_pay61 i xc w xs S) B X) k0_pay64 (k0_pay65 (pt i) k0_pay58 (k0_pay61 i xc w xs S) B X) k0_pay66) k0_pay69) (k0_pay72 (k0_pay62 (pt i) (k0_pay61 i xc w xs S) B X) (k0_pay63 (pt i) k0_pay58 (k0_pay61 i xc w xs S) B X) (k0_pay67 (k0_pay63 (pt i) k0_pay58 (k0_pay61 i xc w xs S) B X) k0_pay64 (k0_pay65 (pt i) k0_pay58 (k0_pay61 i xc w xs S) B X) k0_pay66) (k0_pay68 (k0_pay63 (pt i) k0_pay58 (k0_pay61 i xc w xs S) B X) k0_pay64 (k0_pay65 (pt i) k0_pay58 (k0_pay61 i xc w xs S) B X) k0_pay66) k0_pay69) = hwOf (res_0 i xc w xs S B X) := rfl

theorem hc_1 : k0_pay84 (k0_pay83 (k0_pay77 (pt i) (k0_pay76 (pt i) (k0_pay57 xc w) xs S) B (0#32) X) (k0_pay78 (pt i) k0_pay58 (k0_pay76 (pt i) (k0_pay57 xc w) xs S) B (0#32) X) (k0_pay80 (k0_pay78 (pt i) k0_pay58 (k0_pay76 (pt i) (k0_pay57 xc w) xs S) B (0#32) X) (k0_pay79 (pt i) k0_pay58 (k0_pay76 (pt i) (k0_pay57 xc w) xs S) B (0#32) X))) = hcOf (res_1 i xc w xs S B X) := rfl

theorem sc_1 : k0_pay82 (k0_pay78 (pt i) k0_pay58 (k0_pay76 (pt i) (k0_pay57 xc w) xs S) B (0#32) X) (k0_pay80 (k0_pay78 (pt i) k0_pay58 (k0_pay76 (pt i) (k0_pay57 xc w) xs S) B (0#32) X) (k0_pay79 (pt i) k0_pay58 (k0_pay76 (pt i) (k0_pay57 xc w) xs S) B (0#32) X)) = vscale (vamax (res_1 i xc w xs S B X)) := rfl

theorem hw_1 : k0_pay85 (k0_pay82 (k0_pay78 (pt i) k0_pay58 (k0_pay76 (pt i) (k0_pay57 xc w) xs S) B (0#32) X) (k0_pay80 (k0_pay78 (pt i) k0_pay58 (k0_pay76 (pt i) (k0_pay57 xc w) xs S) B (0#32) X) (k0_pay79 (pt i) k0_pay58 (k0_pay76 (pt i) (k0_pay57 xc w) xs S) B (0#32) X))) (k0_pay83 (k0_pay77 (pt i) (k0_pay76 (pt i) (k0_pay57 xc w) xs S) B (0#32) X) (k0_pay78 (pt i) k0_pay58 (k0_pay76 (pt i) (k0_pay57 xc w) xs S) B (0#32) X) (k0_pay80 (k0_pay78 (pt i) k0_pay58 (k0_pay76 (pt i) (k0_pay57 xc w) xs S) B (0#32) X) (k0_pay79 (pt i) k0_pay58 (k0_pay76 (pt i) (k0_pay57 xc w) xs S) B (0#32) X))) = hwOf (res_1 i xc w xs S B X) := rfl

theorem hc_2 : k0_pay98 (k0_pay97 (k0_pay89 (pt i) (k0_pay87 (pt i) (k0_pay57 xc w) xs S) B (Scalar.cmpi .eq (pt i) 0#32) (k0_pay88 B) X) (k0_pay90 (pt i) k0_pay58 (k0_pay87 (pt i) (k0_pay57 xc w) xs S) B (Scalar.cmpi .eq (pt i) 0#32) (k0_pay88 B) X) (k0_pay93 (k0_pay90 (pt i) k0_pay58 (k0_pay87 (pt i) (k0_pay57 xc w) xs S) B (Scalar.cmpi .eq (pt i) 0#32) (k0_pay88 B) X) (k0_pay91 (pt i) k0_pay58 (k0_pay87 (pt i) (k0_pay57 xc w) xs S) B (Scalar.cmpi .eq (pt i) 0#32) (k0_pay88 B) X) k0_pay92) k0_pay94) = hcOf (res_2 i xc w xs S B X) := rfl

theorem sc_2 : k0_pay96 (k0_pay90 (pt i) k0_pay58 (k0_pay87 (pt i) (k0_pay57 xc w) xs S) B (Scalar.cmpi .eq (pt i) 0#32) (k0_pay88 B) X) (k0_pay93 (k0_pay90 (pt i) k0_pay58 (k0_pay87 (pt i) (k0_pay57 xc w) xs S) B (Scalar.cmpi .eq (pt i) 0#32) (k0_pay88 B) X) (k0_pay91 (pt i) k0_pay58 (k0_pay87 (pt i) (k0_pay57 xc w) xs S) B (Scalar.cmpi .eq (pt i) 0#32) (k0_pay88 B) X) k0_pay92) k0_pay94 = vscale (vamax (res_2 i xc w xs S B X)) := rfl

theorem hw_2 : k0_pay99 (k0_pay96 (k0_pay90 (pt i) k0_pay58 (k0_pay87 (pt i) (k0_pay57 xc w) xs S) B (Scalar.cmpi .eq (pt i) 0#32) (k0_pay88 B) X) (k0_pay93 (k0_pay90 (pt i) k0_pay58 (k0_pay87 (pt i) (k0_pay57 xc w) xs S) B (Scalar.cmpi .eq (pt i) 0#32) (k0_pay88 B) X) (k0_pay91 (pt i) k0_pay58 (k0_pay87 (pt i) (k0_pay57 xc w) xs S) B (Scalar.cmpi .eq (pt i) 0#32) (k0_pay88 B) X) k0_pay92) k0_pay94) (k0_pay97 (k0_pay89 (pt i) (k0_pay87 (pt i) (k0_pay57 xc w) xs S) B (Scalar.cmpi .eq (pt i) 0#32) (k0_pay88 B) X) (k0_pay90 (pt i) k0_pay58 (k0_pay87 (pt i) (k0_pay57 xc w) xs S) B (Scalar.cmpi .eq (pt i) 0#32) (k0_pay88 B) X) (k0_pay93 (k0_pay90 (pt i) k0_pay58 (k0_pay87 (pt i) (k0_pay57 xc w) xs S) B (Scalar.cmpi .eq (pt i) 0#32) (k0_pay88 B) X) (k0_pay91 (pt i) k0_pay58 (k0_pay87 (pt i) (k0_pay57 xc w) xs S) B (Scalar.cmpi .eq (pt i) 0#32) (k0_pay88 B) X) k0_pay92) k0_pay94) = hwOf (res_2 i xc w xs S B X) := rfl

theorem hc_3 : k0_pay112 (k0_pay103 (k0_pay101 (pt i) (k0_pay57 xc w) xs S) B (Scalar.cmpi .eq (pt i) 0#32) (k0_pay102 B) (Scalar.cmpi .eq (pt i) 1#32) X) (k0_pay104 k0_pay58 (k0_pay101 (pt i) (k0_pay57 xc w) xs S) B (Scalar.cmpi .eq (pt i) 0#32) (k0_pay102 B) (Scalar.cmpi .eq (pt i) 1#32) X) (k0_pay107 (k0_pay104 k0_pay58 (k0_pay101 (pt i) (k0_pay57 xc w) xs S) B (Scalar.cmpi .eq (pt i) 0#32) (k0_pay102 B) (Scalar.cmpi .eq (pt i) 1#32) X) (k0_pay105 k0_pay58 (k0_pay101 (pt i) (k0_pay57 xc w) xs S) B (Scalar.cmpi .eq (pt i) 0#32) (k0_pay102 B) (Scalar.cmpi .eq (pt i) 1#32) X) (k0_pay106 k0_pay58 (k0_pay101 (pt i) (k0_pay57 xc w) xs S) B (Scalar.cmpi .eq (pt i) 0#32) (k0_pay102 B) (Scalar.cmpi .eq (pt i) 1#32) X) 23#32) (k0_pay108 (k0_pay104 k0_pay58 (k0_pay101 (pt i) (k0_pay57 xc w) xs S) B (Scalar.cmpi .eq (pt i) 0#32) (k0_pay102 B) (Scalar.cmpi .eq (pt i) 1#32) X) (k0_pay105 k0_pay58 (k0_pay101 (pt i) (k0_pay57 xc w) xs S) B (Scalar.cmpi .eq (pt i) 0#32) (k0_pay102 B) (Scalar.cmpi .eq (pt i) 1#32) X) (k0_pay106 k0_pay58 (k0_pay101 (pt i) (k0_pay57 xc w) xs S) B (Scalar.cmpi .eq (pt i) 0#32) (k0_pay102 B) (Scalar.cmpi .eq (pt i) 1#32) X) 23#32) 23#32 = hcOf (res_3 i xc w xs S B X) := rfl

theorem sc_3 : k0_pay110 (k0_pay104 k0_pay58 (k0_pay101 (pt i) (k0_pay57 xc w) xs S) B (Scalar.cmpi .eq (pt i) 0#32) (k0_pay102 B) (Scalar.cmpi .eq (pt i) 1#32) X) (k0_pay107 (k0_pay104 k0_pay58 (k0_pay101 (pt i) (k0_pay57 xc w) xs S) B (Scalar.cmpi .eq (pt i) 0#32) (k0_pay102 B) (Scalar.cmpi .eq (pt i) 1#32) X) (k0_pay105 k0_pay58 (k0_pay101 (pt i) (k0_pay57 xc w) xs S) B (Scalar.cmpi .eq (pt i) 0#32) (k0_pay102 B) (Scalar.cmpi .eq (pt i) 1#32) X) (k0_pay106 k0_pay58 (k0_pay101 (pt i) (k0_pay57 xc w) xs S) B (Scalar.cmpi .eq (pt i) 0#32) (k0_pay102 B) (Scalar.cmpi .eq (pt i) 1#32) X) 23#32) (k0_pay108 (k0_pay104 k0_pay58 (k0_pay101 (pt i) (k0_pay57 xc w) xs S) B (Scalar.cmpi .eq (pt i) 0#32) (k0_pay102 B) (Scalar.cmpi .eq (pt i) 1#32) X) (k0_pay105 k0_pay58 (k0_pay101 (pt i) (k0_pay57 xc w) xs S) B (Scalar.cmpi .eq (pt i) 0#32) (k0_pay102 B) (Scalar.cmpi .eq (pt i) 1#32) X) (k0_pay106 k0_pay58 (k0_pay101 (pt i) (k0_pay57 xc w) xs S) B (Scalar.cmpi .eq (pt i) 0#32) (k0_pay102 B) (Scalar.cmpi .eq (pt i) 1#32) X) 23#32) 23#32 = vscale (vamax (res_3 i xc w xs S B X)) := rfl

theorem hw_3 : k0_pay1 (k0_pay110 (k0_pay104 k0_pay58 (k0_pay101 (pt i) (k0_pay57 xc w) xs S) B (Scalar.cmpi .eq (pt i) 0#32) (k0_pay102 B) (Scalar.cmpi .eq (pt i) 1#32) X) (k0_pay107 (k0_pay104 k0_pay58 (k0_pay101 (pt i) (k0_pay57 xc w) xs S) B (Scalar.cmpi .eq (pt i) 0#32) (k0_pay102 B) (Scalar.cmpi .eq (pt i) 1#32) X) (k0_pay105 k0_pay58 (k0_pay101 (pt i) (k0_pay57 xc w) xs S) B (Scalar.cmpi .eq (pt i) 0#32) (k0_pay102 B) (Scalar.cmpi .eq (pt i) 1#32) X) (k0_pay106 k0_pay58 (k0_pay101 (pt i) (k0_pay57 xc w) xs S) B (Scalar.cmpi .eq (pt i) 0#32) (k0_pay102 B) (Scalar.cmpi .eq (pt i) 1#32) X) 23#32) (k0_pay108 (k0_pay104 k0_pay58 (k0_pay101 (pt i) (k0_pay57 xc w) xs S) B (Scalar.cmpi .eq (pt i) 0#32) (k0_pay102 B) (Scalar.cmpi .eq (pt i) 1#32) X) (k0_pay105 k0_pay58 (k0_pay101 (pt i) (k0_pay57 xc w) xs S) B (Scalar.cmpi .eq (pt i) 0#32) (k0_pay102 B) (Scalar.cmpi .eq (pt i) 1#32) X) (k0_pay106 k0_pay58 (k0_pay101 (pt i) (k0_pay57 xc w) xs S) B (Scalar.cmpi .eq (pt i) 0#32) (k0_pay102 B) (Scalar.cmpi .eq (pt i) 1#32) X) 23#32) 23#32) (k0_pay111 (k0_pay103 (k0_pay101 (pt i) (k0_pay57 xc w) xs S) B (Scalar.cmpi .eq (pt i) 0#32) (k0_pay102 B) (Scalar.cmpi .eq (pt i) 1#32) X) (k0_pay104 k0_pay58 (k0_pay101 (pt i) (k0_pay57 xc w) xs S) B (Scalar.cmpi .eq (pt i) 0#32) (k0_pay102 B) (Scalar.cmpi .eq (pt i) 1#32) X) (k0_pay107 (k0_pay104 k0_pay58 (k0_pay101 (pt i) (k0_pay57 xc w) xs S) B (Scalar.cmpi .eq (pt i) 0#32) (k0_pay102 B) (Scalar.cmpi .eq (pt i) 1#32) X) (k0_pay105 k0_pay58 (k0_pay101 (pt i) (k0_pay57 xc w) xs S) B (Scalar.cmpi .eq (pt i) 0#32) (k0_pay102 B) (Scalar.cmpi .eq (pt i) 1#32) X) (k0_pay106 k0_pay58 (k0_pay101 (pt i) (k0_pay57 xc w) xs S) B (Scalar.cmpi .eq (pt i) 0#32) (k0_pay102 B) (Scalar.cmpi .eq (pt i) 1#32) X) 23#32) (k0_pay108 (k0_pay104 k0_pay58 (k0_pay101 (pt i) (k0_pay57 xc w) xs S) B (Scalar.cmpi .eq (pt i) 0#32) (k0_pay102 B) (Scalar.cmpi .eq (pt i) 1#32) X) (k0_pay105 k0_pay58 (k0_pay101 (pt i) (k0_pay57 xc w) xs S) B (Scalar.cmpi .eq (pt i) 0#32) (k0_pay102 B) (Scalar.cmpi .eq (pt i) 1#32) X) (k0_pay106 k0_pay58 (k0_pay101 (pt i) (k0_pay57 xc w) xs S) B (Scalar.cmpi .eq (pt i) 0#32) (k0_pay102 B) (Scalar.cmpi .eq (pt i) 1#32) X) 23#32) 23#32) = hwOf (res_3 i xc w xs S B X) := rfl

end

section
variable (prev sc : FVec Ideal S128x128 .f32)

theorem pack_0 : k0_pay75 (iota .tc S128x128 32 [1] iota_S128x128_d1_w32) k0_pay59 prev sc = vpack 0#32 4#32 prev sc := rfl
theorem pack_1 : k0_pay86 (iota .tc S128x128 32 [1] iota_S128x128_d1_w32) k0_pay59 prev sc = vpack 4#32 8#32 prev sc := rfl
theorem pack_2 : k0_pay100 (iota .tc S128x128 32 [1] iota_S128x128_d1_w32) k0_pay59 prev sc = vpack 8#32 12#32 prev sc := rfl
theorem pack_3 : k0_pay2 (iota .tc S128x128 32 [1] iota_S128x128_d1_w32) k0_pay59 prev sc
    = shapeCast S1x16x128 (extractStridedSlice S16x128 ![0, 0] (transpose S128x128 [1, 0] (vpack 12#32 16#32 prev sc) transposes_S128x128_p1_0_S128x128) slices_S128x128_o0_0_S16x128) shapeCasts_S16x128_S1x16x128 := rfl
end

end Cert.ResidualIdeal.Value

end
-- ==== Proof.ResOut.lean ====
/-
  What a grid point stores of its block of 512 columns: the codes, the scales and the values of the block's residual, as
  functions of the residual's entries.
-/
module

public import proofs.«01_k».proof.Proof.ResCodes
public import proofs.«01_k».proof.Proof.ResChunk

@[expose] public section

set_option maxRecDepth 16384

noncomputable section

open Idealize.ShloMosaic Idealize.ShloMosaic.TcCoe Idealize.SL.Sem

namespace Cert.ResidualIdeal.Value

open Cert.ResidualIdeal Cert.ResidualIdeal.Gen
open Cert.Scale (scale inv code gated mag c448)

/-! ## A block's three results from its residual -/

/-- A group's largest magnitude over 448. -/
def gmx (H : Fin 128 → Fin 512 → EReal) (b : Fin 128) (g : Fin 16) : EReal :=
  (Finset.univ.sup fun t : Fin 32 => mag (H b ⟨32 * g.val + t.val, by omega⟩)) * c448

/-- The group of a column. -/
abbrev grp (n : Fin 512) : Fin 16 := ⟨n.val / 32, by omega⟩

/-- The codes, the scales and the values. -/
def hcW (H : Fin 128 → Fin 512 → EReal) : Vec Ideal S1x128x512 .fp8e4m3 := fun y => code (H (y 1) (y 2)) (gmx H (y 1) (grp (y 2)))
def hstW (H : Fin 128 → Fin 512 → EReal) : Vec Ideal S1x16x128 .f32 := fun y => scale (gmx H (y 2) (y 1))
def hwW (H : Fin 128 → Fin 512 → EReal) : Vec Ideal S1x128x512 .bf16 := fun y =>
  code (H (y 1) (y 2)) (gmx H (y 1) (grp (y 2))) * scale (gmx H (y 1) (grp (y 2)))

/-- A chunk of 128 columns of the block. -/
abbrev Chunk (H : Fin 128 → Fin 512 → EReal) (q : ℕ) (hq : q < 4) (h : FVec Ideal S128x128 .f32) : Prop :=
  ∀ b l : Fin 128, (h (ix2 b l) : EReal) = H b ⟨128 * q + l.val, by omega⟩

theorem amax_chunk {H : Fin 128 → Fin 512 → EReal} {q : ℕ} {hq : q < 4} {h : FVec Ideal S128x128 .f32} (hh : Chunk H q hq h) (b l : Fin 128) :
    (vamax h (ix2 b l) : EReal) = gmx H b ⟨4 * q + l.val / 32, by omega⟩ := by
  rw [vamax_apply]
  unfold gmx
  refine congrArg (fun e : EReal => e * c448) (Finset.sup_congr rfl fun t _ => ?_)
  rw [hh]
  refine congrArg (fun n => mag (H b n)) (Fin.ext ?_)
  show 128 * q + (32 * (l.val / 32) + t.val) = 32 * (4 * q + l.val / 32) + t.val
  omega

theorem piece_hc {H : Fin 128 → Fin 512 → EReal} {q : ℕ} {hq : q < 4} {h : FVec Ideal S128x128 .f32} (hh : Chunk H q hq h) (o : ℕ) (ho : o = 128 * q)
    (inb : ∀ a, (![0, 0, o] : Fin 3 → ℕ) a + (![1, 128, 128] : Fin 3 → ℕ) a ≤ S1x128x512.size a)
    (x : (Rect.unit (s := S1x128x512) ![0, 0, o] ![1, 128, 128] inb).shape.Idx) :
    hcOf h x = hcW H ((Rect.unit (s := S1x128x512) ![0, 0, o] ![1, 128, 128] inb).emb x) := by
  subst ho
  have e : (x : S1x128x128.Idx) = ix3 (x 0) (x 1) (x 2) := by
    funext a
    fin_cases a <;> rfl
  have h1 : ((Rect.unit (s := S1x128x512) ![0, 0, 128 * q] ![1, 128, 128] inb).emb x) 1 = x 1 := Fin.ext (by show 0 + 1 * (x 1).val = (x 1).val; omega)
  have x2 : (x 2).val < 128 := (x 2).isLt
  have h2 : ((Rect.unit (s := S1x128x512) ![0, 0, 128 * q] ![1, 128, 128] inb).emb x) 2 = (⟨128 * q + (x 2).val, by omega⟩ : Fin 512) :=
    Fin.ext (by show 128 * q + 1 * (x 2).val = 128 * q + (x 2).val; omega)
  have hs : hcOf h x = (vcodes h (vamax h)) (ix2 (x 1) (x 2)) := by
    unfold hcOf
    generalize vcodes h (vamax h) = v
    refine (congrArg (shapeCast S1x128x128 v shapeCasts_S128x128_S1x128x128) e).trans ?_
    generalize hb : (x 1 : Fin 128) = b
    generalize hl : (x 2 : Fin 128) = l
    generalize hz0 : (x 0 : Fin 1) = z
    pointwise
  rw [hs]
  refine (vcodes_apply _ _ _).trans ?_
  unfold hcW
  rw [h1, h2, hh (x 1) (x 2), amax_chunk hh (x 1) (x 2)]
  refine congrArg (fun g => code _ (gmx H (x 1) g)) (Fin.ext ?_)
  show 4 * q + (x 2).val / 32 = (128 * q + (x 2).val) / 32
  omega

theorem piece_hw {H : Fin 128 → Fin 512 → EReal} {q : ℕ} {hq : q < 4} {h : FVec Ideal S128x128 .f32} (hh : Chunk H q hq h) (o : ℕ) (ho : o = 128 * q)
    (inb : ∀ a, (![0, 0, o] : Fin 3 → ℕ) a + (![1, 128, 128] : Fin 3 → ℕ) a ≤ S1x128x512.size a)
    (x : (Rect.unit (s := S1x128x512) ![0, 0, o] ![1, 128, 128] inb).shape.Idx) :
    hwOf h x = hwW H ((Rect.unit (s := S1x128x512) ![0, 0, o] ![1, 128, 128] inb).emb x) := by
  subst ho
  have e : (x : S1x128x128.Idx) = ix3 (x 0) (x 1) (x 2) := by
    funext a
    fin_cases a <;> rfl
  have h1 : ((Rect.unit (s := S1x128x512) ![0, 0, 128 * q] ![1, 128, 128] inb).emb x) 1 = x 1 := Fin.ext (by show 0 + 1 * (x 1).val = (x 1).val; omega)
  have x2 : (x 2).val < 128 := (x 2).isLt
  have h2 : ((Rect.unit (s := S1x128x512) ![0, 0, 128 * q] ![1, 128, 128] inb).emb x) 2 = (⟨128 * q + (x 2).val, by omega⟩ : Fin 512) :=
    Fin.ext (by show 128 * q + 1 * (x 2).val = 128 * q + (x 2).val; omega)
  have hs : (hwOf h x : EReal) = (vcodes h (vamax h) (ix2 (x 1) (x 2)) : EReal) * (vscale (vamax h) (ix2 (x 1) (x 2)) : EReal) := by
    unfold hwOf
    generalize vcodes h (vamax h) = v
    generalize vscale (vamax h) = w
    refine (congrArg (shapeCast S1x128x128 _ shapeCasts_S128x128_S1x128x128) e).trans ?_
    generalize hb : (x 1 : Fin 128) = b
    generalize hl : (x 2 : Fin 128) = l
    generalize hz0 : (x 0 : Fin 1) = z
    pointwise
  refine hs.trans ?_
  unfold hwW
  rw [vcodes_apply, vscale_apply, h1, h2, hh (x 1) (x 2), amax_chunk hh (x 1) (x 2)]
  refine congrArg (fun g => code _ (gmx H (x 1) g) * scale (gmx H (x 1) g)) (Fin.ext ?_)
  show 4 * q + (x 2).val / 32 = (128 * q + (x 2).val) / 32
  omega

section
variable {H : Fin 128 → Fin 512 → EReal} {h0 h1 h2 h3 : FVec Ideal S128x128 .f32}

def hcpieces (h0 h1 h2 h3 : FVec Ideal S128x128 .f32) : List (View.Piece (Elt Ideal) S1x128x512 .fp8e4m3) := [
  ⟨Rect.unit ![0, 0, 384] ![1, 128, 128] inb_S1x128x512_S1x128x128_0_0_384, hcOf h3⟩,
  ⟨Rect.unit ![0, 0, 256] ![1, 128, 128] inb_S1x128x512_S1x128x128_0_0_256, hcOf h2⟩,
  ⟨Rect.unit ![0, 0, 128] ![1, 128, 128] inb_S1x128x512_S1x128x128_0_0_128, hcOf h1⟩,
  ⟨Rect.unit ![0, 0, 0] ![1, 128, 128] inb_S1x128x512_S1x128x128_0_0_0, hcOf h0⟩]

def hwpieces (h0 h1 h2 h3 : FVec Ideal S128x128 .f32) : List (View.Piece (Elt Ideal) S1x128x512 .bf16) := [
  ⟨Rect.unit ![0, 0, 384] ![1, 128, 128] inb_S1x128x512_S1x128x128_0_0_384, hwOf h3⟩,
  ⟨Rect.unit ![0, 0, 256] ![1, 128, 128] inb_S1x128x512_S1x128x128_0_0_256, hwOf h2⟩,
  ⟨Rect.unit ![0, 0, 128] ![1, 128, 128] inb_S1x128x512_S1x128x128_0_0_128, hwOf h1⟩,
  ⟨Rect.unit ![0, 0, 0] ![1, 128, 128] inb_S1x128x512_S1x128x128_0_0_0, hwOf h0⟩]

theorem canon_hc (c0 : Chunk H 0 (by decide) h0) (c1 : Chunk H 1 (by decide) h1) (c2 : Chunk H 2 (by decide) h2) (c3 : Chunk H 3 (by decide) h3) :
    View.canon (hcpieces h0 h1 h2 h3) = hcW H := by
  funext y
  refine View.canon_apply_of_pieces (hcW H) _ ?_ y (View.cover_of_tiledL (hcpieces h0 h1 h2 h3) S1x128x128.size (by sl_kernel_rfl) y)
  unfold hcpieces
  simp only [List.forall_mem_cons]
  exact ⟨fun x => piece_hc c3 384 rfl _ x, fun x => piece_hc c2 256 rfl _ x, fun x => piece_hc c1 128 rfl _ x, fun x => piece_hc c0 0 rfl _ x,
    fun p hp => absurd hp List.not_mem_nil⟩

theorem canon_hw (c0 : Chunk H 0 (by decide) h0) (c1 : Chunk H 1 (by decide) h1) (c2 : Chunk H 2 (by decide) h2) (c3 : Chunk H 3 (by decide) h3) :
    View.canon (hwpieces h0 h1 h2 h3) = hwW H := by
  funext y
  refine View.canon_apply_of_pieces (hwW H) _ ?_ y (View.cover_of_tiledL (hwpieces h0 h1 h2 h3) S1x128x128.size (by sl_kernel_rfl) y)
  unfold hwpieces
  simp only [List.forall_mem_cons]
  exact ⟨fun x => piece_hw c3 384 rfl _ x, fun x => piece_hw c2 256 rfl _ x, fun x => piece_hw c1 128 rfl _ x, fun x => piece_hw c0 0 rfl _ x,
    fun p hp => absurd hp List.not_mem_nil⟩

/-- The scales of four chunks in sixteen lanes, as the rows of a block. -/
def packed (h0 h1 h2 h3 : FVec Ideal S128x128 .f32) : Vec Ideal S1x16x128 .f32 :=
  shapeCast S1x16x128 (extractStridedSlice S16x128 ![0, 0] (transpose S128x128 [1, 0]
    (vpack 12#32 16#32 (vpack 8#32 12#32 (vpack 4#32 8#32 (vpack 0#32 4#32 (k0_pay60 (F := Ideal)) (vscale (vamax h0))) (vscale (vamax h1))) (vscale (vamax h2))) (vscale (vamax h3)))
    transposes_S128x128_p1_0_S128x128) slices_S128x128_o0_0_S16x128) shapeCasts_S16x128_S1x16x128

theorem rows_apply (v : FVec Ideal S128x128 .f32) (z : Fin 1) (g : Fin 16) (b : Fin 128) :
    (shapeCast S1x16x128 (extractStridedSlice S16x128 ![0, 0] (transpose S128x128 [1, 0] v transposes_S128x128_p1_0_S128x128) slices_S128x128_o0_0_S16x128)
      shapeCasts_S16x128_S1x16x128 (ix3 z g b) : EReal) = v (ix2 b ⟨g.val, by omega⟩) := by
  pointwise

theorem lane_scale {q : ℕ} {hq : q < 4} {h : FVec Ideal S128x128 .f32} (hh : Chunk H q hq h) (b : Fin 128) (g : Fin 16) (hg : g.val / 4 = q)
    (l : Fin 128) (hl : l.val = 32 * (g.val % 4)) : (vscale (vamax h) (ix2 b l) : EReal) = scale (gmx H b g) := by
  rw [vscale_apply, amax_chunk hh]
  exact congrArg (fun g => scale (gmx H b g)) (Fin.ext (by show 4 * q + l.val / 32 = g.val; omega))

theorem packs_apply (c0 : Chunk H 0 (by decide) h0) (c1 : Chunk H 1 (by decide) h1) (c2 : Chunk H 2 (by decide) h2) (c3 : Chunk H 3 (by decide) h3)
    (g : Fin 16) (b : Fin 128) :
    (vpack 12#32 16#32 (vpack 8#32 12#32 (vpack 4#32 8#32 (vpack 0#32 4#32 (k0_pay60 (F := Ideal)) (vscale (vamax h0))) (vscale (vamax h1))) (vscale (vamax h2)))
      (vscale (vamax h3)) (ix2 b ⟨g.val, by omega⟩) : EReal) = scale (gmx H b g) := by
  have s0 := fun hg l hl => lane_scale c0 b g hg l hl
  have s1 := fun hg l hl => lane_scale c1 b g hg l hl
  have s2 := fun hg l hl => lane_scale c2 b g hg l hl
  have s3 := fun hg l hl => lane_scale c3 b g hg l hl
  generalize vscale (vamax h0) = v0 at s0 ⊢
  generalize vscale (vamax h1) = v1 at s1 ⊢
  generalize vscale (vamax h2) = v2 at s2 ⊢
  generalize vscale (vamax h3) = v3 at s3 ⊢
  generalize k0_pay60 (F := Ideal) = p
  refine (vpack_apply 3 _ _ b _).trans ?_
  by_cases g3 : g.val / 4 = 3
  · exact (if_pos g3).trans (s3 g3 _ rfl)
  refine (if_neg g3).trans ((vpack_apply 2 _ _ b _).trans ?_)
  by_cases g2 : g.val / 4 = 2
  · exact (if_pos g2).trans (s2 g2 _ rfl)
  refine (if_neg g2).trans ((vpack_apply 1 _ _ b _).trans ?_)
  by_cases g1 : g.val / 4 = 1
  · exact (if_pos g1).trans (s1 g1 _ rfl)
  refine (if_neg g1).trans ((vpack_apply 0 _ _ b _).trans ?_)
  have g0 : g.val / 4 = 0 := by omega
  exact (if_pos g0).trans (s0 g0 _ rfl)

theorem packed_eq (c0 : Chunk H 0 (by decide) h0) (c1 : Chunk H 1 (by decide) h1) (c2 : Chunk H 2 (by decide) h2) (c3 : Chunk H 3 (by decide) h3) :
    packed h0 h1 h2 h3 = hstW H := by
  have h : ∀ (z : Fin 1) (g : Fin 16) (b : Fin 128), (packed h0 h1 h2 h3 (ix3 z g b) : EReal) = scale (gmx H b g) := fun z g b =>
    (rows_apply _ z g b).trans (packs_apply c0 c1 c2 c3 g b)
  funext y
  have e : y = ix3 (y 0) (y 1) (y 2) := by
    funext a
    fin_cases a <;> rfl
  exact (congrArg (packed h0 h1 h2 h3) e).trans (h (y 0) (y 1) (y 2))

end

/-! ## The residual's entries -/

/-- The first column of a chunk, as the kernel computes it. -/
abbrev off (i : grid0.Coords) (n : BitVec 32) : ℕ :=
  BitVec.toNat (Scalar.indexCast (Scalar.addi (Scalar.muli (BitVec.ofNat 32 (i 1).val) 512#32) n))

theorem off_eq (i : grid0.Coords) (q : Fin 4) : off i (BitVec.ofNat 32 (128 * q.val)) = 512 * (i 1).val + 128 * q.val := by
  have h : ∀ (n : Fin 10) (q : Fin 4), BitVec.toNat (Scalar.indexCast (Scalar.addi (Scalar.muli (BitVec.ofNat 32 n.val) 512#32) (BitVec.ofNat 32 (128 * q.val))))
      = 512 * n.val + 128 * q.val := by decide +kernel
  exact h (i 1) q

/-- A column of the block, in the whole row. -/
def col (i : grid0.Coords) (n : Fin 512) : Fin 5120 := ⟨512 * (i 1).val + n.val, by have : (i 1).val < 10 := (i 1).isLt; omega⟩

/-- The product of the codes and the weights. -/
def acc (xc : Vec Ideal S128x5120 .fp8e4m3) (w : Vec Ideal S1x5120x512 .fp8e4m3) (b : Fin 128) (n : Fin 512) : EReal := k0_pay57 xc w (ix2 b n)

/-- The residual of a block. -/
def resH (i : grid0.Coords) (x0 : Vec Ideal S128x5120 .bf16) (xc : Vec Ideal S128x5120 .fp8e4m3) (w : Vec Ideal S1x5120x512 .fp8e4m3) (xs : Vec Ideal S128x128 .f32)
    (x2 x3 : Vec Ideal S3x5120 .f32) (b : Fin 128) (n : Fin 512) : EReal :=
  gated (x0 (ix2 b (col i n))) (acc xc w b n * (xs (ix2 b ⟨n.val % 128, by omega⟩) : EReal) * (x2 (ix2 (i 0) (col i n)) : EReal) + (x3 (ix2 (i 0) (col i n)) : EReal))

theorem inb3 (i : grid0.Coords) (q : Fin 4) : ∀ a, (![0, off i (BitVec.ofNat 32 (128 * q.val))] : Fin 2 → ℕ) a + (![3, 128] : Fin 2 → ℕ) a ≤ S3x5120.size a := by
  intro a
  have h1 : (i 1).val < 10 := (i 1).isLt
  match a with
  | ⟨0, _⟩ => show 0 + 3 ≤ 3; omega
  | ⟨1, _⟩ => show off i (BitVec.ofNat 32 (128 * q.val)) + 128 ≤ 5120; rw [off_eq]; omega

theorem inb128 (i : grid0.Coords) (q : Fin 4) : ∀ a, (![0, off i (BitVec.ofNat 32 (128 * q.val))] : Fin 2 → ℕ) a + (![128, 128] : Fin 2 → ℕ) a ≤ S128x5120.size a := by
  intro a
  have h1 : (i 1).val < 10 := (i 1).isLt
  match a with
  | ⟨0, _⟩ => show 0 + 128 ≤ 128; omega
  | ⟨1, _⟩ => show off i (BitVec.ofNat 32 (128 * q.val)) + 128 ≤ 5120; rw [off_eq]; omega

theorem ld3 (i : grid0.Coords) (q : Fin 4) (x : Vec Ideal S3x5120 .f32) (k : Fin 3) (l : Fin 128) :
    (View.ld x (Rect.unit ![0, off i (BitVec.ofNat 32 (128 * q.val))] ![3, 128] (inb3 i q)) (ix2 k l) : EReal) = x (ix2 k (col i ⟨128 * q.val + l.val, by omega⟩)) := by
  refine congrArg x (funext fun a => Fin.ext ?_)
  match a with
  | ⟨0, _⟩ => show 0 + 1 * k.val = k.val; omega
  | ⟨1, _⟩ => show off i (BitVec.ofNat 32 (128 * q.val)) + 1 * l.val = 512 * (i 1).val + (128 * q.val + l.val); rw [off_eq]; omega

theorem ld128 (i : grid0.Coords) (q : Fin 4) (x : Vec Ideal S128x5120 .bf16) (k l : Fin 128) :
    (View.ld x (Rect.unit ![0, off i (BitVec.ofNat 32 (128 * q.val))] ![128, 128] (inb128 i q)) (ix2 k l) : EReal) = x (ix2 k (col i ⟨128 * q.val + l.val, by omega⟩)) := by
  refine congrArg x (funext fun a => Fin.ext ?_)
  match a with
  | ⟨0, _⟩ => show 0 + 1 * k.val = k.val; omega
  | ⟨1, _⟩ => show off i (BitVec.ofNat 32 (128 * q.val)) + 1 * l.val = 512 * (i 1).val + (128 * q.val + l.val); rw [off_eq]; omega

section
variable (i : grid0.Coords) (x0 : Vec Ideal S128x5120 .bf16) (xc : Vec Ideal S128x5120 .fp8e4m3) (w : Vec Ideal S1x5120x512 .fp8e4m3) (xs : Vec Ideal S128x128 .f32)
    (x2 x3 : Vec Ideal S3x5120 .f32)

/-- Chunk 0's residual, from the whole arrays. -/
def chunk_0 : FVec Ideal S128x128 .f32 :=
  res_0 i xc w xs (View.ld x2 (Rect.unit ![0, off i 0#32] ![3, 128] (inb3 i 0))) (View.ld x3 (Rect.unit ![0, off i 0#32] ![3, 128] (inb3 i 0)))
    (View.ld x0 (Rect.unit ![0, off i 0#32] ![128, 128] (inb128 i 0)))

theorem chunk_0_eq : Chunk (resH i x0 xc w xs x2 x3) 0 (by decide) (chunk_0 i x0 xc w xs x2 x3) := by
  intro b l
  unfold chunk_0 res_0 resH
  refine (vres_apply (i 0) _ xs _ _ _ b l).trans ?_
  have e2 := ld3 i 0 x2 (i 0) l
  have e3 := ld3 i 0 x3 (i 0) l
  have e0 := ld128 i 0 x0 b l
  have ea : (extractStridedSlice S128x128 ![0, 0] (k0_pay57 xc w) slices_S128x512_o0_0_S128x128 (ix2 b l) : EReal) = acc xc w b ⟨0 + l.val, by omega⟩ := by
    unfold acc
    generalize k0_pay57 xc w = v
    pointwise
  have el : (⟨(0 + l.val) % 128, by omega⟩ : Fin 128) = l := Fin.ext (by show (0 + l.val) % 128 = l.val; omega)
  refine congrArg₂ gated e0 (congrArg₂ (fun p q : EReal => p + q) (congrArg₂ (fun p q : EReal => p * q) (congrArg₂ (fun p q : EReal => p * q) ea ?_) e2) e3)
  exact congrArg (fun l => (xs (ix2 b l) : EReal)) el.symm

/-- Chunk 1's residual, from the whole arrays. -/
def chunk_1 : FVec Ideal S128x128 .f32 :=
  res_1 i xc w xs (View.ld x2 (Rect.unit ![0, off i 128#32] ![3, 128] (inb3 i 1))) (View.ld x3 (Rect.unit ![0, off i 128#32] ![3, 128] (inb3 i 1)))
    (View.ld x0 (Rect.unit ![0, off i 128#32] ![128, 128] (inb128 i 1)))

theorem chunk_1_eq : Chunk (resH i x0 xc w xs x2 x3) 1 (by decide) (chunk_1 i x0 xc w xs x2 x3) := by
  intro b l
  unfold chunk_1 res_1 resH
  refine (vres_apply (i 0) _ xs _ _ _ b l).trans ?_
  have e2 := ld3 i 1 x2 (i 0) l
  have e3 := ld3 i 1 x3 (i 0) l
  have e0 := ld128 i 1 x0 b l
  have ea : (extractStridedSlice S128x128 ![0, 128] (k0_pay57 xc w) slices_S128x512_o0_128_S128x128 (ix2 b l) : EReal) = acc xc w b ⟨128 + l.val, by omega⟩ := by
    unfold acc
    generalize k0_pay57 xc w = v
    pointwise
  have el : (⟨(128 + l.val) % 128, by omega⟩ : Fin 128) = l := Fin.ext (by show (128 + l.val) % 128 = l.val; omega)
  refine congrArg₂ gated e0 (congrArg₂ (fun p q : EReal => p + q) (congrArg₂ (fun p q : EReal => p * q) (congrArg₂ (fun p q : EReal => p * q) ea ?_) e2) e3)
  exact congrArg (fun l => (xs (ix2 b l) : EReal)) el.symm

/-- Chunk 2's residual, from the whole arrays. -/
def chunk_2 : FVec Ideal S128x128 .f32 :=
  res_2 i xc w xs (View.ld x2 (Rect.unit ![0, off i 256#32] ![3, 128] (inb3 i 2))) (View.ld x3 (Rect.unit ![0, off i 256#32] ![3, 128] (inb3 i 2)))
    (View.ld x0 (Rect.unit ![0, off i 256#32] ![128, 128] (inb128 i 2)))

theorem chunk_2_eq : Chunk (resH i x0 xc w xs x2 x3) 2 (by decide) (chunk_2 i x0 xc w xs x2 x3) := by
  intro b l
  unfold chunk_2 res_2 resH
  refine (vres_apply (i 0) _ xs _ _ _ b l).trans ?_
  have e2 := ld3 i 2 x2 (i 0) l
  have e3 := ld3 i 2 x3 (i 0) l
  have e0 := ld128 i 2 x0 b l
  have ea : (extractStridedSlice S128x128 ![0, 256] (k0_pay57 xc w) slices_S128x512_o0_256_S128x128 (ix2 b l) : EReal) = acc xc w b ⟨256 + l.val, by omega⟩ := by
    unfold acc
    generalize k0_pay57 xc w = v
    pointwise
  have el : (⟨(256 + l.val) % 128, by omega⟩ : Fin 128) = l := Fin.ext (by show (256 + l.val) % 128 = l.val; omega)
  refine congrArg₂ gated e0 (congrArg₂ (fun p q : EReal => p + q) (congrArg₂ (fun p q : EReal => p * q) (congrArg₂ (fun p q : EReal => p * q) ea ?_) e2) e3)
  exact congrArg (fun l => (xs (ix2 b l) : EReal)) el.symm

/-- Chunk 3's residual, from the whole arrays. -/
def chunk_3 : FVec Ideal S128x128 .f32 :=
  res_3 i xc w xs (View.ld x2 (Rect.unit ![0, off i 384#32] ![3, 128] (inb3 i 3))) (View.ld x3 (Rect.unit ![0, off i 384#32] ![3, 128] (inb3 i 3)))
    (View.ld x0 (Rect.unit ![0, off i 384#32] ![128, 128] (inb128 i 3)))

theorem chunk_3_eq : Chunk (resH i x0 xc w xs x2 x3) 3 (by decide) (chunk_3 i x0 xc w xs x2 x3) := by
  intro b l
  unfold chunk_3 res_3 resH
  refine (vres_apply (i 0) _ xs _ _ _ b l).trans ?_
  have e2 := ld3 i 3 x2 (i 0) l
  have e3 := ld3 i 3 x3 (i 0) l
  have e0 := ld128 i 3 x0 b l
  have ea : (extractStridedSlice S128x128 ![0, 384] (k0_pay57 xc w) slices_S128x512_o0_384_S128x128 (ix2 b l) : EReal) = acc xc w b ⟨384 + l.val, by omega⟩ := by
    unfold acc
    generalize k0_pay57 xc w = v
    pointwise
  have el : (⟨(384 + l.val) % 128, by omega⟩ : Fin 128) = l := Fin.ext (by show (384 + l.val) % 128 = l.val; omega)
  refine congrArg₂ gated e0 (congrArg₂ (fun p q : EReal => p + q) (congrArg₂ (fun p q : EReal => p * q) (congrArg₂ (fun p q : EReal => p * q) ea ?_) e2) e3)
  exact congrArg (fun l => (xs (ix2 b l) : EReal)) el.symm

end

section
variable (c : Dev nD) (i : grid0.Coords) (arg2 : Memref sig .tc .vmem S128x5120 .bf16) (harg2 : arg2.IsWhole) (arg3 : Memref sig .tc .vmem S1x5120x512 .fp8e4m3) (harg3 : arg3.IsWhole) (arg4 : Memref sig .tc .vmem S3x5120 .f32) (harg4 : arg4.IsWhole) (arg5 : Memref sig .tc .vmem S3x5120 .f32) (harg5 : arg5.IsWhole) (arg6 : Memref sig .tc .vmem S128x5120 .fp8e4m3) (harg6 : arg6.IsWhole) (arg7 : Memref sig .tc .vmem S1x128 .f32) (harg7 : arg7.IsWhole) (arg8 : Memref sig .tc .vmem S1x128x512 .fp8e4m3) (harg8 : arg8.IsWhole) (arg9 : Memref sig .tc .vmem S1x16x128 .f32) (harg9 : arg9.IsWhole) (arg10 : Memref sig .tc .vmem S1x128x512 .bf16) (harg10 : arg10.IsWhole) (arg11 : Memref sig .tc .vmem S128x128 .f32) (harg11 : arg11.IsWhole)

theorem xout0_B_6 (hc0 : ¬cond0_0 i) (x0 : Vec Ideal S128x5120 .bf16) (x1 : Vec Ideal S1x5120x512 .fp8e4m3) (x2 x3 : Vec Ideal S3x5120 .f32) (xo4 : Vec Ideal S128x5120 .fp8e4m3) (xo5 : Vec Ideal S1x128 .f32) (xs0 : Vec Ideal S128x128 .f32) : out0_B_6 c i arg2 harg2 arg3 harg3 arg4 harg4 arg5 harg5 arg6 harg6 arg7 harg7 arg8 harg8 arg9 harg9 arg10 harg10 arg11 harg11 hc0 x0 x1 x2 x3 xo4 xo5 xs0 = hcW (resH i x0 xo4 x1 xs0 x2 x3) := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 hc0 x0 x1 x2 x3 xo4 xo5 xs0)]
  unfold kernelRun0_B
  dsimp only
  sl_unfold_words
  simp only [View.readAt_eq_ld, harg2.read_unread, harg3.read_unread, harg4.read_unread, harg5.read_unread, harg6.read_unread, harg7.read_unread, harg11.read_unread, View.ld_unit_zero (S := S128x128) hz, shapeCast_self, View.ld_unit_zero (S := S128x5120) hz, View.ld_unit_zero (S := S1x5120x512) hz3, View.readCov_unit_zero (S := S128x128) _ hz, View.readCov_eq_canon', View.canon_unit_zero (S := S128x128) hz, View.canon_unit_zero (S := S1x128) hz, View.canon_unit_zero (S := S1x16x128) hz3]
  exact canon_hc (chunk_0_eq i x0 xo4 x1 xs0 x2 x3) (chunk_1_eq i x0 xo4 x1 xs0 x2 x3) (chunk_2_eq i x0 xo4 x1 xs0 x2 x3) (chunk_3_eq i x0 xo4 x1 xs0 x2 x3)

theorem xout0_A_6 (hc0 : cond0_0 i) (x0 : Vec Ideal S128x5120 .bf16) (x1 : Vec Ideal S1x5120x512 .fp8e4m3) (x2 x3 : Vec Ideal S3x5120 .f32) : out0_A_6 c i arg2 harg2 arg3 harg3 arg4 harg4 arg5 harg5 arg6 harg6 arg7 harg7 arg8 harg8 arg9 harg9 arg10 harg10 arg11 harg11 hc0 x0 x1 x2 x3 = hcW (resH i x0 (xcblk x0) x1 (k0_pay9 (F := Ideal) (expoX x0)) x2 x3) := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 hc0 x0 x1 x2 x3)]
  unfold kernelRun0_A
  dsimp only
  sl_unfold_words
  simp only [View.readAt_eq_ld, harg2.read_unread, harg3.read_unread, harg4.read_unread, harg5.read_unread, harg6.read_unread, harg7.read_unread, harg11.read_unread, View.ld_unit_zero (S := S128x128) hz, shapeCast_self, View.ld_unit_zero (S := S128x5120) hz, View.ld_unit_zero (S := S1x5120x512) hz3, View.readCov_unit_zero (S := S128x128) _ hz, View.readCov_eq_canon', View.canon_unit_zero (S := S128x128) hz, View.canon_unit_zero (S := S1x128) hz, View.canon_unit_zero (S := S1x16x128) hz3]
  have hb := box_x x0
  unfold xpieces at hb
  rw [hb]
  exact canon_hc (chunk_0_eq i x0 (xcblk x0) x1 (k0_pay9 (F := Ideal) (expoX x0)) x2 x3) (chunk_1_eq i x0 (xcblk x0) x1 (k0_pay9 (F := Ideal) (expoX x0)) x2 x3) (chunk_2_eq i x0 (xcblk x0) x1 (k0_pay9 (F := Ideal) (expoX x0)) x2 x3) (chunk_3_eq i x0 (xcblk x0) x1 (k0_pay9 (F := Ideal) (expoX x0)) x2 x3)

theorem xout0_B_7 (hc0 : ¬cond0_0 i) (x0 : Vec Ideal S128x5120 .bf16) (x1 : Vec Ideal S1x5120x512 .fp8e4m3) (x2 x3 : Vec Ideal S3x5120 .f32) (xo4 : Vec Ideal S128x5120 .fp8e4m3) (xo5 : Vec Ideal S1x128 .f32) (xs0 : Vec Ideal S128x128 .f32) : out0_B_7 c i arg2 harg2 arg3 harg3 arg4 harg4 arg5 harg5 arg6 harg6 arg7 harg7 arg8 harg8 arg9 harg9 arg10 harg10 arg11 harg11 hc0 x0 x1 x2 x3 xo4 xo5 xs0 = hstW (resH i x0 xo4 x1 xs0 x2 x3) := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 x0 x1 x2 x3 xo4 xo5 xs0)]
  unfold kernelRun0_B
  dsimp only
  sl_unfold_words
  simp only [View.readAt_eq_ld, harg2.read_unread, harg3.read_unread, harg4.read_unread, harg5.read_unread, harg6.read_unread, harg7.read_unread, harg11.read_unread, View.ld_unit_zero (S := S128x128) hz, shapeCast_self, View.ld_unit_zero (S := S128x5120) hz, View.ld_unit_zero (S := S1x5120x512) hz3, View.readCov_unit_zero (S := S128x128) _ hz, View.readCov_eq_canon', View.canon_unit_zero (S := S128x128) hz, View.canon_unit_zero (S := S1x128) hz, View.canon_unit_zero (S := S1x16x128) hz3]
  exact packed_eq (chunk_0_eq i x0 xo4 x1 xs0 x2 x3) (chunk_1_eq i x0 xo4 x1 xs0 x2 x3) (chunk_2_eq i x0 xo4 x1 xs0 x2 x3) (chunk_3_eq i x0 xo4 x1 xs0 x2 x3)

theorem xout0_A_7 (hc0 : cond0_0 i) (x0 : Vec Ideal S128x5120 .bf16) (x1 : Vec Ideal S1x5120x512 .fp8e4m3) (x2 x3 : Vec Ideal S3x5120 .f32) : out0_A_7 c i arg2 harg2 arg3 harg3 arg4 harg4 arg5 harg5 arg6 harg6 arg7 harg7 arg8 harg8 arg9 harg9 arg10 harg10 arg11 harg11 hc0 x0 x1 x2 x3 = hstW (resH i x0 (xcblk x0) x1 (k0_pay9 (F := Ideal) (expoX x0)) x2 x3) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 x0 x1 x2 x3)]
  unfold kernelRun0_A
  dsimp only
  sl_unfold_words
  simp only [View.readAt_eq_ld, harg2.read_unread, harg3.read_unread, harg4.read_unread, harg5.read_unread, harg6.read_unread, harg7.read_unread, harg11.read_unread, View.ld_unit_zero (S := S128x128) hz, shapeCast_self, View.ld_unit_zero (S := S128x5120) hz, View.ld_unit_zero (S := S1x5120x512) hz3, View.readCov_unit_zero (S := S128x128) _ hz, View.readCov_eq_canon', View.canon_unit_zero (S := S128x128) hz, View.canon_unit_zero (S := S1x128) hz, View.canon_unit_zero (S := S1x16x128) hz3]
  have hb := box_x x0
  unfold xpieces at hb
  rw [hb]
  exact packed_eq (chunk_0_eq i x0 (xcblk x0) x1 (k0_pay9 (F := Ideal) (expoX x0)) x2 x3) (chunk_1_eq i x0 (xcblk x0) x1 (k0_pay9 (F := Ideal) (expoX x0)) x2 x3) (chunk_2_eq i x0 (xcblk x0) x1 (k0_pay9 (F := Ideal) (expoX x0)) x2 x3) (chunk_3_eq i x0 (xcblk x0) x1 (k0_pay9 (F := Ideal) (expoX x0)) x2 x3)

theorem xout0_B_8 (hc0 : ¬cond0_0 i) (x0 : Vec Ideal S128x5120 .bf16) (x1 : Vec Ideal S1x5120x512 .fp8e4m3) (x2 x3 : Vec Ideal S3x5120 .f32) (xo4 : Vec Ideal S128x5120 .fp8e4m3) (xo5 : Vec Ideal S1x128 .f32) (xs0 : Vec Ideal S128x128 .f32) : out0_B_8 c i arg2 harg2 arg3 harg3 arg4 harg4 arg5 harg5 arg6 harg6 arg7 harg7 arg8 harg8 arg9 harg9 arg10 harg10 arg11 harg11 hc0 x0 x1 x2 x3 xo4 xo5 xs0 = hwW (resH i x0 xo4 x1 xs0 x2 x3) := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 hc0 x0 x1 x2 x3 xo4 xo5 xs0)]
  unfold kernelRun0_B
  dsimp only
  sl_unfold_words
  simp only [View.readAt_eq_ld, harg2.read_unread, harg3.read_unread, harg4.read_unread, harg5.read_unread, harg6.read_unread, harg7.read_unread, harg11.read_unread, View.ld_unit_zero (S := S128x128) hz, shapeCast_self, View.ld_unit_zero (S := S128x5120) hz, View.ld_unit_zero (S := S1x5120x512) hz3, View.readCov_unit_zero (S := S128x128) _ hz, View.readCov_eq_canon', View.canon_unit_zero (S := S128x128) hz, View.canon_unit_zero (S := S1x128) hz, View.canon_unit_zero (S := S1x16x128) hz3]
  exact canon_hw (chunk_0_eq i x0 xo4 x1 xs0 x2 x3) (chunk_1_eq i x0 xo4 x1 xs0 x2 x3) (chunk_2_eq i x0 xo4 x1 xs0 x2 x3) (chunk_3_eq i x0 xo4 x1 xs0 x2 x3)

theorem xout0_A_8 (hc0 : cond0_0 i) (x0 : Vec Ideal S128x5120 .bf16) (x1 : Vec Ideal S1x5120x512 .fp8e4m3) (x2 x3 : Vec Ideal S3x5120 .f32) : out0_A_8 c i arg2 harg2 arg3 harg3 arg4 harg4 arg5 harg5 arg6 harg6 arg7 harg7 arg8 harg8 arg9 harg9 arg10 harg10 arg11 harg11 hc0 x0 x1 x2 x3 = hwW (resH i x0 (xcblk x0) x1 (k0_pay9 (F := Ideal) (expoX x0)) x2 x3) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 hc0 x0 x1 x2 x3)]
  unfold kernelRun0_A
  dsimp only
  sl_unfold_words
  simp only [View.readAt_eq_ld, harg2.read_unread, harg3.read_unread, harg4.read_unread, harg5.read_unread, harg6.read_unread, harg7.read_unread, harg11.read_unread, View.ld_unit_zero (S := S128x128) hz, shapeCast_self, View.ld_unit_zero (S := S128x5120) hz, View.ld_unit_zero (S := S1x5120x512) hz3, View.readCov_unit_zero (S := S128x128) _ hz, View.readCov_eq_canon', View.canon_unit_zero (S := S128x128) hz, View.canon_unit_zero (S := S1x128) hz, View.canon_unit_zero (S := S1x16x128) hz3]
  have hb := box_x x0
  unfold xpieces at hb
  rw [hb]
  exact canon_hw (chunk_0_eq i x0 (xcblk x0) x1 (k0_pay9 (F := Ideal) (expoX x0)) x2 x3) (chunk_1_eq i x0 (xcblk x0) x1 (k0_pay9 (F := Ideal) (expoX x0)) x2 x3) (chunk_2_eq i x0 (xcblk x0) x1 (k0_pay9 (F := Ideal) (expoX x0)) x2 x3) (chunk_3_eq i x0 (xcblk x0) x1 (k0_pay9 (F := Ideal) (expoX x0)) x2 x3)

end

end Cert.ResidualIdeal.Value

end
-- ==== Proof.ResSpec.lean ====
/-
  The residual block's results, entry by entry, on the extended reals.
-/
module

public import proofs.«01_k».proof.Proof.Scale

@[expose] public section

noncomputable section

open Idealize.ShloMosaic

namespace Cert.ResSpec

open Cert.Scale (scale code gated mag c448)

variable (x : Fin 128 → Fin 5120 → EReal) (w : Fin 3 → Fin 5120 → Fin 5120 → EReal) (s b : Fin 3 → Fin 5120 → EReal)

/-- The largest magnitude of a row of `x` over 448. -/
def rowAmax (r : Fin 128) : EReal := (Finset.univ.sup fun d => mag (x r d)) * c448
/-- A code of `x`. -/
def xcode (r : Fin 128) (d : Fin 5120) : EReal := code (x r d) (rowAmax x r)
/-- The codes times a part's weights. -/
def dot (k : Fin 3) (r : Fin 128) (n : Fin 5120) : EReal := ∑ d, xcode x r d * w k d n
/-- The gated residual. -/
def res (k : Fin 3) (r : Fin 128) (n : Fin 5120) : EReal := gated (x r n) (dot x w k r n * scale (rowAmax x r) * s k n + b k n)
/-- The largest magnitude of a group of 32 columns over 448. -/
def groupAmax (k : Fin 3) (r : Fin 128) (g : Fin 160) : EReal :=
  (Finset.univ.sup fun t : Fin 32 => mag (res x w s b k r ⟨32 * g.val + t.val, by omega⟩)) * c448
/-- The group of a column. -/
abbrev grp (n : Fin 5120) : Fin 160 := ⟨n.val / 32, by omega⟩
/-- A code of the residual. -/
def hcode (k : Fin 3) (r : Fin 128) (n : Fin 5120) : EReal := code (res x w s b k r n) (groupAmax x w s b k r (grp n))

end Cert.ResSpec

end
-- ==== Proof.ResFold.lean ====
/-
  The kernel's five results, entry by entry: what the first point stores of `x` stays, every point adds its block.
-/
module

public import proofs.«01_k».proof.Proof.ResOut
public import proofs.«01_k».proof.Proof.ResSpec
public import Idealize.ShloMosaic.Lib.Pipeline.ValueKit

@[expose] public section

set_option maxRecDepth 16384

noncomputable section

open Idealize.ShloMosaic Idealize.ShloMosaic.TcCoe Idealize.SL.Sem

namespace Cert.ResidualIdeal.Value

open Cert.ResidualIdeal Cert.ResidualIdeal.Gen
open Cert.Scale (scale inv code gated mag c448)

theorem idx_in : ∀ t : Fin cfg0.N, win0_0.index t = ![0, 0] ∧ win0_1.index t = ![t.val / 10, 0, t.val % 10] ∧ win0_2.index t = ![0, 0] ∧ win0_3.index t = ![0, 0] := by
  decide +kernel

theorem coords_in : ∀ t : Fin cfg0.N, (grid0.coords t 0).val = t.val / 10 ∧ (grid0.coords t 1).val = t.val % 10 := by
  decide +kernel

variable (m : (ℓ : Loc nD τ sig) → Buf (Elt Ideal) ℓ) (c : Dev nD)

/-- The arguments. -/
abbrev A0 : Vec Ideal S128x5120 .bf16 := m ((c : Thread nD τ).loc main_arg0)
abbrev A1 : Vec Ideal S3x5120x5120 .fp8e4m3 := m ((c : Thread nD τ).loc main_arg1)
abbrev A2 : Vec Ideal S3x5120 .f32 := m ((c : Thread nD τ).loc main_arg2)
abbrev A3 : Vec Ideal S3x5120 .f32 := m ((c : Thread nD τ).loc main_arg3)

theorem ext2 {α : Type} {p q : ℕ} {f g : (⟨2, ![p, q]⟩ : Shape).Idx → α} (h : ∀ (i : Fin p) (j : Fin q), f (ix2 i j) = g (ix2 i j)) : f = g := by
  funext y
  have e : y = ix2 (y 0) (y 1) := by
    funext a
    fin_cases a <;> rfl
  rw [e]
  exact h (y 0) (y 1)

theorem blk_0 (t : Fin cfg0.N) : (iblk m c 0 t : Vec Ideal S128x5120 .bf16) = A0 m c := by
  refine ext2 fun r d => ?_
  show iblk m c 0 t (ix2 r d) = m ((c : Thread nD τ).loc main_arg0) (ix2 r d)
  rw [← V_main_arg0 m c]
  blk_ext [iblk, idx_in t]

theorem blk_2 (t : Fin cfg0.N) : (iblk m c 2 t : Vec Ideal S3x5120 .f32) = A2 m c := by
  refine ext2 fun r d => ?_
  show iblk m c 2 t (ix2 r d) = m ((c : Thread nD τ).loc main_arg2) (ix2 r d)
  rw [← V_main_arg2 m c]
  blk_ext [iblk, idx_in t]

theorem blk_3 (t : Fin cfg0.N) : (iblk m c 3 t : Vec Ideal S3x5120 .f32) = A3 m c := by
  refine ext2 fun r d => ?_
  show iblk m c 3 t (ix2 r d) = m ((c : Thread nD τ).loc main_arg3) (ix2 r d)
  rw [← V_main_arg3 m c]
  blk_ext [iblk, idx_in t]

theorem blk_1 (t : Fin cfg0.N) (d : Fin 5120) (n : Fin 512) (k : Fin 3) (col : Fin 5120) (hk : k.val = t.val / 10) (hn : col.val = 512 * (t.val % 10) + n.val) :
    iblk m c 1 t (ix3 0 d n) = m ((c : Thread nD τ).loc main_arg1) (ix3 k d col) := by
  rw [← V_main_arg1 m c]
  blk_ext [iblk, idx_in t]

theorem acc_apply (xc : Vec Ideal S128x5120 .fp8e4m3) (w : Vec Ideal S1x5120x512 .fp8e4m3) (b : Fin 128) (n : Fin 512) :
    acc xc w b n = ∑ d : Fin 5120, (xc (ix2 b d) : EReal) * (w (ix3 0 d n) : EReal) := by
  unfold acc k0_pay57
  pointwise

/-- A point's residual. -/
def hAt (t : Fin cfg0.N) : Fin 128 → Fin 512 → EReal :=
  resH (grid0.coords t) (A0 m c) (xcblk (A0 m c)) (iblk m c 1 t) (k0_pay9 (F := Ideal) (expoX (A0 m c))) (A2 m c) (A3 m c)

/-- What the stores and the scratch hold after each point. -/
theorem outs_eq (n : ℕ) (hn : n < cfg0.N) :
    outsAt0 m c n hn = (xcblk (A0 m c), k0_pay10 (F := Ideal) (expoX (A0 m c)), hcW (hAt m c ⟨n, hn⟩), hstW (hAt m c ⟨n, hn⟩), hwW (hAt m c ⟨n, hn⟩),
      k0_pay9 (F := Ideal) (expoX (A0 m c))) := by
  have hN := lt_of_lt_of_eq hn (show cfg0.N = 30 from N_0)
  unfold hAt
  induction n with
  | zero =>
    refine (outsAt0_A m c ⟨0, hn⟩ rfl).trans ?_
    rw [xout0_A_4, xout0_A_5, xout0_A_6, xout0_A_7, xout0_A_8, xsout0_A_0, blk_0, blk_2, blk_3]
  | succ n ih =>
    have h' := ih (Nat.lt_of_succ_lt hn) (by omega)
    refine (outsAt0_succ m c n hn).trans ((stAt0_B m c ⟨n + 1, hn⟩ _ (by show ¬ (n + 1) % 30 = 0; omega)).trans ?_)
    rw [h', xout0_B_6, xout0_B_7, xout0_B_8, blk_0, blk_2, blk_3]
    rfl

theorem acc_eq (n : ℕ) (hn : n < cfg0.N) (h : 0 + n < cfg0.N) :
    Pipeline.accAt (fun n h => stAt0 m c n h junk0) (stAt0 m c) 0 n h = (xcblk (A0 m c), k0_pay10 (F := Ideal) (expoX (A0 m c)), hcW (hAt m c ⟨n, hn⟩), hstW (hAt m c ⟨n, hn⟩), hwW (hAt m c ⟨n, hn⟩),
      k0_pay9 (F := Ideal) (expoX (A0 m c))) :=
  (outsAt0_sweep m c n hn).symm.trans (outs_eq m c n hn)

/-! ## Entry by entry -/

/-- The arguments' entries. -/
def xa (r : Fin 128) (d : Fin 5120) : EReal := A0 m c (ix2 r d)
def wa (k : Fin 3) (d n : Fin 5120) : EReal := A1 m c (ix3 k d n)
def sa (k : Fin 3) (n : Fin 5120) : EReal := A2 m c (ix2 k n)
def ba (k : Fin 3) (n : Fin 5120) : EReal := A3 m c (ix2 k n)

theorem rowv_eq (r : Fin 128) : rowv (A0 m c) r = ResSpec.rowAmax (xa m c) r := rfl

theorem xc_eq (r : Fin 128) (d : Fin 5120) : (xcblk (A0 m c) (ix2 r d) : EReal) = ResSpec.xcode (xa m c) r d := rfl

/-- A point's residual, at the point's columns. -/
theorem h_eq (t : Fin cfg0.N) (k : Fin 3) (r : Fin 128) (n : Fin 512) (e : Fin 5120) (hk : k.val = t.val / 10) (he : e.val = 512 * (t.val % 10) + n.val) :
    hAt m c t r n = ResSpec.res (xa m c) (wa m c) (sa m c) (ba m c) k r e := by
  have h0 : (grid0.coords t 0 : Fin 3) = k := Fin.ext ((coords_in t).1.trans hk.symm)
  have h1 : col (grid0.coords t) n = e := Fin.ext (by show 512 * (grid0.coords t 1).val + n.val = e.val; rw [(coords_in t).2, he])
  unfold hAt resH ResSpec.res
  rw [h1, acc_apply, pay9_apply]
  have hd : (∑ d : Fin 5120, (xcblk (A0 m c) (ix2 r d) : EReal) * (iblk m c 1 t (ix3 0 d n) : EReal)) = ResSpec.dot (xa m c) (wa m c) k r e :=
    Finset.sum_congr rfl fun d _ => congrArg (fun q : EReal => (xcblk (A0 m c) (ix2 r d) : EReal) * q) (blk_1 m c t d n k e hk he)
  rw [hd]
  refine congrArg₂ gated rfl (congrArg₂ (fun p q : EReal => p + q) (congrArg (fun q : EReal => ResSpec.dot (xa m c) (wa m c) k r e * Scale.scale (ResSpec.rowAmax (xa m c) r) * q) ?_) ?_)
  · exact congrArg (fun k : Fin 3 => (A2 m c (ix2 k e) : EReal)) h0
  · exact congrArg (fun k : Fin 3 => (A3 m c (ix2 k e) : EReal)) h0

theorem gmx_eq (t : Fin cfg0.N) (k : Fin 3) (r : Fin 128) (g : Fin 16) (e : Fin 160) (hk : k.val = t.val / 10) (he : e.val = 16 * (t.val % 10) + g.val) :
    gmx (hAt m c t) r g = ResSpec.groupAmax (xa m c) (wa m c) (sa m c) (ba m c) k r e := by
  unfold gmx ResSpec.groupAmax
  refine congrArg (fun q : EReal => q * c448) (Finset.sup_congr rfl fun j _ => congrArg mag (h_eq m c t k r _ _ hk ?_))
  show 32 * e.val + j.val = 512 * (t.val % 10) + (32 * g.val + j.val)
  omega

/-- The codes and the scales of `x`. -/
theorem G4_apply (r : Fin 128) (d : Fin 5120) : (G4 m c (ix2 r d) : EReal) = ResSpec.xcode (xa m c) r d := by
  rw [G4_last, acc_eq m c 29 (lt_of_lt_of_eq (by decide) N_0.symm)]
  exact xc_eq m c r d

theorem G5_apply (r : Fin 128) : (G5 m c (ix2 0 r) : EReal) = Scale.scale (ResSpec.rowAmax (xa m c) r) := by
  rw [G5_last, acc_eq m c 29 (lt_of_lt_of_eq (by decide) N_0.symm)]
  exact pay10_apply _ r

theorem pt_lt (k : Fin 3) (n : Fin 10) : 10 * k.val + n.val < cfg0.N := lt_of_lt_of_eq (by omega) N_0.symm

/-- The codes, the scales and the values of the residual. -/
theorem G6_apply (k : Fin 3) (r : Fin 128) (e : Fin 5120) : (G6 m c (ix3 k r e) : EReal) = ResSpec.hcode (xa m c) (wa m c) (sa m c) (ba m c) k r e := by
  have hp : pt6Of (ix3 k r e) = 10 * k.val + e.val / 512 := by
    show 10 * (k.val / 1 - 0) + 10 * (r.val / 128 - 0) + 1 * (e.val / 512 - 0) = _
    omega
  have hl : pt6Of (ix3 k r e) < cfg0.N := by rw [hp]; exact pt_lt k ⟨e.val / 512, by omega⟩
  unfold G6
  rw [dif_pos hl, acc_eq m c _ hl]
  show code (hAt m c ⟨_, hl⟩ ⟨r.val % 128, by omega⟩ ⟨e.val % 512, by omega⟩) (gmx (hAt m c ⟨_, hl⟩) ⟨r.val % 128, by omega⟩ ⟨e.val % 512 / 32, by omega⟩) = _
  have hr : (⟨r.val % 128, Nat.mod_lt _ (by decide)⟩ : Fin 128) = r := Fin.ext (Nat.mod_eq_of_lt r.isLt)
  rw [hr, h_eq m c ⟨_, hl⟩ k r ⟨e.val % 512, by omega⟩ e (by show k.val = pt6Of (ix3 k r e) / 10; rw [hp]; omega) (by show e.val = 512 * (pt6Of (ix3 k r e) % 10) + e.val % 512; rw [hp]; omega),
    gmx_eq m c ⟨_, hl⟩ k r ⟨e.val % 512 / 32, by omega⟩ (ResSpec.grp e) (by show k.val = pt6Of (ix3 k r e) / 10; rw [hp]; omega)
      (by show e.val / 32 = 16 * (pt6Of (ix3 k r e) % 10) + e.val % 512 / 32; rw [hp]; omega)]
  rfl

theorem G7_apply (k : Fin 3) (g : Fin 160) (r : Fin 128) :
    (G7 m c (ix3 k g r) : EReal) = Scale.scale (ResSpec.groupAmax (xa m c) (wa m c) (sa m c) (ba m c) k r g) := by
  have hp : pt7Of (ix3 k g r) = 10 * k.val + g.val / 16 := by
    show 10 * (k.val / 1 - 0) + 1 * (g.val / 16 - 0) + 1 * (r.val / 128 - 0) = _
    omega
  have hl : pt7Of (ix3 k g r) < cfg0.N := by rw [hp]; exact pt_lt k ⟨g.val / 16, by omega⟩
  unfold G7
  rw [dif_pos hl, acc_eq m c _ hl]
  show Scale.scale (gmx (hAt m c ⟨_, hl⟩) ⟨r.val % 128, by omega⟩ ⟨g.val % 16, by omega⟩) = _
  have hr : (⟨r.val % 128, Nat.mod_lt _ (by decide)⟩ : Fin 128) = r := Fin.ext (Nat.mod_eq_of_lt r.isLt)
  rw [hr, gmx_eq m c ⟨_, hl⟩ k r ⟨g.val % 16, by omega⟩ g (by show k.val = pt7Of (ix3 k g r) / 10; rw [hp]; omega)
      (by show g.val = 16 * (pt7Of (ix3 k g r) % 10) + g.val % 16; rw [hp]; omega)]

theorem G8_apply (k : Fin 3) (r : Fin 128) (e : Fin 5120) :
    (G8 m c (ix3 k r e) : EReal) = ResSpec.hcode (xa m c) (wa m c) (sa m c) (ba m c) k r e
      * Scale.scale (ResSpec.groupAmax (xa m c) (wa m c) (sa m c) (ba m c) k r (ResSpec.grp e)) := by
  have hp : pt8Of (ix3 k r e) = 10 * k.val + e.val / 512 := by
    show 10 * (k.val / 1 - 0) + 10 * (r.val / 128 - 0) + 1 * (e.val / 512 - 0) = _
    omega
  have hl : pt8Of (ix3 k r e) < cfg0.N := by rw [hp]; exact pt_lt k ⟨e.val / 512, by omega⟩
  unfold G8
  rw [dif_pos hl, acc_eq m c _ hl]
  show code (hAt m c ⟨_, hl⟩ ⟨r.val % 128, by omega⟩ ⟨e.val % 512, by omega⟩) (gmx (hAt m c ⟨_, hl⟩) ⟨r.val % 128, by omega⟩ ⟨e.val % 512 / 32, by omega⟩)
    * Scale.scale (gmx (hAt m c ⟨_, hl⟩) ⟨r.val % 128, by omega⟩ ⟨e.val % 512 / 32, by omega⟩) = _
  have hr : (⟨r.val % 128, Nat.mod_lt _ (by decide)⟩ : Fin 128) = r := Fin.ext (Nat.mod_eq_of_lt r.isLt)
  rw [hr, h_eq m c ⟨_, hl⟩ k r ⟨e.val % 512, by omega⟩ e (by show k.val = pt8Of (ix3 k r e) / 10; rw [hp]; omega) (by show e.val = 512 * (pt8Of (ix3 k r e) % 10) + e.val % 512; rw [hp]; omega),
    gmx_eq m c ⟨_, hl⟩ k r ⟨e.val % 512 / 32, by omega⟩ (ResSpec.grp e) (by show k.val = pt8Of (ix3 k r e) / 10; rw [hp]; omega)
      (by show e.val / 32 = 16 * (pt8Of (ix3 k r e) % 10) + e.val % 512 / 32; rw [hp]; omega)]
  rfl

end Cert.ResidualIdeal.Value

end
-- ==== Proof.ResRefRun.lean ====
/-
  The reference's run, read: its one step reads every argument whole and stores every result whole, so each result is
  its payload at the arguments.
-/
module

public import proofs.«01_k».proof.Proof.Gen.ResidualReferenceIdeal.Frame
public import Idealize.ShloMosaic.Lib.Pipeline.Value

@[expose] public section

noncomputable section

namespace Cert.ResidualReferenceIdeal.Value

open Cert.ResidualReferenceIdeal Cert.ResidualReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_2) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_3) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_4) = (dats m 0 c).arrAt 8 cfg0.N :=
  (h c).1 8

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-! ## Closed form at one grid point: every window's block is its array -/

theorem hz0 : (![0, 0] : Fin 2 → Nat) = fun _ => 0 := funext fun a => by fin_cases a <;> rfl

/-- Window 0's block index at the one point is zero on every axis. -/
theorem idx_zero0 : ∀ t : Fin cfg0.N, win0_0.index t (0 : Fin 2) = 0 ∧ win0_0.index t (1 : Fin 2) = 0 :=
  (by decide +kernel : ∀ t : Fin grid0.N, _)

/-- An index of window 0's block is the same index of its array. -/
theorem emb0 (t : Fin cfg0.N) (j : S128x5120.Idx) : ((cfg0.win 0).blk t).view.emb j = j := by
  obtain ⟨e0, e1⟩ := idx_zero0 t
  funext a; apply Fin.ext
  match a with
  | ⟨0, _⟩ => show win0_0.index t (0 : Fin 2) * 128 + 1 * (j 0).val = (j 0).val; omega
  | ⟨1, _⟩ => show win0_0.index t (1 : Fin 2) * 5120 + 1 * (j 1).val = (j 1).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S3x5120x5120.Idx) : ((cfg0.win 1).blk t).view.emb j = j := by
  obtain ⟨e0, e1, e2⟩ := idx_zero1 t
  funext a; apply Fin.ext
  match a with
  | ⟨0, _⟩ => show win0_1.index t (0 : Fin 3) * 3 + 1 * (j 0).val = (j 0).val; omega
  | ⟨1, _⟩ => show win0_1.index t (1 : Fin 3) * 5120 + 1 * (j 1).val = (j 1).val; omega
  | ⟨2, _⟩ => show win0_1.index t (2 : Fin 3) * 5120 + 1 * (j 2).val = (j 2).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S3x5120.Idx) : ((cfg0.win 2).blk t).view.emb j = j := by
  obtain ⟨e0, e1⟩ := idx_zero2 t
  funext a; apply Fin.ext
  match a with
  | ⟨0, _⟩ => show win0_2.index t (0 : Fin 2) * 3 + 1 * (j 0).val = (j 0).val; omega
  | ⟨1, _⟩ => show win0_2.index t (1 : Fin 2) * 5120 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S3x5120.Idx) : ((cfg0.win 3).blk t).view.emb j = j := by
  obtain ⟨e0, e1⟩ := idx_zero3 t
  funext a; apply Fin.ext
  match a with
  | ⟨0, _⟩ => show win0_3.index t (0 : Fin 2) * 3 + 1 * (j 0).val = (j 0).val; omega
  | ⟨1, _⟩ => show win0_3.index t (1 : Fin 2) * 5120 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S128x5120.Idx) : ((cfg0.win 4).blk t).view.emb j = j := by
  obtain ⟨e0, e1⟩ := idx_zero4 t
  funext a; apply Fin.ext
  match a with
  | ⟨0, _⟩ => show win0_4.index t (0 : Fin 2) * 128 + 1 * (j 0).val = (j 0).val; omega
  | ⟨1, _⟩ => show win0_4.index t (1 : Fin 2) * 5120 + 1 * (j 1).val = (j 1).val; omega

theorem hz5 : (![0, 0] : Fin 2 → Nat) = fun _ => 0 := funext fun a => by fin_cases a <;> rfl

/-- Window 5's block index at the one point is zero on every axis. -/
theorem idx_zero5 : ∀ t : Fin cfg0.N, win0_5.index t (0 : Fin 2) = 0 ∧ win0_5.index t (1 : Fin 2) = 0 :=
  (by decide +kernel : ∀ t : Fin grid0.N, _)

/-- An index of window 5's block is the same index of its array. -/
theorem emb5 (t : Fin cfg0.N) (j : S1x128.Idx) : ((cfg0.win 5).blk t).view.emb j = j := by
  obtain ⟨e0, e1⟩ := idx_zero5 t
  funext a; apply Fin.ext
  match a with
  | ⟨0, _⟩ => show win0_5.index t (0 : Fin 2) * 1 + 1 * (j 0).val = (j 0).val; omega
  | ⟨1, _⟩ => show win0_5.index t (1 : Fin 2) * 128 + 1 * (j 1).val = (j 1).val; omega

theorem hz6 : (![0, 0, 0] : Fin 3 → Nat) = fun _ => 0 := funext fun a => by fin_cases a <;> rfl

/-- Window 6's block index at the one point is zero on every axis. -/
theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)

/-- An index of window 6's block is the same index of its array. -/
theorem emb6 (t : Fin cfg0.N) (j : S3x128x5120.Idx) : ((cfg0.win 6).blk t).view.emb j = j := by
  obtain ⟨e0, e1, e2⟩ := idx_zero6 t
  funext a; apply Fin.ext
  match a with
  | ⟨0, _⟩ => show win0_6.index t (0 : Fin 3) * 3 + 1 * (j 0).val = (j 0).val; omega
  | ⟨1, _⟩ => show win0_6.index t (1 : Fin 3) * 128 + 1 * (j 1).val = (j 1).val; omega
  | ⟨2, _⟩ => show win0_6.index t (2 : Fin 3) * 5120 + 1 * (j 2).val = (j 2).val; omega

theorem hz7 : (![0, 0, 0] : Fin 3 → Nat) = fun _ => 0 := funext fun a => by fin_cases a <;> rfl

/-- Window 7's block index at the one point is zero on every axis. -/
theorem idx_zero7 : ∀ t : Fin cfg0.N, win0_7.index t (0 : Fin 3) = 0 ∧ win0_7.index t (1 : Fin 3) = 0 ∧ win0_7.index t (2 : Fin 3) = 0 :=
  (by decide +kernel : ∀ t : Fin grid0.N, _)

/-- An index of window 7's block is the same index of its array. -/
theorem emb7 (t : Fin cfg0.N) (j : S3x160x128.Idx) : ((cfg0.win 7).blk t).view.emb j = j := by
  obtain ⟨e0, e1, e2⟩ := idx_zero7 t
  funext a; apply Fin.ext
  match a with
  | ⟨0, _⟩ => show win0_7.index t (0 : Fin 3) * 3 + 1 * (j 0).val = (j 0).val; omega
  | ⟨1, _⟩ => show win0_7.index t (1 : Fin 3) * 160 + 1 * (j 1).val = (j 1).val; omega
  | ⟨2, _⟩ => show win0_7.index t (2 : Fin 3) * 128 + 1 * (j 2).val = (j 2).val; omega

theorem hz8 : (![0, 0, 0] : Fin 3 → Nat) = fun _ => 0 := funext fun a => by fin_cases a <;> rfl

/-- Window 8's block index at the one point is zero on every axis. -/
theorem idx_zero8 : ∀ t : Fin cfg0.N, win0_8.index t (0 : Fin 3) = 0 ∧ win0_8.index t (1 : Fin 3) = 0 ∧ win0_8.index t (2 : Fin 3) = 0 :=
  (by decide +kernel : ∀ t : Fin grid0.N, _)

/-- An index of window 8's block is the same index of its array. -/
theorem emb8 (t : Fin cfg0.N) (j : S3x128x5120.Idx) : ((cfg0.win 8).blk t).view.emb j = j := by
  obtain ⟨e0, e1, e2⟩ := idx_zero8 t
  funext a; apply Fin.ext
  match a with
  | ⟨0, _⟩ => show win0_8.index t (0 : Fin 3) * 3 + 1 * (j 0).val = (j 0).val; omega
  | ⟨1, _⟩ => show win0_8.index t (1 : Fin 3) * 128 + 1 * (j 1).val = (j 1).val; omega
  | ⟨2, _⟩ => show win0_8.index t (2 : Fin 3) * 5120 + 1 * (j 2).val = (j 2).val; omega

/-! ### Output window 4: the array after the run -/

/-- What the window's array ends holding: `out0_4` applied to the argument arrays in place of the input blocks (a value that the
    frame states apart, `kK_payN a…`, keeps its loads inside its own definition). -/
abbrev G4 (a0 : Vec F S128x5120 .bf16) (a1 : Vec F S3x5120x5120 .fp8e4m3) (a2 : Vec F S3x5120 .f32) (a3 : Vec F S3x5120 .f32) : Vec F S128x5120 .fp8e4m3 :=
  k0_pay9 a0

/-- A load of the whole of a block reads the block, and the one store through the whole rectangle leaves its payload. -/
theorem out4_eq (a0 : Vec F S128x5120 .bf16) (a1 : Vec F S3x5120x5120 .fp8e4m3) (a2 : Vec F S3x5120 .f32) (a3 : Vec F S3x5120 .f32) : out0_4 (F := F) a0 a1 a2 a3 = G4 a0 a1 a2 a3 := by
  unfold out0_4
  rw [View.canon_unit_zero hz4, View.ld_unit_zero (S := S128x5120) hz0 _ a0]

/-- Cutting the point's block out of `X` and reading `X` through the block's view give the same. -/
theorem cut4_eq (t : Fin cfg0.N) (X : Vec F S128x5120 .fp8e4m3) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0) (V m c main_arg1) (V m c main_arg2) (V m c main_arg3)) := by
  show (cfg0.win 4).cut (grid0.coords t) ((dats m 0 c).after 4 t) = _
  rw [after0_4, out4_eq, iblk0_eq, iblk1_eq, iblk2_eq, iblk3_eq]
  exact cut4_eq t _

/-- Every index of the array is in the point's block. -/
theorem covered4 (i : S128x5120.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) (m ((c : Thread nD τ).loc main_arg1)) (m ((c : Thread nD τ).loc main_arg2)) (m ((c : Thread nD τ).loc main_arg3)) :=
  ((dats m 0 c).arrAt_eq_of_cover 4 (G4 (V m c main_arg0) (V m c main_arg1) (V m c main_arg2) (V m c main_arg3)) (fun t _ => flushed4_eq m c t) covered4).trans (by rw [V_main_arg0, V_main_arg1, V_main_arg2, V_main_arg3])

/-! ### Output window 5: the array after the run -/

/-- What the window's array ends holding: `out0_5` applied to the argument arrays in place of the input blocks (a value that the
    frame states apart, `kK_payN a…`, keeps its loads inside its own definition). -/
abbrev G5 (a0 : Vec F S128x5120 .bf16) (a1 : Vec F S3x5120x5120 .fp8e4m3) (a2 : Vec F S3x5120 .f32) (a3 : Vec F S3x5120 .f32) : Vec F S1x128 .f32 :=
  k0_pay2 (k0_pay8 a0)

/-- A load of the whole of a block reads the block, and the one store through the whole rectangle leaves its payload. -/
theorem out5_eq (a0 : Vec F S128x5120 .bf16) (a1 : Vec F S3x5120x5120 .fp8e4m3) (a2 : Vec F S3x5120 .f32) (a3 : Vec F S3x5120 .f32) : out0_5 (F := F) a0 a1 a2 a3 = G5 a0 a1 a2 a3 := by
  unfold out0_5
  rw [View.canon_unit_zero hz5, View.ld_unit_zero (S := S128x5120) hz0 _ a0]

/-- Cutting the point's block out of `X` and reading `X` through the block's view give the same. -/
theorem cut5_eq (t : Fin cfg0.N) (X : Vec F S1x128 .f32) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2) (V m c main_arg3)) := by
  show (cfg0.win 5).cut (grid0.coords t) ((dats m 0 c).after 5 t) = _
  rw [after0_5, out5_eq, iblk0_eq, iblk1_eq, iblk2_eq, iblk3_eq]
  exact cut5_eq t _

/-- Every index of the array is in the point's block. -/
theorem covered5 (i : S1x128.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) :=
  ((dats m 0 c).arrAt_eq_of_cover 5 (G5 (V m c main_arg0) (V m c main_arg1) (V m c main_arg2) (V m c main_arg3)) (fun t _ => flushed5_eq m c t) covered5).trans (by rw [V_main_arg0, V_main_arg1, V_main_arg2, V_main_arg3])

/-! ### Output window 6: the array after the run -/

/-- What the window's array ends holding: `out0_6` applied to the argument arrays in place of the input blocks (a value that the
    frame states apart, `kK_payN a…`, keeps its loads inside its own definition). -/
abbrev G6 (a0 : Vec F S128x5120 .bf16) (a1 : Vec F S3x5120x5120 .fp8e4m3) (a2 : Vec F S3x5120 .f32) (a3 : Vec F S3x5120 .f32) : Vec F S3x128x5120 .fp8e4m3 :=
  k0_pay1 (k0_pay21 a0 a1 a2 a3) (Scalar.ofBits .f32 0x43E00000#32) (k0_pay22 a0 a1 a2 a3)

/-- The one store through the whole rectangle leaves its payload. -/
theorem out6_eq (a0 : Vec F S128x5120 .bf16) (a1 : Vec F S3x5120x5120 .fp8e4m3) (a2 : Vec F S3x5120 .f32) (a3 : Vec F S3x5120 .f32) : out0_6 (F := F) a0 a1 a2 a3 = G6 a0 a1 a2 a3 := by
  unfold out0_6
  rw [View.canon_unit_zero hz6]

/-- Cutting the point's block out of `X` and reading `X` through the block's view give the same. -/
theorem cut6_eq (t : Fin cfg0.N) (X : Vec F S3x128x5120 .fp8e4m3) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3)) := by
  show (cfg0.win 6).cut (grid0.coords t) ((dats m 0 c).after 6 t) = _
  rw [after0_6, out6_eq, iblk0_eq, iblk1_eq, iblk2_eq, iblk3_eq]
  exact cut6_eq t _

/-- Every index of the array is in the point's block. -/
theorem covered6 (i : S3x128x5120.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) :=
  ((dats m 0 c).arrAt_eq_of_cover 6 (G6 (V m c main_arg0) (V m c main_arg1) (V m c main_arg2) (V m c main_arg3)) (fun t _ => flushed6_eq m c t) covered6).trans (by rw [V_main_arg0, V_main_arg1, V_main_arg2, V_main_arg3])

/-! ### Output window 7: the array after the run -/

/-- What the window's array ends holding: `out0_7` applied to the argument arrays in place of the input blocks (a value that the
    frame states apart, `kK_payN a…`, keeps its loads inside its own definition). -/
abbrev G7 (a0 : Vec F S128x5120 .bf16) (a1 : Vec F S3x5120x5120 .fp8e4m3) (a2 : Vec F S3x5120 .f32) (a3 : Vec F S3x5120 .f32) : Vec F S3x160x128 .f32 :=
  k0_pay3 (k0_pay20 a0 a1 a2 a3)

/-- The one store through the whole rectangle leaves its payload. -/
theorem out7_eq (a0 : Vec F S128x5120 .bf16) (a1 : Vec F S3x5120x5120 .fp8e4m3) (a2 : Vec F S3x5120 .f32) (a3 : Vec F S3x5120 .f32) : out0_7 (F := F) a0 a1 a2 a3 = G7 a0 a1 a2 a3 := by
  unfold out0_7
  rw [View.canon_unit_zero hz7]

/-- Cutting the point's block out of `X` and reading `X` through the block's view give the same. -/
theorem cut7_eq (t : Fin cfg0.N) (X : Vec F S3x160x128 .f32) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3)) := by
  show (cfg0.win 7).cut (grid0.coords t) ((dats m 0 c).after 7 t) = _
  rw [after0_7, out7_eq, iblk0_eq, iblk1_eq, iblk2_eq, iblk3_eq]
  exact cut7_eq t _

/-- Every index of the array is in the point's block. -/
theorem covered7 (i : S3x160x128.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) :=
  ((dats m 0 c).arrAt_eq_of_cover 7 (G7 (V m c main_arg0) (V m c main_arg1) (V m c main_arg2) (V m c main_arg3)) (fun t _ => flushed7_eq m c t) covered7).trans (by rw [V_main_arg0, V_main_arg1, V_main_arg2, V_main_arg3])

/-! ### Output window 8: the array after the run -/

/-- What the window's array ends holding: `out0_8` applied to the argument arrays in place of the input blocks (a value that the
    frame states apart, `kK_payN a…`, keeps its loads inside its own definition). -/
abbrev G8 (a0 : Vec F S128x5120 .bf16) (a1 : Vec F S3x5120x5120 .fp8e4m3) (a2 : Vec F S3x5120 .f32) (a3 : Vec F S3x5120 .f32) : Vec F S3x128x5120 .bf16 :=
  k0_pay4 (k0_pay20 a0 a1 a2 a3) (k0_pay21 a0 a1 a2 a3) (Scalar.ofBits .f32 0x43E00000#32) (k0_pay22 a0 a1 a2 a3)

/-- The one store through the whole rectangle leaves its payload. -/
theorem out8_eq (a0 : Vec F S128x5120 .bf16) (a1 : Vec F S3x5120x5120 .fp8e4m3) (a2 : Vec F S3x5120 .f32) (a3 : Vec F S3x5120 .f32) : out0_8 (F := F) a0 a1 a2 a3 = G8 a0 a1 a2 a3 := by
  unfold out0_8
  rw [View.canon_unit_zero hz8]

/-- Cutting the point's block out of `X` and reading `X` through the block's view give the same. -/
theorem cut8_eq (t : Fin cfg0.N) (X : Vec F S3x128x5120 .bf16) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3)) := by
  show (cfg0.win 8).cut (grid0.coords t) ((dats m 0 c).after 8 t) = _
  rw [after0_8, out8_eq, iblk0_eq, iblk1_eq, iblk2_eq, iblk3_eq]
  exact cut8_eq t _

/-- Every index of the array is in the point's block. -/
theorem covered8 (i : S3x128x5120.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) :=
  ((dats m 0 c).arrAt_eq_of_cover 8 (G8 (V m c main_arg0) (V m c main_arg1) (V m c main_arg2) (V m c main_arg3)) (fun t _ => flushed8_eq m c t) covered8).trans (by rw [V_main_arg0, V_main_arg1, V_main_arg2, V_main_arg3])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G4 (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = G5 (m ((c : Thread nD τ).loc main_arg0)) (m ((c : Thread nD τ).loc main_arg1)) (m ((c : Thread nD τ).loc main_arg2)) (m ((c : Thread nD τ).loc main_arg3))
      ∧ r.2.mem ((c : Thread nD τ).loc main_v0_2) = G6 (m ((c : Thread nD τ).loc main_arg0)) (m ((c : Thread nD τ).loc main_arg1)) (m ((c : Thread nD τ).loc main_arg2)) (m ((c : Thread nD τ).loc main_arg3))
      ∧ r.2.mem ((c : Thread nD τ).loc main_v0_3) = G7 (m ((c : Thread nD τ).loc main_arg0)) (m ((c : Thread nD τ).loc main_arg1)) (m ((c : Thread nD τ).loc main_arg2)) (m ((c : Thread nD τ).loc main_arg3))
      ∧ r.2.mem ((c : Thread nD τ).loc main_v0_4) = G8 (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post4 m r h c).trans (final4 m c),
      (post5 m r h c).trans (final5 m c),
      (post6 m r h c).trans (final6 m c),
      (post7 m r h c).trans (final7 m c),
      (post8 m r h c).trans (final8 m c),
      kept_main_arg0 m r h c,
      kept_main_arg1 m r h c,
      kept_main_arg2 m r h c,
      kept_main_arg3 m r h c⟩)
    (run_main m ρ)

end Cert.ResidualReferenceIdeal.Value

end
-- ==== Proof.ResRef.lean ====
/-
  The residual reference's scales and codes of `x`, its product, and its residual, entry by entry.
-/
module

public import proofs.«01_k».proof.Proof.ResRefRun
public import proofs.«01_k».proof.Proof.ResSpec
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.ResidualReferenceIdeal.Value

open Cert.ResidualReferenceIdeal Cert.ResidualReferenceIdeal.Gen
open Cert.Scale (scale inv code gated mag c448 expOf count pow)

/-- The arguments' entries. -/
def xr (a0 : Vec Ideal S128x5120 .bf16) (r : Fin 128) (d : Fin 5120) : EReal := a0 (ix2 r d)
def wr (a1 : Vec Ideal S3x5120x5120 .fp8e4m3) (k : Fin 3) (d n : Fin 5120) : EReal := a1 (ix3 k d n)
def sr (a2 : Vec Ideal S3x5120 .f32) (k : Fin 3) (n : Fin 5120) : EReal := a2 (ix2 k n)

/-- The words that count the powers at or below `v`. -/
theorem word_of (v : EReal) :
    Finset.fold IntOp.addi 0#32 (fun x : Fin 246 => BitVec.setWidth 32 (BitVec.ofBool (decide
      ((FloatOps.exp2 (F := Ideal) (φ := .f32) ((FloatOps.sitofp (F := Ideal) FTy.f32 (BitVec.ofNat 32 x.val) : EReal) - Ideal.ofBits FTy.f32 0x42FC0000#32) : EReal) ≤ v)))) Finset.univ
      = BitVec.ofNat 32 (count v) := by
  refine Scale.count_word v _ fun j => ?_
  have e : (FloatOps.exp2 (F := Ideal) (φ := .f32) ((FloatOps.sitofp (F := Ideal) FTy.f32 (BitVec.ofNat 32 j.val) : EReal) - Ideal.ofBits FTy.f32 0x42FC0000#32) : EReal) = pow j.val :=
    Scale.pow_exp2 j.val j.isLt
  rw [e]
  by_cases h : pow j.val ≤ v
  · rw [if_pos h, decide_eq_true h]; rfl
  · rw [if_neg h, decide_eq_false h]; rfl

theorem pay7_apply (a0 : Vec Ideal S128x5120 .bf16) (r : Fin 128) :
    k0_pay7 a0 (ix2 r 0) = expOf (BitVec.ofNat 32 (count (ResSpec.rowAmax (xr a0) r))) := by
  unfold k0_pay7 k0_pay6 k0_pay5
  pointwise
  change expOf _ = _
  refine congrArg expOf ((word_of _).trans (congrArg (fun v : EReal => BitVec.ofNat 32 (count (v * c448))) ?_))
  exact Scale.fold_mag Finset.univ fun d => a0 (ix2 r d)

theorem pay8_apply (a0 : Vec Ideal S128x5120 .bf16) (r : Fin 128) :
    (k0_pay8 a0 (ix2 r 0) : EReal) = scale (ResSpec.rowAmax (xr a0) r) := by
  unfold k0_pay8
  have h := pay7_apply a0 r
  generalize k0_pay7 a0 = e at h ⊢
  rw [← Scale.scale_exp2, ← h]
  rfl

theorem pay2_apply (v : FVec Ideal S128x1 .f32) (r : Fin 128) : (k0_pay2 v (ix2 0 r) : EReal) = v (ix2 r 0) := by
  unfold k0_pay2
  pointwise

theorem pay9_apply (a0 : Vec Ideal S128x5120 .bf16) (r : Fin 128) (d : Fin 5120) :
    (k0_pay9 a0 (ix2 r d) : EReal) = ResSpec.xcode (xr a0) r d := by
  unfold k0_pay9 k0_pay6 k0_pay5
  have h := pay7_apply a0 r
  generalize k0_pay7 a0 = e at h ⊢
  pointwise
  unfold ResSpec.xcode code
  rw [← Scale.inv_exp2, ← h]
  rfl

theorem pay10_apply (a0 : Vec Ideal S128x5120 .bf16) (a1 : Vec Ideal S3x5120x5120 .fp8e4m3) (k : Fin 3) (r : Fin 128) (n : Fin 5120) :
    (k0_pay10 a0 a1 (ix3 k r n) : EReal) = ResSpec.dot (xr a0) (wr a1) k r n := by
  unfold k0_pay10
  have h := pay9_apply a0 r
  generalize k0_pay9 a0 = e at h ⊢
  pointwise
  exact Finset.sum_congr rfl fun d _ => (mul_comm _ _).trans (congrArg (fun q : EReal => q * a1 (ix3 k d n)) (h d))

theorem pay11_apply (a0 : Vec Ideal S128x5120 .bf16) (k : Fin 3) (r : Fin 128) (n : Fin 5120) :
    (k0_pay11 a0 (ix3 k r n) : EReal) = scale (ResSpec.rowAmax (xr a0) r) := by
  unfold k0_pay11
  have h := pay8_apply a0 r
  generalize k0_pay8 a0 = e at h ⊢
  rw [← h]
  pointwise

theorem pay12_apply (v1 : FVec Ideal S128x5120 .f32) (v41 v43 : FVec Ideal S3x128x5120 .f32) (v45 v49 : Vec Ideal S3x5120 .f32)
    (k : Fin 3) (r : Fin 128) (g : Fin 160) (t : Fin 32) (n : Fin 5120) (hn : n.val = 32 * g.val + t.val) :
    (k0_pay12 v1 v41 v43 v45 v49 (ix4 k r g t) : EReal)
      = gated (v1 (ix2 r n)) ((v41 (ix3 k r n) : EReal) * v43 (ix3 k r n) * v45 (ix2 k n) + v49 (ix2 k n)) := by
  have hn' : n = ⟨g.val * 32 + t.val, by omega⟩ := Fin.ext (by show n.val = g.val * 32 + t.val; omega)
  unfold k0_pay12
  pointwise
  rw [hn']
  rfl

end Cert.ResidualReferenceIdeal.Value

end
-- ==== Proof.ResRefOut.lean ====
/-
  The residual reference's group scales, codes and dequantized residual, entry by entry.
-/
module

public import proofs.«01_k».proof.Proof.ResRef
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.ResidualReferenceIdeal.Value

open Cert.ResidualReferenceIdeal Cert.ResidualReferenceIdeal.Gen
open Cert.Scale (scale inv code gated mag c448 expOf count pow)

/-- The largest magnitude of a group of 32, over 448. -/
def amax (h : FVec Ideal S3x128x160x32 .f32) (k : Fin 3) (r : Fin 128) (g : Fin 160) : EReal :=
  (Finset.univ.sup fun t : Fin 32 => mag (h (ix4 k r g t))) * c448

theorem pay13_apply (v1 : FVec Ideal S128x5120 .f32) (v41 v43 : FVec Ideal S3x128x5120 .f32) (v45 v49 : Vec Ideal S3x5120 .f32)
    (k : Fin 3) (r : Fin 128) (g : Fin 160) :
    k0_pay13 v1 v41 v43 v45 v49 (ix3 k r g) = expOf (BitVec.ofNat 32 (count (amax (k0_pay12 v1 v41 v43 v45 v49) k r g))) := by
  unfold k0_pay13
  generalize k0_pay12 v1 v41 v43 v45 v49 = h
  pointwise
  change expOf _ = _
  refine congrArg expOf ((word_of _).trans (congrArg (fun v : EReal => BitVec.ofNat 32 (count (v * c448))) ?_))
  exact Scale.fold_mag Finset.univ fun t => h (ix4 k r g t)

theorem pay14_apply (v1 : FVec Ideal S128x5120 .f32) (v41 v43 : FVec Ideal S3x128x5120 .f32) (v45 v49 : Vec Ideal S3x5120 .f32)
    (k : Fin 3) (r : Fin 128) (g : Fin 160) :
    (k0_pay14 v1 v41 v43 v45 v49 (ix3 k r g) : EReal) = scale (amax (k0_pay12 v1 v41 v43 v45 v49) k r g) := by
  unfold k0_pay14
  have h := pay13_apply v1 v41 v43 v45 v49 k r g
  generalize k0_pay13 v1 v41 v43 v45 v49 = e at h ⊢
  rw [← Scale.scale_exp2, ← h]
  rfl

theorem pay15_apply (v1 : FVec Ideal S128x5120 .f32) (v41 v43 : FVec Ideal S3x128x5120 .f32) (v45 v49 : Vec Ideal S3x5120 .f32)
    (k : Fin 3) (r : Fin 128) (g : Fin 160) (t : Fin 32) :
    (k0_pay15 v1 v41 v43 v45 v49 (ix4 k r g t) : EReal)
      = (k0_pay12 v1 v41 v43 v45 v49 (ix4 k r g t) : EReal) * inv (amax (k0_pay12 v1 v41 v43 v45 v49) k r g) := by
  unfold k0_pay15
  have h := pay13_apply v1 v41 v43 v45 v49 k r g
  rw [← Scale.inv_exp2, ← h]
  generalize k0_pay13 v1 v41 v43 v45 v49 = e
  generalize k0_pay12 v1 v41 v43 v45 v49 = q
  pointwise
  rfl

theorem pay1_apply (v88 : FVec Ideal S3x128x160x32 .f32) (k : Fin 3) (r : Fin 128) (n : Fin 5120) :
    (k0_pay1 v88 (Scalar.ofBits .f32 0x43E00000#32) (k0_pay16 (F := Ideal)) (ix3 k r n) : EReal)
      = min (Ideal.ofBits .f32 0x43E00000#32) (max (Ideal.ofBits .f32 0xC3E00000#32) (v88 (ix4 k r (ResSpec.grp n) ⟨n.val % 32, by omega⟩))) := by
  unfold k0_pay1 k0_pay16
  pointwise

theorem pay3_apply (v : FVec Ideal S3x128x160 .f32) (k : Fin 3) (g : Fin 160) (r : Fin 128) :
    (k0_pay3 v (ix3 k g r) : EReal) = v (ix3 k r g) := by
  unfold k0_pay3
  pointwise

theorem pay4_apply (v81 : FVec Ideal S3x128x160 .f32) (v88 : FVec Ideal S3x128x160x32 .f32) (cst : Ideal .f32) (v89 : FVec Ideal S3x128x160x32 .f32)
    (k : Fin 3) (r : Fin 128) (n : Fin 5120) :
    (k0_pay4 v81 v88 cst v89 (ix3 k r n) : EReal) = (k0_pay1 v88 cst v89 (ix3 k r n) : EReal) * v81 (ix3 k r (ResSpec.grp n)) := by
  unfold k0_pay4
  generalize k0_pay1 v88 cst v89 = e
  pointwise

variable (a0 : Vec Ideal S128x5120 .bf16) (a1 : Vec Ideal S3x5120x5120 .fp8e4m3) (a2 a3 : Vec Ideal S3x5120 .f32)

/-- The residual in groups of 32, of the arguments. -/
abbrev H : FVec Ideal S3x128x160x32 .f32 :=
  k0_pay12 (k0_pay17 a0 a1 a2 a3) (k0_pay18 a0 a1 a2 a3) (k0_pay19 a0 a1 a2 a3) (View.ld a2 r0_2) (View.ld a3 r0_2)

theorem H_apply (k : Fin 3) (r : Fin 128) (g : Fin 160) (t : Fin 32) (n : Fin 5120) (hn : n.val = 32 * g.val + t.val) :
    (H a0 a1 a2 a3 (ix4 k r g t) : EReal) = ResSpec.res (xr a0) (wr a1) (sr a2) (sr a3) k r n := by
  unfold H
  rw [pay12_apply _ _ _ _ _ k r g t n hn]
  unfold k0_pay17 k0_pay18 k0_pay19
  rw [View.ld_unit_zero (S := S128x5120) hz0 _ a0, View.ld_unit_zero (S := S3x5120x5120) hz1 _ a1,
    View.ld_unit_zero (S := S3x5120) hz2 _ a2, View.ld_unit_zero (S := S3x5120) hz3 _ a3, pay10_apply, pay11_apply]
  rfl

theorem amax_H (k : Fin 3) (r : Fin 128) (g : Fin 160) :
    amax (H a0 a1 a2 a3) k r g = ResSpec.groupAmax (xr a0) (wr a1) (sr a2) (sr a3) k r g := by
  unfold amax ResSpec.groupAmax
  exact congrArg (fun e : EReal => e * c448) (Finset.sup_congr rfl fun t _ => congrArg mag (H_apply a0 a1 a2 a3 k r g t _ rfl))

/-- Result one: the codes of `x`. -/
theorem G4_apply (r : Fin 128) (d : Fin 5120) : (G4 a0 a1 a2 a3 (ix2 r d) : EReal) = ResSpec.xcode (xr a0) r d := pay9_apply a0 r d

/-- Result two: the scales of `x`. -/
theorem G5_apply (r : Fin 128) : (G5 a0 a1 a2 a3 (ix2 0 r) : EReal) = scale (ResSpec.rowAmax (xr a0) r) :=
  (pay2_apply _ r).trans (pay8_apply a0 r)

/-- Result three: the codes of the residual. -/
theorem G6_apply (k : Fin 3) (r : Fin 128) (n : Fin 5120) :
    (G6 a0 a1 a2 a3 (ix3 k r n) : EReal) = ResSpec.hcode (xr a0) (wr a1) (sr a2) (sr a3) k r n := by
  unfold G6 k0_pay22
  rw [pay1_apply]
  unfold k0_pay21
  rw [pay15_apply, amax_H]
  unfold ResSpec.hcode code
  exact congrArg (fun q : EReal => min (Ideal.ofBits .f32 0x43E00000#32) (max (Ideal.ofBits .f32 0xC3E00000#32)
      (q * inv (ResSpec.groupAmax (xr a0) (wr a1) (sr a2) (sr a3) k r (ResSpec.grp n)))))
    (H_apply a0 a1 a2 a3 k r (ResSpec.grp n) ⟨n.val % 32, by omega⟩ n (by show n.val = 32 * (n.val / 32) + n.val % 32; omega))

/-- Result four: the scales of the residual's groups. -/
theorem G7_apply (k : Fin 3) (g : Fin 160) (r : Fin 128) :
    (G7 a0 a1 a2 a3 (ix3 k g r) : EReal) = scale (ResSpec.groupAmax (xr a0) (wr a1) (sr a2) (sr a3) k r g) := by
  unfold G7
  rw [pay3_apply]
  unfold k0_pay20
  rw [pay14_apply, amax_H]

/-- Result five: the codes of the residual times their scales. -/
theorem G8_apply (k : Fin 3) (r : Fin 128) (n : Fin 5120) :
    (G8 a0 a1 a2 a3 (ix3 k r n) : EReal)
      = ResSpec.hcode (xr a0) (wr a1) (sr a2) (sr a3) k r n * scale (ResSpec.groupAmax (xr a0) (wr a1) (sr a2) (sr a3) k r (ResSpec.grp n)) := by
  refine (pay4_apply _ _ _ _ k r n).trans ?_
  have h := G6_apply a0 a1 a2 a3 k r n
  unfold G6 at h
  rw [h]
  unfold k0_pay20
  rw [pay14_apply, amax_H]

end Cert.ResidualReferenceIdeal.Value

end
-- ==== Proof.ResEqual.lean ====
/-
  The residual call's five results against the reference's: each entry of both is the same function of the arguments.
-/
module

public import proofs.«01_k».proof.Proof.ResFold
public import proofs.«01_k».proof.Proof.ResRefOut

@[expose] public section

set_option maxRecDepth 16384

noncomputable section

open Idealize.ShloMosaic Idealize.ShloMosaic.TcCoe Idealize.SL.Sem

namespace Cert.ResEqual

open Cert.ResidualIdeal Cert.ResidualIdeal.Gen Cert.ResidualIdeal.Value

variable (m : (ℓ : Loc nD τ sig) → Buf (Elt Ideal) ℓ) (c : Dev nD)

theorem exists_pair {n k : Nat} (y : (Shape.mk 2 ![n, k]).Idx) : ∃ (a : Fin n) (b : Fin k), y = ix2 a b :=
  ⟨y 0, y 1, by funext a; fin_cases a <;> rfl⟩

theorem exists_triple {n k l : Nat} (y : (Shape.mk 3 ![n, k, l]).Idx) : ∃ (a : Fin n) (b : Fin k) (d : Fin l), y = ix3 a b d :=
  ⟨y 0, y 1, y 2, by funext a; fin_cases a <;> rfl⟩

theorem xc_eq (y : S128x5120.Idx) : (Cert.ResidualReferenceIdeal.Value.G4 (A0 m c) (A1 m c) (A2 m c) (A3 m c) y : EReal) = G4 m c y := by
  obtain ⟨r, d, rfl⟩ := exists_pair y
  exact (Cert.ResidualReferenceIdeal.Value.G4_apply _ _ _ _ r d).trans (G4_apply m c r d).symm

theorem xs_eq (y : S1x128.Idx) : (Cert.ResidualReferenceIdeal.Value.G5 (A0 m c) (A1 m c) (A2 m c) (A3 m c) y : EReal) = G5 m c y := by
  obtain ⟨z, r, rfl⟩ := exists_pair y
  obtain rfl : z = 0 := Subsingleton.elim _ _
  exact (Cert.ResidualReferenceIdeal.Value.G5_apply _ _ _ _ r).trans (G5_apply m c r).symm

theorem hc_eq (y : S3x128x5120.Idx) : (Cert.ResidualReferenceIdeal.Value.G6 (A0 m c) (A1 m c) (A2 m c) (A3 m c) y : EReal) = G6 m c y := by
  obtain ⟨k, r, n, rfl⟩ := exists_triple y
  exact (Cert.ResidualReferenceIdeal.Value.G6_apply _ _ _ _ k r n).trans (G6_apply m c k r n).symm

theorem hst_eq (y : S3x160x128.Idx) : (Cert.ResidualReferenceIdeal.Value.G7 (A0 m c) (A1 m c) (A2 m c) (A3 m c) y : EReal) = G7 m c y := by
  obtain ⟨k, g, r, rfl⟩ := exists_triple y
  exact (Cert.ResidualReferenceIdeal.Value.G7_apply _ _ _ _ k g r).trans (G7_apply m c k g r).symm

theorem hw_eq (y : S3x128x5120.Idx) : (Cert.ResidualReferenceIdeal.Value.G8 (A0 m c) (A1 m c) (A2 m c) (A3 m c) y : EReal) = G8 m c y := by
  obtain ⟨k, r, n, rfl⟩ := exists_triple y
  exact (Cert.ResidualReferenceIdeal.Value.G8_apply _ _ _ _ k r n).trans (G8_apply m c k r n).symm

end Cert.ResEqual

end
-- ==== Proof.lean ====
/-
  Everything the certificate claims, of the vocabulary call and of the residual call: the programs run to an end and
  leave their arguments as they are, the idealized kernel is the kernel, and its results are the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.Residual
public import proofs.«01_k».proof.Proof.Gen.Residual.Skeleton
public import proofs.«01_k».proof.Proof.Gen.Residual.Launch
public import proofs.«01_k».proof.Proof.Gen.Residual.Points
public import proofs.«01_k».proof.Proof.Gen.ResidualIdeal
public import proofs.«01_k».proof.Proof.Gen.ResidualIdeal.Skeleton
public import proofs.«01_k».proof.Proof.Gen.ResidualIdeal.Launch
public import proofs.«01_k».proof.Proof.Gen.ResidualIdeal.Points
public import proofs.«01_k».proof.Proof.Gen.ResidualReferenceIdeal
public import proofs.«01_k».proof.Proof.Gen.ResidualReferenceIdeal.Skeleton
public import proofs.«01_k».proof.Proof.Gen.ResidualReferenceIdeal.Launch
public import proofs.«01_k».proof.Proof.Gen.ResidualReferenceIdeal.Points
public import proofs.«01_k».proof.Proof.Gen.ResidualReferenceIdeal.Frame
public import proofs.«01_k».proof.Proof.Equal
public import proofs.«01_k».proof.Proof.ResidualFrame.Frame
public import proofs.«01_k».proof.Proof.ResidualIdealFrame.Value
public import proofs.«01_k».proof.Proof.ResEqual
public import Idealize.ShloMosaic.Adequacy
public import Idealize.ShloMosaic.Init

@[expose] public section

noncomputable section

namespace Cert.Proof

open Idealize.ShloMosaic Idealize.SL.Sem Cert.Kernel

theorem algebraic : Cert.algebraic_KernelIdeal_ReferenceIdeal_on_ids_in_range (hOn_ids_in_range := Cert.Equal.ids_facts) := by
  intro m g m' g' _ hagree
  refine ⟨Cert.KernelIdeal.Value.G4 m, Cert.KernelIdeal.Value.G5 m, Cert.KernelIdeal.Value.G6 m, ?_, ?_⟩
  · refine (θ_run _ _ _).mono (fun r h c => ?_) (Cert.KernelIdeal.Value.run m g)
    obtain ⟨h0, h1, h2, hargs⟩ := h c
    exact ⟨fun i _ => congrFun h0 i, fun i _ => congrFun h1 i, fun i _ => congrFun h2 i, hargs⟩
  · refine (θ_run _ _ _).mono (fun r h c => ?_) (Cert.ReferenceIdeal.Value.run m' g')
    obtain ⟨h0, h1, h2, hargs⟩ := h c
    obtain ⟨a0, a1, a2, a3⟩ := hagree c
    have hZ : Cert.ReferenceIdeal.Value.Z m' c = Cert.Equal.Y m c := by
      unfold Cert.ReferenceIdeal.Value.Z Cert.Equal.Y
      rw [a0, a1, a2]
    rw [hZ] at h0 h1 h2
    rw [a3] at h2
    exact ⟨fun i _ => (congrFun h0 i).trans (Cert.Equal.lse_eq m c i), fun i _ => (congrFun h1 i).trans (Cert.Equal.max_eq m c i),
      fun i hi => (congrFun h2 i).trans (Cert.Equal.cand_on m c i hi), hargs⟩

theorem algebraic_residual : Cert.algebraic_ResidualIdeal_ResidualReferenceIdeal := by
  intro m g m' g' _ hagree
  refine ⟨Cert.ResidualIdeal.Value.G4 m, Cert.ResidualIdeal.Value.G5 m, Cert.ResidualIdeal.Value.G6 m, Cert.ResidualIdeal.Value.G7 m,
    Cert.ResidualIdeal.Value.G8 m, Cert.ResidualIdeal.Value.run m g, ?_⟩
  refine (θ_run _ _ _).mono (fun r h c => ?_) (Cert.ResidualReferenceIdeal.Value.run m' g')
  obtain ⟨h0, h1, h2, h3, h4, hargs⟩ := h c
  obtain ⟨a0, a1, a2, a3⟩ := hagree c
  rw [a0, a1, a2, a3] at h0 h1 h2 h3 h4
  exact ⟨h0.trans (funext fun y => Cert.ResEqual.xc_eq m c y), h1.trans (funext fun y => Cert.ResEqual.xs_eq m c y),
    h2.trans (funext fun y => Cert.ResEqual.hc_eq m c y), h3.trans (funext fun y => Cert.ResEqual.hst_eq m c y),
    h4.trans (funext fun y => Cert.ResEqual.hw_eq m c y), hargs⟩

theorem claim : Cert.Claim := ⟨Cert.Kernel.Gen.facts, Cert.KernelIdeal.Gen.facts, Cert.ReferenceIdeal.Gen.facts,
  Cert.Residual.Gen.facts, Cert.ResidualIdeal.Gen.facts, Cert.ResidualReferenceIdeal.Gen.facts, Cert.Equal.ids_facts,
  fun m g _ => Cert.Kernel.Gen.frame m g, fun m g _ => Cert.KernelIdeal.Gen.frame m g, fun m g _ => Cert.ReferenceIdeal.Gen.frame m g,
  fun m g _ => Cert.Residual.Gen.frame m g, fun m g _ => Cert.ResidualIdeal.Gen.frame m g, fun m g _ => Cert.ResidualReferenceIdeal.Gen.frame m g,
  trivial, algebraic, trivial, algebraic_residual⟩

end Cert.Proof

end
